-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "neg_log2e" .f32 0xBFB8AA3B#32 ((-((Real.log 2)⁻¹) : ℝ) : EReal)
  ∧ IdealRules.named_const.Statement Cert.KernelIdeal.κ "bias0" .f32 0x3EB8AA3B#32 (((4 * (Real.log 2))⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "bias1" .f32 0x3DB8AA3B#32 (((16 * (Real.log 2))⁻¹ : ℝ) : EReal)
  ∧ IdealRules.named_const.Statement Cert.KernelIdeal.κ "bias2" .f32 0x3CB8AA3B#32 (((64 * (Real.log 2))⁻¹ : ℝ) : EReal)
  ∧ IdealRules.named_const.Statement Cert.KernelIdeal.κ "bias3" .f32 0x3BB8AA3B#32 (((256 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v8)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v60) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutProjRefIdeal : Cert.OutProjRefIdeal.Facts) (hInProj : Cert.InProj.Facts) (hInProjIdeal : Cert.InProjIdeal.Facts) (hInProjRefIdeal : Cert.InProjRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProj (hInProj := hInProj)
    ∧ quiescent_InProjIdeal (hInProjIdeal := hInProjIdeal)
    ∧ quiescent_InProjRefIdeal (hInProjRefIdeal := hInProjRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutProj_OutProjIdeal
    ∧ algebraic_OutProjIdeal_OutProjRefIdeal (hOutProjIdeal := hOutProjIdeal) (hOutProjRefIdeal := hOutProjRefIdeal)
    ∧ preserves_InProj_InProjIdeal
    ∧ algebraic_InProjIdeal_InProjRefIdeal (hInProjIdeal := hInProjIdeal) (hInProjRefIdeal := hInProjRefIdeal)
-- ==== Pre_finite.lean ====
abbrev S16x2048x3072 : Shape := ⟨3, ![16, 2048, 3072]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S16x2048x3072 : S_.BroadcastsInDim S16x2048x3072 (![] : Fin 0 → Fin S16x2048x3072.rank)
  reducesTo_S16x2048x3072_S_d0_1_2 : S16x2048x3072.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  let main_v20 : FVec F S64 .f32 := Host.absf main_arg4
  let main_cst_6 : FVec F S_ .f32 := constant S_ .f32 0x7F800000#32
  let main_v21 : FVec F S64 .f32 := broadcastInDim S64 ![] bcast_S_S64 main_cst_6
  let main_v22 : IVec S64 1 := cmpf .olt main_v20 main_v21
  let main_c_7 : IVec S_ 1 := constantI S_ 1 1#1
  let main_v23 : IVec S_ 1 := (fun x v => Host.reduce IntOp.andi x v reducesTo_S64_S_d0 h_S_) main_v22 main_c_7
  let main_v24 : IVec S_ 1 := andi main_v19 main_v23
  main_v24

def fn {F : FTy → Type} [FloatOps F] (main_arg0 : FVec F S16x2048x3072 .bf16) (main_arg1 : FVec F S64 .f32) (main_arg2 : FVec F S64 .f32) (main_arg3 : FVec F S64 .f32) (main_arg4 : FVec F S64 .f32) (main_arg5 : FVec F S128 .f32) : IVec S_ 1 :=
  let main_v0 : FVec F S16x2048x3072 .f32 := (extf .f32 · bitsLt_bf16_f32) main_arg0
  let main_v1 : FVec F S16x2048x3072 .f32 := Host.absf main_v0
  let main_cst : FVec F S_ .f32 := constant S_ .f32 0x7F800000#32
  let main_v2 : FVec F S16x2048x3072 .f32 := broadcastInDim S16x2048x3072 ![] bcast_S_S16x2048x3072 main_cst
  let main_v3 : IVec S16x2048x3072 1 := cmpf .olt main_v1 main_v2
  let main_c : IVec S_ 1 := constantI S_ 1 1#1
  let main_v4 : IVec S_ 1 := (fun x v => Host.reduce IntOp.andi x v reducesTo_S16x2048x3072_S_d0_1_2 h_S_) main_v3 main_c
  let main_v5 : FVec F S64 .f32 := Host.absf main_arg1
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  let main_v10 : FVec F S64 .f32 := Host.absf main_arg2
  let main_cst_2 : FVec F S_ .f32 := constant S_ .f32 0x7F800000#32
  let main_v11 : FVec F S64 .f32 := broadcastInDim S64 ![] bcast_S_S64 main_cst_2
  let main_v12 : IVec S64 1 := cmpf .olt main_v10 main_v11
  let main_c_3 : IVec S_ 1 := constantI S_ 1 1#1
  let main_v13 : IVec S_ 1 := (fun x v => Host.reduce IntOp.andi x v reducesTo_S64_S_d0 h_S_) main_v12 main_c_3
  let main_v14 : IVec S_ 1 := andi main_v9 main_v13
  let main_v15 : FVec F S64 .f32 := Host.absf main_arg3
  let main_cst_4 : FVec F S_ .f32 := constant S_ .f32 0x7F800000#32
  let main_v16 : FVec F S64 .f32 := broadcastInDim S64 ![] bcast_S_S64 main_cst_4
  fn_part1 (F := F) main_arg4 main_v14 main_v15 main_v16
-- ==== Kernel.lean ====
abbrev S16x2048x3072 : Shape := ⟨3, ![16, 2048, 3072]⟩
abbrev S64 : Shape := ⟨1, ![64]⟩
abbrev S128 : Shape := ⟨1, ![128]⟩
abbrev S1x64 : Shape := ⟨2, ![1, 64]⟩
abbrev S1x128 : Shape := ⟨2, ![1, 128]⟩
abbrev S16x2048x1024 : Shape := ⟨3, ![16, 2048, 1024]⟩
abbrev S1x256x512 : Shape := ⟨3, ![1, 256, 512]⟩
abbrev S1x2048x512 : Shape := ⟨3, ![1, 2048, 512]⟩
abbrev S1x256x1024 : Shape := ⟨3, ![1, 256, 1024]⟩
abbrev S4x512x128 : Shape := ⟨3, ![4, 512, 128]⟩
abbrev S256x256 : Shape := ⟨2, ![256, 256]⟩
abbrev S256x512 : Shape := ⟨2, ![256, 512]⟩
abbrev S8x256x128 : Shape := ⟨3, ![8, 256, 128]⟩
abbrev S256x128 : Shape := ⟨2, ![256, 128]⟩
abbrev S1x256x128 : Shape := ⟨3, ![1, 256, 128]⟩
abbrev S1x256 : Shape := ⟨2, ![1, 256]⟩
abbrev S1x512x128 : Shape := ⟨3, ![1, 512, 128]⟩
abbrev S512x128 : Shape := ⟨2, ![512, 128]⟩
abbrev S512x256 : Shape := ⟨2, ![512, 256]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 12
  | .vmem => 27
  | .smem => 0
  | _ => 0

abbrev bufTy : (tb : Table) → Fin (tcTables nBuf tb) → BufTy
  | .hbm, ⟨0, _⟩ => ⟨S16x2048x3072, .bf16⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S16x2048x1024, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S1x2048x512, .bf16⟩
  | .local _ .vmem, ⟨17, _⟩ => ⟨S1x256x1024, .bf16⟩
  | .local _ .vmem, ⟨18, _⟩ => ⟨S1x256x1024, .bf16⟩
  | .local _ .vmem, ⟨19, _⟩ => ⟨S4x512x128, .bf16⟩
  | .local _ .vmem, ⟨20, _⟩ => ⟨S4x512x128, .bf16⟩
  | .local _ .vmem, ⟨21, _⟩ => ⟨S256x256, .bf16⟩
  | .local _ .vmem, ⟨22, _⟩ => ⟨S256x512, .f32⟩
  | .local _ .vmem, ⟨23, _⟩ => ⟨S8x256x128, .f32⟩
  | .local _ .vmem, ⟨24, _⟩ => ⟨S8x256x128, .f32⟩
  | .local _ .vmem, ⟨25, _⟩ => ⟨S8x256x128, .f32⟩
  | .local _ .vmem, ⟨26, _⟩ => ⟨S8x256x128, .f32⟩
  | _, _ => ⟨S16x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c256_i32 : BitVec 32 := 256#32
  let v148 : BitVec 32 := Scalar.muli arg1 c256_i32
  v148
def k0_off1 (i : grid0.Coords) : Fin 3 → Nat :=
  let c0_74 : Index := 0#32
  let arg1 : BitVec 32 := BitVec.ofNat 32 (i 1).val
  let c256_i32 : BitVec 32 := 256#32
  let v148 : BitVec 32 := Scalar.muli arg1 c256_i32
  let v149 : BitVec 32 := v148
  let v157 : Index := Scalar.indexCast v149
  let c0_75 : Index := 0#32
  ![0, v157.toNat, 0]
def k0_off2 (i : grid0.Coords) : Fin 3 → Nat :=
  let c0_90 : Index := 0#32
  let arg1 : BitVec 32 := BitVec.ofNat 32 (i 1).val
  let c256_i32 : BitVec 32 := 256#32
  let v148 : BitVec 32 := Scalar.muli arg1 c256_i32
  let v149 : BitVec 32 := v148
  let v184 : Index := Scalar.indexCast v149
  let c128 : Index := 128#32
  ![0, v184.toNat, 128]
def k0_off3 (i : grid0.Coords) : Fin 3 → Nat :=
  let c0_156 : Index := 0#32
  let arg1 : BitVec 32 := BitVec.ofNat 32 (i 1).val
  let c256_i32 : BitVec 32 := 256#32
  let v148 : BitVec 32 := Scalar.muli arg1 c256_i32
  let v149 : BitVec 32 := v148
  let v320 : Index := Scalar.indexCast v149
  let c256_157 : Index := 256#32
  ![0, v320.toNat, 256]
def k0_off4 (i : grid0.Coords) : Fin 3 → Nat :=
  let c0_253 : Index := 0#32
  let arg1 : BitVec 32 := BitVec.ofNat 32 (i 1).val
  let c256_i32 : BitVec 32 := 256#32
  let v148 : BitVec 32 := Scalar.muli arg1 c256_i32
  let v149 : BitVec 32 := v148
  let v508 : Index := Scalar.indexCast v149
  let c384 : Index := 384#32
  ![0, v508.toNat, 384]
@[reducible] def k0_t1_loop (i : grid0.Coords) : Scf.Loop 32 :=
  let c1_i32_456 : BitVec 32 := 1#32
  let arg1 : BitVec 32 := BitVec.ofNat 32 (i 1).val
  let c1_i32 : BitVec 32 := 1#32
  let v909 : BitVec 32 := Scalar.addi arg1 c1_i32
  let v910 : BitVec 32 := Scalar.subi v909 c1_i32_456
  let c1_i32_457 : BitVec 32 := 1#32
  let v912 : BitVec 32 := Scalar.divsi v910 c1_i32_457
  let v913 : BitVec 32 := Scalar.muli v912 c1_i32_457
  let v914 : BitVec 32 := Scalar.addi c1_i32_456 v913
  let c1_i32_458 : BitVec 32 := 1#32
  ⟨c1_i32_456, v914, c1_i32_458⟩
def k0_mult2 (i : grid0.Coords) (k0_t1 : Fin (k0_t1_loop i).trips) : BitVec 32 :=
  let arg1 : BitVec 32 := BitVec.ofNat 32 (i 1).val
  let c1_i32_456 : BitVec 32 := 1#32
  let c1_i32_458 : BitVec 32 := 1#32
  let arg22 : BitVec 32 := Scf.iv c1_i32_456 c1_i32_458 k0_t1
  let v1097 : BitVec 32 := Scalar.subi arg1 arg22
  let c256_i32_564 : BitVec 32 := 256#32
  let v1098 : BitVec 32 := Scalar.muli v1097 c256_i32_564
  v1098
def k0_off5 (i : grid0.Coords) (k0_t1 : Fin (k0_t1_loop i).trips) : Fin 3 → Nat :=
  let c0_566 : Index := 0#32
  let arg1 : BitVec 32 := BitVec.ofNat 32 (i 1).val
  let c1_i32_456 : BitVec 32 := 1#32
  let c1_i32_458 : BitVec 32 := 1#32
  let arg22 : BitVec 32 := Scf.iv c1_i32_456 c1_i32_458 k0_t1
  let v1097 : BitVec 32 := Scalar.subi arg1 arg22
  let c256_i32_564 : BitVec 32 := 256#32
  let v1098 : BitVec 32 := Scalar.muli v1097 c256_i32_564
  let v1099 : BitVec 32 := v1098
  let v1107 : Index := Scalar.indexCast v1099
  let c0_567 : Index := 0#32
  ![0, v1107.toNat, 0]
def k0_off6 (i : grid0.Coords) (k0_t1 : Fin (k0_t1_loop i).trips) : Fin 3 → Nat :=
  let c0_581 : Index := 0#32
  let arg1 : BitVec 32 := BitVec.ofNat 32 (i 1).val
  let c1_i32_456 : BitVec 32 := 1#32
  let c1_i32_458 : BitVec 32 := 1#32
  let arg22 : BitVec 32 := Scf.iv c1_i32_456 c1_i32_458 k0_t1
  let v1097 : BitVec 32 := Scalar.subi arg1 arg22
  let c256_i32_564 : BitVec 32 := 256#32
  let v1098 : BitVec 32 := Scalar.muli v1097 c256_i32_564
  let v1099 : BitVec 32 := v1098
  let v1132 : Index := Scalar.indexCast v1099
  let c128_582 : Index := 128#32
  ![0, v1132.toNat, 128]
def k0_off7 (i : grid0.Coords) (k0_t1 : Fin (k0_t1_loop i).trips) : Fin 3 → Nat :=
  let c0_643 : Index := 0#32
  let arg1 : BitVec 32 := BitVec.ofNat 32 (i 1).val
  let c1_i32_456 : BitVec 32 := 1#32
  let c1_i32_458 : BitVec 32 := 1#32
  let arg22 : BitVec 32 := Scf.iv c1_i32_456 c1_i32_458 k0_t1
  let v1097 : BitVec 32 := Scalar.subi arg1 arg22
  let c256_i32_564 : BitVec 32 := 256#32
  let v1098 : BitVec 32 := Scalar.muli v1097 c256_i32_564
  let v1099 : BitVec 32 := v1098
  let v1258 : Index := Scalar.indexCast v1099
  let c256_644 : Index := 256#32
  ![0, v1258.toNat, 256]
def k0_off8 (i : grid0.Coords) (k0_t1 : Fin (k0_t1_loop i).trips) : Fin 3 → Nat :=
  let c0_734 : Index := 0#32
  let arg1 : BitVec 32 := BitVec.ofNat 32 (i 1).val
  let c1_i32_456 : BitVec 32 := 1#32
  let c1_i32_458 : BitVec 32 := 1#32
  let arg22 : BitVec 32 := Scf.iv c1_i32_456 c1_i32_458 k0_t1
  let v1097 : BitVec 32 := Scalar.subi arg1 arg22
  let c256_i32_564 : BitVec 32 := 256#32
  let v1098 : BitVec 32 := Scalar.muli v1097 c256_i32_564
  let v1099 : BitVec 32 := v1098
  let v1434 : Index := Scalar.indexCast v1099
  let c384_735 : Index := 384#32
  ![0, v1434.toNat, 384]
@[reducible] def k0_t2_loop (i : grid0.Coords) : Scf.Loop 32 :=
  let c1_i32_456 : BitVec 32 := 1#32
  let arg1 : BitVec 32 := BitVec.ofNat 32 (i 1).val
  let c1_i32 : BitVec 32 := 1#32
  let v909 : BitVec 32 := Scalar.addi arg1 c1_i32
  let v910 : BitVec 32 := Scalar.subi v909 c1_i32_456
  let c1_i32_457 : BitVec 32 := 1#32
  let v912 : BitVec 32 := Scalar.divsi v910 c1_i32_457
  let v913 : BitVec 32 := Scalar.muli v912 c1_i32_457
  let v914 : BitVec 32 := Scalar.addi c1_i32_456 v913
  let v911 : BitVec 32 := Scalar.addi c1_i32_456 v910
  let c1_i32_459 : BitVec 32 := 1#32
  ⟨v914, v911, c1_i32_459⟩
def k0_mult3 (i : grid0.Coords) (k0_t2 : Fin (k0_t2_loop i).trips) : BitVec 32 :=
  let arg1 : BitVec 32 := BitVec.ofNat 32 (i 1).val
  let c1_i32_456 : BitVec 32 := 1#32
  let c1_i32 : BitVec 32 := 1#32
  let v909 : BitVec 32 := Scalar.addi arg1 c1_i32
  let v910 : BitVec 32 := Scalar.subi v909 c1_i32_456
  let c1_i32_457 : BitVec 32 := 1#32
  let v912 : BitVec 32 := Scalar.divsi v910 c1_i32_457
  let v913 : BitVec 32 := Scalar.muli v912 c1_i32_457
  let v914 : BitVec 32 := Scalar.addi c1_i32_456 v913
  let c1_i32_459 : BitVec 32 := 1#32
  let arg22 : BitVec 32 := Scf.iv v914 c1_i32_459 k0_t2
  let v1097 : BitVec 32 := Scalar.subi arg1 arg22
  let c256_i32_564 : BitVec 32 := 256#32
  let v1098 : BitVec 32 := Scalar.muli v1097 c256_i32_564
  v1098
def k0_off9 (i : grid0.Coords) (k0_t2 : Fin (k0_t2_loop i).trips) : Fin 3 → Nat :=
  let c0_566 : Index := 0#32
  let arg1 : BitVec 32 := BitVec.ofNat 32 (i 1).val
  let c1_i32_456 : BitVec 32 := 1#32
  let c1_i32 : BitVec 32 := 1#32
  let v909 : BitVec 32 := Scalar.addi arg1 c1_i32
  let v910 : BitVec 32 := Scalar.subi v909 c1_i32_456
  let c1_i32_457 : BitVec 32 := 1#32
  let v912 : BitVec 32 := Scalar.divsi v910 c1_i32_457
  let v913 : BitVec 32 := Scalar.muli v912 c1_i32_457
  let v914 : BitVec 32 := Scalar.addi c1_i32_456 v913
  let c1_i32_459 : BitVec 32 := 1#32
  let arg22 : BitVec 32 := Scf.iv v914 c1_i32_459 k0_t2
  let v1097 : BitVec 32 := Scalar.subi arg1 arg22
  let c256_i32_564 : BitVec 32 := 256#32
  let v1098 : BitVec 32 := Scalar.muli v1097 c256_i32_564
  let v1099 : BitVec 32 := v1098
  let v1107 : Index := Scalar.indexCast v1099
  let c0_567 : Index := 0#32
  ![0, v1107.toNat, 0]
def k0_off10 (i : grid0.Coords) (k0_t2 : Fin (k0_t2_loop i).trips) : Fin 3 → Nat :=
  let c0_581 : Index := 0#32
  let arg1 : BitVec 32 := BitVec.ofNat 32 (i 1).val
  let c1_i32_456 : BitVec 32 := 1#32
  let c1_i32 : BitVec 32 := 1#32
  let v909 : BitVec 32 := Scalar.addi arg1 c1_i32
  let v910 : BitVec 32 := Scalar.subi v909 c1_i32_456
  let c1_i32_457 : BitVec 32 := 1#32
  let v912 : BitVec 32 := Scalar.divsi v910 c1_i32_457
  let v913 : BitVec 32 := Scalar.muli v912 c1_i32_457
  let v914 : BitVec 32 := Scalar.addi c1_i32_456 v913
  let c1_i32_459 : BitVec 32 := 1#32
  let arg22 : BitVec 32 := Scf.iv v914 c1_i32_459 k0_t2
  let v1097 : BitVec 32 := Scalar.subi arg1 arg22
  let c256_i32_564 : BitVec 32 := 256#32
  let v1098 : BitVec 32 := Scalar.muli v1097 c256_i32_564
  let v1099 : BitVec 32 := v1098
  let v1132 : Index := Scalar.indexCast v1099
  let c128_582 : Index := 128#32
  ![0, v1132.toNat, 128]
def k0_off11 (i : grid0.Coords) (k0_t2 : Fin (k0_t2_loop i).trips) : Fin 3 → Nat :=
  let c0_643 : Index := 0#32
  let arg1 : BitVec 32 := BitVec.ofNat 32 (i 1).val
  let c1_i32_456 : BitVec 32 := 1#32
  let c1_i32 : BitVec 32 := 1#32
  let v909 : BitVec 32 := Scalar.addi arg1 c1_i32
  let v910 : BitVec 32 := Scalar.subi v909 c1_i32_456
  let c1_i32_457 : BitVec 32 := 1#32
  let v912 : BitVec 32 := Scalar.divsi v910 c1_i32_457
  let v913 : BitVec 32 := Scalar.muli v912 c1_i32_457
  let v914 : BitVec 32 := Scalar.addi c1_i32_456 v913
  let c1_i32_459 : BitVec 32 := 1#32
  let arg22 : BitVec 32 := Scf.iv v914 c1_i32_459 k0_t2
  let v1097 : BitVec 32 := Scalar.subi arg1 arg22
  let c256_i32_564 : BitVec 32 := 256#32
  let v1098 : BitVec 32 := Scalar.muli v1097 c256_i32_564
  let v1099 : BitVec 32 := v1098
  let v1258 : Index := Scalar.indexCast v1099
  let c256_644 : Index := 256#32
  ![0, v1258.toNat, 256]
def k0_off12 (i : grid0.Coords) (k0_t2 : Fin (k0_t2_loop i).trips) : Fin 3 → Nat :=
  let c0_734 : Index := 0#32
  let arg1 : BitVec 32 := BitVec.ofNat 32 (i 1).val
  let c1_i32_456 : BitVec 32 := 1#32
  let c1_i32 : BitVec 32 := 1#32
  let v909 : BitVec 32 := Scalar.addi arg1 c1_i32
  let v910 : BitVec 32 := Scalar.subi v909 c1_i32_456
  let c1_i32_457 : BitVec 32 := 1#32
  let v912 : BitVec 32 := Scalar.divsi v910 c1_i32_457
  let v913 : BitVec 32 := Scalar.muli v912 c1_i32_457
  let v914 : BitVec 32 := Scalar.addi c1_i32_456 v913
  let c1_i32_459 : BitVec 32 := 1#32
  let arg22 : BitVec 32 := Scf.iv v914 c1_i32_459 k0_t2
  let v1097 : BitVec 32 := Scalar.subi arg1 arg22
  let c256_i32_564 : BitVec 32 := 256#32
  let v1098 : BitVec 32 := Scalar.muli v1097 c256_i32_564
  let v1099 : BitVec 32 := v1098
  let v1434 : Index := Scalar.indexCast v1099
  let c384_735 : Index := 384#32
  ![0, v1434.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_8 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "bias0" => some (((4 * (Real.log 2))⁻¹ : ℝ) : EReal)
  | "bias1" => some (((16 * (Real.log 2))⁻¹ : ℝ) : EReal)
  | "bias2" => some (((64 * (Real.log 2))⁻¹ : ℝ) : EReal)
  | "bias3" => some (((256 * (Real.log 2))⁻¹ : ℝ) : EReal)
  | "log2e" => some (((Real.log 2)⁻¹ : ℝ) : EReal)
  | "mask" => some ⊥
  | "neg_log2e" => some ((-((Real.log 2)⁻¹) : ℝ) : EReal)
  | _ => none
-- ==== ReferenceIdeal.lean ====
abbrev S16x2048x3072 : Shape := ⟨3, ![16, 2048, 3072]⟩
abbrev S64 : Shape := ⟨1, ![64]⟩
abbrev S128 : Shape := ⟨1, ![128]⟩
abbrev S16x2048x512 : Shape := ⟨3, ![16, 2048, 512]⟩
abbrev S16x2048x8x64 : Shape := ⟨4, ![16, 2048, 8, 64]⟩
abbrev S16x2048x4x2x64 : Shape := ⟨5, ![16, 2048, 4, 2, 64]⟩
abbrev S16x2048x4x128 : Shape := ⟨4, ![16, 2048, 4, 128]⟩
abbrev S2048 : Shape := ⟨1, ![2048]⟩
abbrev S16x8x2048x2048 : Shape := ⟨4, ![16, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x8x64x2048 : Shape := ⟨4, ![16, 8, 64, 2048]⟩
abbrev S4 : Shape := ⟨1, ![4]⟩
abbrev S16x2x4x2048x2048 : Shape := ⟨5, ![16, 2, 4, 2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S1x1x4x2048x2048 : Shape := ⟨5, ![1, 1, 4, 2048, 2048]⟩
abbrev S16x2x4x2048 : Shape := ⟨4, ![16, 2, 4, 2048]⟩
abbrev S16x2x4x2048x1 : Shape := ⟨5, ![16, 2, 4, 2048, 1]⟩
abbrev S16x1x4x2048x2048 : Shape := ⟨5, ![16, 1, 4, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x2048x1024 : Shape := ⟨3, ![16, 2048, 1024]⟩

abbrev nBuf : Space → Nat
  | .hbm => 181
  | .vmem => 0
  | .smem => 0
  | _ => 0

abbrev hbmTy0_0 (i : Nat) : BufTy := match i % 128 with
  | 0 => ⟨S16x2048x3072, .bf16⟩
  | 1 => ⟨S64, .f32⟩
  | 2 => ⟨S64, .f32⟩
  | 3 => ⟨S64, .f32⟩
  | 4 => ⟨S64, .f32⟩
  | 5 => ⟨S128, .f32⟩
  | 6 => ⟨S16x2048x3072, .f32⟩
  | 7 => ⟨S16x2048x512, .f32⟩
  | 8 => ⟨S16x2048x8x64, .f32⟩
  | 9 => ⟨S16x2048x512, .f32⟩
  | 10 => ⟨S16x2048x8x64, .f32⟩
  | 11 => ⟨S16x2048x512, .f32⟩
  | 12 => ⟨S16x2048x8x64, .f32⟩
  | 13 => ⟨S16x2048x512, .f32⟩
  | 14 => ⟨S16x2048x4x2x64, .f32⟩
  | 15 => ⟨S16x2048x512, .f32⟩
  | 16 => ⟨S16x2048x4x2x64, .f32⟩
  | 17 => ⟨S16x2048x512, .f32⟩
  | 18 => ⟨S16x2048x4x128, .f32⟩
  | 19 => ⟨S2048, .i32⟩
  | 20 => ⟨S2048, .i32⟩
  | 21 => ⟨S16x8x2048x2048, .f32⟩
  | 22 => ⟨S_, .f32⟩
  | 23 => ⟨S16x8x2048x2048, .f32⟩
  | 24 => ⟨S16x8x2048x2048, .f32⟩
  | 25 => ⟨S1x2048, .i32⟩
  | 26 => ⟨S2048x1, .i32⟩
  | 27 => ⟨S2048x2048, .i32⟩
  | 28 => ⟨S2048x2048, .i32⟩
  | 29 => ⟨S2048x2048, .i1⟩
  | 30 => ⟨S16x8x2048x2048, .f32⟩
  | 31 => ⟨S16x8x2048x2048, .f32⟩
  | 32 => ⟨S_, .f32⟩
  | 33 => ⟨S16x8x2048x2048, .f32⟩
  | 34 => ⟨S16x8x2048x2048, .f32⟩
  | 35 => ⟨S16x8x2048x2048, .f32⟩
  | 36 => ⟨S16x8x2048x2048, .f32⟩
  | 37 => ⟨S16x8x2048x2048, .i1⟩
  | 38 => ⟨S16x8x2048x2048, .f32⟩
  | 39 => ⟨S16x8x2048x2048, .f32⟩
  | 40 => ⟨S16x8x2048x2048, .f32⟩
  | 41 => ⟨S16x8x2048x2048, .f32⟩
  | 42 => ⟨S16x8x2048x2048, .f32⟩
  | 43 => ⟨S16x8x2048x2048, .f32⟩
  | 44 => ⟨S16x8x2048x2048, .f32⟩
  | 45 => ⟨S16x8x2048x2048, .f32⟩
  | 46 => ⟨S16x8x2048x2048, .f32⟩
  | 47 => ⟨S_, .f32⟩
  | 48 => ⟨S_, .f32⟩
  | 49 => ⟨S16x8x2048x2048, .i1⟩
  | 50 => ⟨S16x8x2048x2048, .f32⟩
  | 51 => ⟨S16x8x2048x2048, .f32⟩
  | 52 => ⟨S_, .f32⟩
  | 53 => ⟨S_, .f32⟩
  | 54 => ⟨S16x8x2048x2048, .f32⟩
  | 55 => ⟨S16x8x2048x2048, .f32⟩
  | 56 => ⟨S16x8x2048x2048, .f32⟩
  | 57 => ⟨S_, .f32⟩
  | 58 => ⟨S16x8x2048x2048, .f32⟩
  | 59 => ⟨S16x8x2048x2048, .f32⟩
  | 60 => ⟨S16x8x2048x2048, .f32⟩
  | 61 => ⟨S16x8x2048x2048, .f32⟩
  | 62 => ⟨S16x8x2048x2048, .i1⟩
  | 63 => ⟨S16x8x2048x2048, .f32⟩
  | 64 => ⟨S16x8x2048x2048, .f32⟩
  | 65 => ⟨S16x8x2048x2048, .f32⟩
  | 66 => ⟨S16x8x2048x2048, .f32⟩
  | 67 => ⟨S16x8x2048x2048, .f32⟩
  | 68 => ⟨S16x8x2048x2048, .f32⟩
  | 69 => ⟨S16x8x2048x2048, .f32⟩
  | 70 => ⟨S16x8x2048x2048, .f32⟩
  | 71 => ⟨S16x8x2048x2048, .f32⟩
  | 72 => ⟨S16x8x2048x2048, .f32⟩
  | 73 => ⟨S16x8x2048x2048, .f32⟩
  | 74 => ⟨S_, .f32⟩
  | 75 => ⟨S_, .f32⟩
  | 76 => ⟨S16x8x2048x2048, .i1⟩
  | 77 => ⟨S16x8x2048x2048, .f32⟩
  | 78 => ⟨S16x8x2048x2048, .f32⟩
  | 79 => ⟨S16x8x64x2048, .f32⟩
  | 80 => ⟨S16x2048x8x64, .f32⟩
  | 81 => ⟨S16x2048x512, .f32⟩
  | 82 => ⟨S4, .i32⟩
  | 83 => ⟨S_, .i32⟩
  | 84 => ⟨S4, .i32⟩
  | 85 => ⟨S4, .i32⟩
  | 86 => ⟨S_, .i32⟩
  | 87 => ⟨S4, .i32⟩
  | 88 => ⟨S4, .i32⟩
  | 89 => ⟨S_, .i32⟩
  | 90 => ⟨S4, .i32⟩
  | 91 => ⟨S4, .i32⟩
  | 92 => ⟨S4, .f32⟩
  | 93 => ⟨S_, .f32⟩
  | 94 => ⟨S4, .f32⟩
  | 95 => ⟨S4, .f32⟩
  | 96 => ⟨S64, .f32⟩
  | 97 => ⟨S_, .f32⟩
  | 98 => ⟨S_, .f32⟩
  | 99 => ⟨S_, .f32⟩
  | 100 => ⟨S64, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S16x2x4x2048x2048, .f32⟩
  | 108 => ⟨S_, .f32⟩
  | 109 => ⟨S16x2x4x2048x2048, .f32⟩
  | 110 => ⟨S16x2x4x2048x2048, .f32⟩
  | 111 => ⟨S2048x1, .i32⟩
  | 112 => ⟨S1x2048, .i32⟩
  | 113 => ⟨S2048x2048, .i32⟩
  | 114 => ⟨S2048x2048, .i32⟩
  | 115 => ⟨S2048x2048, .i32⟩
  | 116 => ⟨S2048x2048, .f32⟩
  | 117 => ⟨S4x1x1, .f32⟩
  | 118 => ⟨S4x1x1, .f32⟩
  | 119 => ⟨S1x2048x2048, .f32⟩
  | 120 => ⟨S4x2048x2048, .f32⟩
  | 121 => ⟨S4x2048x2048, .f32⟩
  | 122 => ⟨S4x2048x2048, .f32⟩
  | 123 => ⟨S1x2048, .i32⟩
  | 124 => ⟨S2048x1, .i32⟩
  | 125 => ⟨S2048x2048, .i32⟩
  | 126 => ⟨S2048x2048, .i32⟩
  | 127 => ⟨S2048x2048, .i1⟩
  | _ => ⟨S16x2048x3072, .bf16⟩

abbrev hbmTy0_1 (i : Nat) : BufTy := match i % 128 with
  | 0 => ⟨S1x1x4x2048x2048, .f32⟩
  | 1 => ⟨S16x2x4x2048x2048, .f32⟩
  | 2 => ⟨S16x2x4x2048x2048, .f32⟩
  | 3 => ⟨S_, .f32⟩
  | 4 => ⟨S_, .f32⟩
  | 5 => ⟨S16x2x4x2048x2048, .i1⟩
  | 6 => ⟨S16x2x4x2048x2048, .f32⟩
  | 7 => ⟨S16x2x4x2048x2048, .f32⟩
  | 8 => ⟨S_, .f32⟩
  | 9 => ⟨S16x2x4x2048, .f32⟩
  | 10 => ⟨S_, .f32⟩
  | 11 => ⟨S16x2x4x2048, .f32⟩
  | 12 => ⟨S16x2x4x2048, .f32⟩
  | 13 => ⟨S16x2x4x2048x1, .f32⟩
  | 14 => ⟨S16x2x4x2048x2048, .f32⟩
  | 15 => ⟨S16x2x4x2048x2048, .f32⟩
  | 16 => ⟨S16x2x4x2048x2048, .f32⟩
  | 17 => ⟨S_, .f32⟩
  | 18 => ⟨S16x2x4x2048, .f32⟩
  | 19 => ⟨S16x2x4x2048x1, .f32⟩
  | 20 => ⟨S16x2x4x2048x2048, .f32⟩
  | 21 => ⟨S16x2x4x2048x2048, .f32⟩
  | 22 => ⟨S16x1x4x2048x2048, .f32⟩
  | 23 => ⟨S16x4x2048x2048, .f32⟩
  | 24 => ⟨S16x1x4x2048x2048, .f32⟩
  | 25 => ⟨S16x4x2048x2048, .f32⟩
  | 26 => ⟨S16x4x2048x2048, .f32⟩
  | 27 => ⟨S16x4x2048x2048, .f32⟩
  | 28 => ⟨S16x4x2048x2048, .f32⟩
  | 29 => ⟨S16x4x128x2048, .f32⟩
  | 30 => ⟨S16x2048x4x128, .f32⟩
  | 31 => ⟨S16x2048x4x128, .f32⟩
  | 32 => ⟨S_, .f32⟩
  | 33 => ⟨S16x2048x4, .f32⟩
  | 34 => ⟨S16x2048x4x1, .f32⟩
  | 35 => ⟨S_, .f32⟩
  | 36 => ⟨S16x2048x4x1, .f32⟩
  | 37 => ⟨S16x2048x4x1, .f32⟩
  | 38 => ⟨S_, .f32⟩
  | 39 => ⟨S16x2048x4x1, .f32⟩
  | 40 => ⟨S16x2048x4x1, .f32⟩
  | 41 => ⟨S16x2048x4x1, .f32⟩
  | 42 => ⟨S16x2048x4x128, .f32⟩
  | 43 => ⟨S16x2048x4x128, .f32⟩
  | 44 => ⟨S1x1x1x128, .f32⟩
  | 45 => ⟨S16x2048x4x128, .f32⟩
  | 46 => ⟨S16x2048x4x128, .f32⟩
  | 47 => ⟨S_, .f32⟩
  | 48 => ⟨S16x2048x4x128, .f32⟩
  | 49 => ⟨S16x2048x4x128, .f32⟩
  | 50 => ⟨S16x2048x512, .f32⟩
  | 51 => ⟨S16x2048x1024, .f32⟩
  | 52 => ⟨S16x2048x1024, .bf16⟩
  | _ => ⟨S16x2048x3072, .bf16⟩

abbrev hbmTy (i : Nat) : BufTy := match i / 128 with
  | 0 => hbmTy0_0 i
  | 1 => hbmTy0_1 i
  | _ => ⟨S16x2048x3072, .bf16⟩

abbrev bufTy : (tb : Table) → Fin (tcTables nBuf tb) → BufTy
  | .hbm, ⟨i, _⟩ => hbmTy i
  | _, _ => ⟨S16x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v24 : Ref sig .tc := ⟨.hbm, 46, rfl⟩
abbrev main_cst_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v25 : Ref sig .tc := ⟨.hbm, 51, rfl⟩
abbrev main_call2_cst : Ref sig .tc := ⟨.hbm, 52, rfl⟩
abbrev main_call2_v0 : Ref sig .tc := ⟨.hbm, 53, rfl⟩
abbrev main_v26 : Ref sig .tc := ⟨.hbm, 54, rfl⟩
abbrev main_v27 : Ref sig .tc := ⟨.hbm, 55, rfl⟩
abbrev main_call3_v0 : Ref sig .tc := ⟨.hbm, 56, rfl⟩
abbrev main_call3_call0_cst : Ref sig .tc := ⟨.hbm, 57, rfl⟩
abbrev main_call3_call0_v0 : Ref sig .tc := ⟨.hbm, 58, rfl⟩
abbrev main_call3_call0_v1 : Ref sig .tc := ⟨.hbm, 59, rfl⟩
abbrev main_call3_call0_v2 : Ref sig .tc := ⟨.hbm, 60, rfl⟩
abbrev main_call3_call0_v3 : Ref sig .tc := ⟨.hbm, 61, rfl⟩
abbrev main_call3_call0_v4 : Ref sig .tc := ⟨.hbm, 62, rfl⟩
abbrev main_call3_call0_v5 : Ref sig .tc := ⟨.hbm, 63, rfl⟩
abbrev main_call3_call0_v6 : Ref sig .tc := ⟨.hbm, 64, rfl⟩
abbrev main_call3_call0_v7 : Ref sig .tc := ⟨.hbm, 65, rfl⟩
abbrev main_call3_call0_v8 : Ref sig .tc := ⟨.hbm, 66, rfl⟩
abbrev main_call3_call0_v9 : Ref sig .tc := ⟨.hbm, 67, rfl⟩
abbrev main_call3_call0_v10 : Ref sig .tc := ⟨.hbm, 68, rfl⟩
abbrev main_call3_call0_v11 : Ref sig .tc := ⟨.hbm, 69, rfl⟩
abbrev main_call3_v1 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_1 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_c : Ref sig .tc := ⟨.hbm, 83, rfl⟩
abbrev main_v36 : Ref sig .tc := ⟨.hbm, 84, rfl⟩
abbrev main_v37 : Ref sig .tc := ⟨.hbm, 85, rfl⟩
abbrev main_c_2 : Ref sig .tc := ⟨.hbm, 86, rfl⟩
abbrev main_v38 : Ref sig .tc := ⟨.hbm, 87, rfl⟩
abbrev main_v39 : Ref sig .tc := ⟨.hbm, 88, rfl⟩
abbrev main_c_3 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_cst_4 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_5 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_cst_6 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_cst_7 : Ref sig .tc := ⟨.hbm, 105, rfl⟩
abbrev main_v52 : Ref sig .tc := ⟨.hbm, 106, rfl⟩
abbrev main_v53 : Ref sig .tc := ⟨.hbm, 107, rfl⟩
abbrev main_cst_8 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_9 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_v76 : Ref sig .tc := ⟨.hbm, 135, rfl⟩
abbrev main_cst_10 : Ref sig .tc := ⟨.hbm, 136, rfl⟩
abbrev main_v77 : Ref sig .tc := ⟨.hbm, 137, rfl⟩
abbrev main_cst_11 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_12 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_cst_13 : Ref sig .tc := ⟨.hbm, 160, rfl⟩
abbrev main_v98 : Ref sig .tc := ⟨.hbm, 161, rfl⟩
abbrev main_v99 : Ref sig .tc := ⟨.hbm, 162, rfl⟩
abbrev main_cst_14 : Ref sig .tc := ⟨.hbm, 163, rfl⟩
abbrev main_v100 : Ref sig .tc := ⟨.hbm, 164, rfl⟩
abbrev main_v101 : Ref sig .tc := ⟨.hbm, 165, rfl⟩
abbrev main_cst_15 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_16 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩

abbrev nD : Nat := 1
abbrev τ : Topo := Topo.v7x

variable {F : FTy → Type} [FloatOps F]
-- ==== OutProj.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S256x1024 : Shape := ⟨2, ![256, 1024]⟩
abbrev S512x256 : Shape := ⟨2, ![512, 256]⟩

abbrev nBuf : Space → Nat
  | .hbm => 19
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x2816, .f32⟩
  | .hbm, ⟨46, _⟩ => ⟨S32768x2816, .f32⟩
  | .hbm, ⟨47, _⟩ => ⟨S32768x2816, .f32⟩
  | .hbm, ⟨48, _⟩ => ⟨S_, .f32⟩
  | .hbm, ⟨49, _⟩ => ⟨S32768x2816, .f32⟩
  | .hbm, ⟨50, _⟩ => ⟨S32768x2816, .f32⟩
  | .hbm, ⟨51, _⟩ => ⟨S_, .f32⟩
  | .hbm, ⟨52, _⟩ => ⟨S32768x2816, .f32⟩
  | .hbm, ⟨53, _⟩ => ⟨S32768x2816, .f32⟩
  | .hbm, ⟨54, _⟩ => ⟨S32768x2816, .f32⟩
  | .hbm, ⟨55, _⟩ => ⟨S32768x2816, .f32⟩
  | .hbm, ⟨56, _⟩ => ⟨S32768x2816, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== InProj.lean ====
abbrev S32768x1024 : Shape := ⟨2, ![32768, 1024]⟩
abbrev S1024x3072 : Shape := ⟨2, ![1024, 3072]⟩
abbrev S32768x3072 : Shape := ⟨2, ![32768, 3072]⟩
abbrev S512x1024 : Shape := ⟨2, ![512, 1024]⟩
abbrev S512x3072 : Shape := ⟨2, ![512, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1024x3072, .f32⟩
  | .local _ .vmem, ⟨3, _⟩ => ⟨S512x3072, .bf16⟩
  | .local _ .vmem, ⟨4, _⟩ => ⟨S512x3072, .bf16⟩
  | .local _ .vmem, ⟨5, _⟩ => ⟨S1024x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjRefIdeal.lean ====
abbrev S32768x1024 : Shape := ⟨2, ![32768, 1024]⟩
abbrev S1024x3072 : Shape := ⟨2, ![1024, 3072]⟩
abbrev S32768x3072 : Shape := ⟨2, ![32768, 3072]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3072, .f32⟩
  | .hbm, ⟨2, _⟩ => ⟨S32768x3072, .f32⟩
  | .hbm, ⟨3, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Tile.lean ====
/-
  The stages of one tile of the kernel, each named once for every head: the run's stores are lists of these.
-/
module

public import proofs.«01_k».proof.Proof.Gen.KernelIdeal.Value

@[expose] public section

noncomputable section

namespace Cert.Tile

open Idealize.ShloMosaic Idealize.ShloMosaic.TcCoe Idealize.SL.Sem Cert.KernelIdeal Cert.KernelIdeal.Gen

variable {F : FTy → Type} [FloatOps F] [Named F]

/-- The queries against one tile of keys: two row blocks, one per query block. -/
def pair (k : Vec F S1x256x128 .bf16) (q : Vec F S1x512x128 .bf16) : FVec F S512x256 .f32 :=
  matmul dot_S512x128_S256x128_S512x256_1_1_0_0_n_n none (shapeCast S512x128 q shapeCasts_S1x512x128_S512x128)
    (shapeCast S256x128 k shapeCasts_S1x256x128_S256x128) (constant S512x256 .f32 0x00000000#32)

/-- The first row block. -/
def top (z : FVec F S512x256 .f32) : FVec F S256x256 .f32 := extractStridedSlice S256x256 ![0, 0] z slices_S512x256_o0_0_S256x256

/-- The second row block. -/
def bot (z : FVec F S512x256 .f32) : FVec F S256x256 .f32 := extractStridedSlice S256x256 ![256, 0] z slices_S512x256_o256_0_S256x256

/-- The logarithm of the sigmoid. -/
def logsig (z : FVec F S256x256 .f32) : FVec F S256x256 .f32 :=
  subf (minimumf z (broadcast S256x256 (Scalar.ofBits .f32 0x00000000#32)))
    (log (addf (broadcast S256x256 (Scalar.ofBits .f32 0x3F800000#32))
      (exp2 (mulf (absf z) (broadcast S256x256 (Named.named κ "neg_log2e" 0xBFB8AA3B#32))))))

/-- The logarithm of what is left. -/
def left (z : FVec F S256x256 .f32) : FVec F S256x256 .f32 := subf (logsig z) z

/-- A column strictly before its row. -/
def strict : IVec S256x256 1 :=
  cmpi .slt (iota .tc S256x256 32 [1] iota_S256x256_d1_w32) (iota .tc S256x256 32 [0] iota_S256x256_d0_w32)

/-- A column not after its row. -/
def causal : IVec S256x256 1 :=
  cmpi .sle (iota .tc S256x256 32 [1] iota_S256x256_d1_w32) (iota .tc S256x256 32 [0] iota_S256x256_d0_w32)

/-- `left`, zero off the strict columns. -/
def leftD (z : FVec F S256x256 .f32) : FVec F S256x256 .f32 :=
  select strict (left z) (broadcast S256x256 (Scalar.ofBits .f32 0x00000000#32))

/-- Sums over the later columns of the tile. -/
def later (l : FVec F S256x256 .f32) (tri : Vec F S256x256 .bf16) : FVec F S256x256 .f32 :=
  matmul dot_S256x256_S256x256_S256x256_1_0_0_1_n_n none (truncf .bf16 l bitsLt_bf16_f32) tri (constant S256x256 .f32 0x00000000#32)

/-- A lane block, twice side by side. -/
def twice (c : FVec F S256x128 .f32) : FVec F S256x256 .f32 :=
  concatenate S256x256 1 [⟨S256x128, c⟩, ⟨S256x128, c⟩] concatenates_S256x128_S256x128_S256x256_d1

/-- A slab without its unit axis. -/
def flat (c : Vec F S1x256x128 .f32) : FVec F S256x128 .f32 := shapeCast S256x128 c shapeCasts_S1x256x128_S256x128

/-- A lane block as a slab. -/
def slabOf (c : FVec F S256x128 .f32) : FVec F S1x256x128 .f32 := shapeCast S1x256x128 c shapeCasts_S256x128_S1x256x128

/-- A column on every lane. -/
def lanes (c : FVec F S256 .f32) : FVec F S256x128 .f32 :=
  broadcastTo S256x128 (shapeCast S256x1 (shapeCast S256x1 c shapeCasts_S256_S256x1) shapeCasts_S256x1_S256x1) broadcasts_S256x1_S256x128

/-- The exponential of the summed logarithms. -/
def wexp (z l : FVec F S256x256 .f32) (tri : Vec F S256x256 .bf16) (c : Vec F S1x256x128 .f32) : FVec F S256x256 .f32 :=
  exp (addf (addf (logsig z) (later l tri)) (twice (flat c)))

/-- The weights of a tile left of the diagonal. -/
def wgt (z : FVec F S256x256 .f32) (tri : Vec F S256x256 .bf16) (c : Vec F S1x256x128 .f32) : FVec F S256x256 .bf16 :=
  truncf .bf16 (wexp z (left z) tri c) bitsLt_bf16_f32

/-- The weights of the diagonal tile. -/
def wgtD (z : FVec F S256x256 .f32) (tri : Vec F S256x256 .bf16) (c : Vec F S1x256x128 .f32) : FVec F S256x256 .bf16 :=
  truncf .bf16 (select strict (wexp z (leftD z) tri c) (broadcast S256x256 (Scalar.ofBits .f32 0x00000000#32))) bitsLt_bf16_f32

/-- The running sum after a tile. -/
def carryNext (l : FVec F S256x256 .f32) (c : Vec F S1x256x128 .f32) : FVec F S1x256x128 .f32 :=
  slabOf (addf (flat c) (lanes (multiReduction .add [1] S256 l 0x00000000#32 reduces_S256x256_S256 (.inl rfl) rfl)))

/-- Two weight tiles against one tile of values. -/
def vals (a b : FVec F S256x256 .bf16) (v : Vec F S1x256x128 .bf16) : FVec F S512x128 .f32 :=
  matmul dot_S512x256_S256x128_S512x128_1_0_0_1_n_n none
    (concatenate S512x256 0 [⟨S256x256, a⟩, ⟨S256x256, b⟩] concatenates_S256x256_S256x256_S512x256_d0)
    (shapeCast S256x128 v shapeCasts_S1x256x128_S256x128) (constant S512x128 .f32 0x00000000#32)

/-- Its first row block. -/
def topv (z : FVec F S512x128 .f32) : FVec F S256x128 .f32 := extractStridedSlice S256x128 ![0, 0] z slices_S512x128_o0_0_S256x128

/-- Its second row block. -/
def botv (z : FVec F S512x128 .f32) : FVec F S256x128 .f32 := extractStridedSlice S256x128 ![256, 0] z slices_S512x128_o256_0_S256x128

/-- The lanes of the first head of a pair. -/
def low : IVec S256x128 1 := broadcastTo S256x128 (shapeCast S1x128 k0_pay316 shapeCasts_S1x128_S1x128) broadcasts_S1x128_S256x128

/-- The sum of values after a tile, of a pair of heads. -/
def accNext (old : Vec F S256x128 .f32) (p : FVec F S512x128 .f32) : FVec F S256x128 .f32 :=
  shapeCast S256x128 (addf old (select low (topv p) (botv p))) shapeCasts_S256x128_S256x128

/-- Column numbers, counted from the first column of the queries' tile. -/
def offs (n : BitVec 32) : FVec F S1x256 .f32 := addf k0_pay347 (broadcast S1x256 (Scalar.sitofp .f32 n))

/-- The scores of a tile left of the diagonal. -/
def score (w : F .f32) (o : FVec F S1x256 .f32) (z : FVec F S256x256 .f32) : FVec F S256x256 .f32 :=
  addf (mulf z (broadcast S256x256 (Named.named κ "log2e" 0x3FB8AA3B#32)))
    (broadcastTo S256x256 (mulf (broadcast S1x256 w) o) broadcasts_S1x256_S256x256)

/-- The scores of the diagonal tile. -/
def scoreD (w : F .f32) (o : FVec F S1x256 .f32) (z : FVec F S256x256 .f32) : FVec F S256x256 .f32 :=
  select causal (score w o z) (broadcast S256x256 (Named.named κ "mask" 0xF149F2CA#32))

/-- The running maximum after a tile. -/
def maxNext (s : FVec F S256x256 .f32) (m : Vec F S1x256x128 .f32) : FVec F S256x128 .f32 :=
  maximumf (flat m) (lanes (multiReduction .maximumf [1] S256 s 0xFF800000#32 reduces_S256x256_S256 (.inl rfl) rfl))

/-- What the earlier sums are scaled by. -/
def fade (s : FVec F S256x256 .f32) (m : Vec F S1x256x128 .f32) : FVec F S256x128 .f32 := exp2 (subf (flat m) (maxNext s m))

/-- The tile's powers. -/
def pow (s : FVec F S256x256 .f32) (m : Vec F S1x256x128 .f32) : FVec F S256x256 .f32 := exp2 (subf s (twice (maxNext s m)))

/-- The running lane sums after a tile. -/
def sumNext (s : FVec F S256x256 .f32) (m l : Vec F S1x256x128 .f32) : FVec F S1x256x128 .f32 :=
  slabOf (addf (mulf (fade s m) (flat l))
    (addf (addf (broadcast S256x128 (Scalar.ofBits .f32 0x00000000#32)) (extractStridedSlice S256x128 ![0, 0] (pow s m) slices_S256x256_o0_0_S256x128))
      (extractStridedSlice S256x128 ![0, 128] (pow s m) slices_S256x256_o0_128_S256x128)))

/-- Two tiles of powers against one tile of values. -/
def pvals (s t : FVec F S256x256 .f32) (m n : Vec F S1x256x128 .f32) (v : Vec F S1x256x128 .bf16) : FVec F S512x128 .f32 :=
  vals (truncf .bf16 (pow s m) bitsLt_bf16_f32) (truncf .bf16 (pow t n) bitsLt_bf16_f32) v

/-- The running sum of values after a tile. -/
def dNext (s : FVec F S256x256 .f32) (m a : Vec F S1x256x128 .f32) (p : FVec F S256x128 .f32) : FVec F S1x256x128 .f32 :=
  slabOf (addf (mulf (fade s m) (flat a)) p)

/-- One of the two row blocks. -/
def half (p : Nat) (z : FVec F S512x256 .f32) : FVec F S256x256 .f32 := match p with | 0 => top z | _ => bot z

/-- One of the two row blocks. -/
def halfv (p : Nat) (z : FVec F S512x128 .f32) : FVec F S256x128 .f32 := match p with | 0 => topv z | _ => botv z

theorem slab_inb (h : Nat) : ∀ a : Fin S8x256x128.rank, (![h % 8, 0, 0] : Fin 3 → Nat) a + S1x256x128.size a ≤ S8x256x128.size a := fun x => match x with
  | ⟨0, _⟩ => by show h % 8 + 1 ≤ 8; omega
  | ⟨1, _⟩ => by show 0 + 256 ≤ 256; omega
  | ⟨2, _⟩ => by show 0 + 128 ≤ 128; omega

theorem qslab_inb (g : Nat) : ∀ a : Fin S4x512x128.rank, (![g % 4, 0, 0] : Fin 3 → Nat) a + S1x512x128.size a ≤ S4x512x128.size a := fun x => match x with
  | ⟨0, _⟩ => by show g % 4 + 1 ≤ 4; omega
  | ⟨1, _⟩ => by show 0 + 512 ≤ 512; omega
  | ⟨2, _⟩ => by show 0 + 128 ≤ 128; omega

theorem cols_inb (g : Nat) : ∀ a : Fin S256x512.rank, (![0, g % 4 * 128] : Fin 2 → Nat) a + S256x128.size a ≤ S256x512.size a := fun x => match x with
  | ⟨0, _⟩ => by show 0 + 256 ≤ 256; omega
  | ⟨1, _⟩ => by show g % 4 * 128 + 128 ≤ 512; omega

/-- The rows of a buffer that one head owns. -/
def rslab (h : Nat) : Rect S8x256x128 := Rect.unit (s := S8x256x128) ![h % 8, 0, 0] S1x256x128.size (slab_inb h)

/-- The rows of the queries that one pair of heads owns. -/
def rqslab (g : Nat) : Rect S4x512x128 := Rect.unit (s := S4x512x128) ![g % 4, 0, 0] S1x512x128.size (qslab_inb g)

/-- The columns that one pair of heads owns. -/
def rcols (g : Nat) : Rect S256x512 := Rect.unit (s := S256x512) ![0, g % 4 * 128] S256x128.size (cols_inb g)

/-- A store for every head, the last first. -/
def puts (w : Nat → Vec F S1x256x128 .f32) : List (View.Piece (Elt F) S8x256x128 .f32) :=
  [⟨rslab 7, w 7⟩, ⟨rslab 6, w 6⟩, ⟨rslab 5, w 5⟩, ⟨rslab 4, w 4⟩, ⟨rslab 3, w 3⟩, ⟨rslab 2, w 2⟩, ⟨rslab 1, w 1⟩, ⟨rslab 0, w 0⟩]

/-- A store for every pair of heads, the last first. -/
def putCols (w : Nat → Vec F S256x128 .f32) : List (View.Piece (Elt F) S256x512 .f32) :=
  [⟨rcols 3, w 3⟩, ⟨rcols 2, w 2⟩, ⟨rcols 1, w 1⟩, ⟨rcols 0, w 0⟩]

/-- The scale of the distance penalty of a differential head, in powers of two. -/
def rate (g : Nat) : F .f32 := match g with
  | 0 => Named.named κ "bias0" 0x3EB8AA3B#32
  | 1 => Named.named κ "bias1" 0x3DB8AA3B#32
  | 2 => Named.named κ "bias2" 0x3CB8AA3B#32
  | _ => Named.named κ "bias3" 0x3BB8AA3B#32

/-- The logits of a stick-breaking head against a tile of keys; the raw scores of one map of a differential head. -/
def logits (k : Nat → Vec F S1x256x128 .bf16) (q : Nat → Vec F S1x512x128 .bf16) (h : Nat) : FVec F S256x256 .f32 :=
  half (h % 2) (pair (k (h / 2)) (q (h / 2)))

/-- What a tile adds to the values of a pair of heads. -/
def gain (z : Nat → FVec F S256x256 .f32) (t : Vec F S256x256 .bf16) (c : Nat → Vec F S1x256x128 .f32) (v : Nat → Vec F S1x256x128 .bf16)
    (a : Nat → Vec F S256x128 .f32) (g : Nat) : FVec F S256x128 .f32 :=
  accNext (a g) (vals (wgt (z (2 * g)) t (c (2 * g))) (wgt (z (2 * g + 1)) t (c (2 * g + 1))) (v g))

/-- The same for the diagonal tile. -/
def gainD (z : Nat → FVec F S256x256 .f32) (t : Vec F S256x256 .bf16) (c : Nat → Vec F S1x256x128 .f32) (v : Nat → Vec F S1x256x128 .bf16)
    (a : Nat → Vec F S256x128 .f32) (g : Nat) : FVec F S256x128 .f32 :=
  accNext (a g) (vals (wgtD (z (2 * g)) t (c (2 * g))) (wgtD (z (2 * g + 1)) t (c (2 * g + 1))) (v g))

/-- The values of one map of a differential head after a tile. -/
def dgain (s : Nat → FVec F S256x256 .f32) (m : Nat → Vec F S1x256x128 .f32) (v : Nat → Vec F S1x256x128 .bf16)
    (d : Nat → Vec F S1x256x128 .f32) (h : Nat) : FVec F S1x256x128 .f32 :=
  dNext (s h) (m h) (d h)
    (halfv (h % 2) (pvals (s (2 * (h / 2))) (s (2 * (h / 2) + 1)) (m (2 * (h / 2))) (m (2 * (h / 2) + 1)) (v (h / 2))))

end Cert.Tile
-- ==== Proof.Rows.lean ====
/-
  The mathematics of one query row, over the real numbers: the stick-breaking weights and the shift-invariant softmax,
  each built up from the last tile of keys back to the first. No program is mentioned here.
-/
module

public import Idealize.ShloMosaic.Lib.Pointwise

@[expose] public section

noncomputable section

namespace Cert.Rows

open Finset

/-! ## Finite sums -/

/-- A sum of reals read as extended reals is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals that are all real is real. -/
theorem sum_of_coe {ι : Type*} [Fintype ι] {g : ι → EReal} (f : ι → ℝ) (h : ∀ i, g i = (f i : EReal)) :
    ∑ i, g i = ((∑ i, f i : ℝ) : EReal) := by
  rw [coe_sum]; exact Finset.sum_congr rfl fun i _ => h i

/-- A tile's positions are an interval of keys. -/
theorem sum_tile (f : ℕ → ℝ) (a n : ℕ) : ∑ c : Fin n, f (a + c.val) = ∑ k ∈ Ico a (a + n), f k := by
  rw [Fin.sum_univ_eq_sum_range (fun c => f (a + c)) n, Finset.sum_Ico_eq_sum_range, Nat.add_sub_cancel_left]

/-- The positions of a tile strictly behind one of them. -/
theorem sum_tile_after (f : ℕ → ℝ) (a n : ℕ) (c : Fin n) :
    ∑ c' : Fin n, f (a + c'.val) * (if c.val < c'.val then 1 else 0) = ∑ k ∈ Ico (a + c.val + 1) (a + n), f k := by
  have hc := c.isLt
  have h := sum_tile (fun k => if a + c.val < k then f k else 0) a n
  have h2 : ∑ k ∈ Ico a (a + n), (if a + c.val < k then f k else 0) = ∑ k ∈ Ico (a + c.val + 1) (a + n), f k := by
    rw [← Finset.sum_filter]
    refine Finset.sum_congr ?_ fun _ _ => rfl
    ext k; simp only [Finset.mem_filter, Finset.mem_Ico]; omega
  rw [← h2, ← h]
  refine Finset.sum_congr rfl fun c' _ => ?_
  by_cases hlt : c.val < c'.val
  · rw [if_pos hlt, if_pos (by omega), mul_one]
  · rw [if_neg hlt, if_neg (by omega), mul_zero]

/-- Two lane groups of a tile, summed over the lanes, are the tile. -/
theorem sum_lanes (f : ℕ → ℝ) (a : ℕ) : ∑ l : Fin 128, (f (a + l.val) + f (a + (128 + l.val))) = ∑ k ∈ Ico a (a + 256), f k := by
  rw [Finset.sum_add_distrib, sum_tile f a 128]
  have h := sum_tile f (a + 128) 128
  rw [show ∑ l : Fin 128, f (a + (128 + l.val)) = ∑ l : Fin 128, f (a + 128 + l.val) from
    Finset.sum_congr rfl fun l _ => by rw [Nat.add_assoc], h]
  exact Finset.sum_Ico_consecutive f (by omega) (by omega)

/-- One more tile in front of an interval of keys. -/
theorem sum_front (f : ℕ → ℝ) {t n : ℕ} (h : t < n) :
    ∑ k ∈ Ico (t * 256) (t * 256 + 256), f k + ∑ k ∈ Ico ((t + 1) * 256) (n * 256), f k
      = ∑ k ∈ Ico (t * 256) (n * 256), f k := by
  rw [show t * 256 + 256 = (t + 1) * 256 by ring]
  exact Finset.sum_Ico_consecutive f (by omega) (by omega)

/-- A function that vanishes from `n` on has the same sum up to any later bound. -/
theorem sum_past (f : ℕ → ℝ) {a n N : ℕ} (ha : a ≤ n) (hN : n ≤ N) (h : ∀ k, n ≤ k → f k = 0) :
    ∑ k ∈ Ico a N, f k = ∑ k ∈ Ico a n, f k := by
  rw [← Finset.sum_Ico_consecutive f ha hN, Finset.sum_eq_zero (s := Ico n N) fun k hk => h k (Finset.mem_Ico.mp hk).1, add_zero]

/-- The sum of lane sums over a run of tiles is the sum over the keys. -/
theorem sum_lanes_tiles (f : ℕ → ℝ) (t n : ℕ) (h : t ≤ n) :
    ∑ l : Fin 128, ∑ τ ∈ Ico t n, (f (τ * 256 + l.val) + f (τ * 256 + (128 + l.val))) = ∑ k ∈ Ico (t * 256) (n * 256), f k := by
  rw [Finset.sum_comm]
  rw [Finset.sum_congr rfl fun τ _ => sum_lanes f (τ * 256)]
  induction n, h using Nat.le_induction with
  | base => simp
  | succ n hn ih =>
    rw [Finset.sum_Ico_succ_top hn, ih, show n * 256 + 256 = (n + 1) * 256 by ring]
    exact Finset.sum_Ico_consecutive f (by omega) (by omega)

/-! ## The stick-breaking weights -/

/-- The logarithm of the sigmoid, in the form that does not overflow. -/
def lsig (z : ℝ) : ℝ := min z 0 - Real.log (1 + Real.exp (-|z|))

theorem lsig_sub (z : ℝ) : lsig z - z = lsig (-z) := by
  unfold lsig
  rw [abs_neg]
  have : min z 0 - z = min (-z) 0 := by
    rcases le_total z 0 with h | h
    · rw [min_eq_left h, min_eq_right (by linarith)]; ring
    · rw [min_eq_right h, min_eq_left (by linarith)]; ring
  linarith

/-- The negated softplus of the negated argument is the same function. -/
theorem lsig_softplus (z : ℝ) : -(max (-z) 0 + Real.log (1 + Real.exp (-|(-z)|))) = lsig z := by
  unfold lsig
  rw [abs_neg]
  have : max (-z) 0 = -min z 0 := by
    rcases le_total z 0 with h | h
    · rw [min_eq_left h, max_eq_left (by linarith)]
    · rw [min_eq_right h, max_eq_right (by linarith)]; ring
  rw [this]; ring

/-- What a key gives to the stick before it: the log of one minus its share, nothing from the query's own position on. -/
def rest (z : ℕ → ℝ) (q k : ℕ) : ℝ := if k < q then lsig (-(z k)) else 0

/-- The weight of key `k` for query `q`: its own share of what the keys between them leave. -/
def weight (z : ℕ → ℝ) (q k : ℕ) : ℝ :=
  if k < q then Real.exp (lsig (z k) + ∑ j ∈ Ico (k + 1) 2048, rest z q j) else 0

/-- The sum behind a key, cut at any bound past the query. -/
theorem rest_past (z : ℕ → ℝ) {q k top : ℕ} (hk : k < top) (hq : q ≤ top) (ht : top ≤ 2048) :
    ∑ j ∈ Ico (k + 1) 2048, rest z q j = ∑ j ∈ Ico (k + 1) top, rest z q j :=
  sum_past _ (by omega) ht fun j hj => by unfold rest; rw [if_neg (by omega)]

/-- A weight as a tile computes it: the sum inside the tile and the sum carried from the tiles behind. -/
theorem weight_tile (z : ℕ → ℝ) {q t n : ℕ} (c : Fin 256) (ht : t < n) (hq : q ≤ n * 256) (hn : n ≤ 8) (hk : t * 256 + c.val < q) :
    weight z q (t * 256 + c.val)
      = Real.exp (lsig (z (t * 256 + c.val))
          + (∑ c' : Fin 256, rest z q (t * 256 + c'.val) * (if c.val < c'.val then 1 else 0))
          + ∑ j ∈ Ico ((t + 1) * 256) (n * 256), rest z q j) := by
  have hc := c.isLt
  unfold weight
  rw [if_pos hk, sum_tile_after (rest z q) (t * 256) 256 c, rest_past z (by omega) hq (by omega),
    ← Finset.sum_Ico_consecutive (rest z q) (m := t * 256 + c.val + 1) (n := t * 256 + 256) (by omega) (by omega),
    show t * 256 + 256 = (t + 1) * 256 by ring]
  congr 1
  exact (add_assoc _ _ _).symm

/-- A stick-breaking output: the weighted sum of a value column. -/
def stick (z v : ℕ → ℝ) (q : ℕ) : ℝ := ∑ k ∈ Ico 0 2048, v k * weight z q k

theorem stick_eq (z v : ℕ → ℝ) {q n : ℕ} (hq : q ≤ n * 256) (hn : n ≤ 8) :
    stick z v q = ∑ k ∈ Ico (0 * 256) (n * 256), weight z q k * v k := by
  unfold stick
  rw [sum_past _ (n := n * 256) (by omega) (by omega) fun k hk => by unfold weight; rw [if_neg (by omega), mul_zero]]
  rw [Nat.zero_mul]
  exact Finset.sum_congr rfl fun k _ => mul_comm _ _

/-! ## The softmax of a row, up to a shift -/

/-- The unnormalised weight of key `k` for query `q` when the row's scores `y` are all moved by `s`. -/
def expo (y : ℕ → ℝ) (s : ℝ) (q k : ℕ) : ℝ := if k ≤ q then Real.exp (y k + s) else 0

theorem expo_shift (y : ℕ → ℝ) (s : ℝ) (q k : ℕ) : expo y s q k = Real.exp s * expo y 0 q k := by
  unfold expo
  split
  · rw [add_zero, Real.exp_add, mul_comm]
  · rw [mul_zero]

/-- The normalised weight. -/
def prob (y : ℕ → ℝ) (q k : ℕ) : ℝ := expo y 0 q k / ∑ j ∈ Ico 0 2048, expo y 0 q j

theorem expo_nonneg (y : ℕ → ℝ) (s : ℝ) (q k : ℕ) : 0 ≤ expo y s q k := by
  unfold expo; split
  · exact (Real.exp_pos _).le
  · exact le_rfl

theorem expo_sum_pos (y : ℕ → ℝ) (s : ℝ) {q n : ℕ} (hn : 0 < n) : 0 < ∑ k ∈ Ico 0 n, expo y s q k := by
  refine Finset.sum_pos' (fun k _ => expo_nonneg y s q k) ⟨0, by simp [hn], ?_⟩
  unfold expo; rw [if_pos (Nat.zero_le _)]; exact Real.exp_pos _

/-- A weighted sum of a value column over a row is the quotient of the two unnormalised sums, whatever the shift and
    wherever past the query the row is cut. -/
theorem prob_sum (y v : ℕ → ℝ) (s : ℝ) {q n : ℕ} (hq : q < n) (hn : n ≤ 2048) :
    (∑ k ∈ Ico 0 n, expo y s q k * v k) / (∑ k ∈ Ico 0 n, expo y s q k) = ∑ k ∈ Ico 0 2048, prob y q k * v k := by
  have hz : ∀ k, n ≤ k → expo y 0 q k = 0 := fun k hk => by unfold expo; rw [if_neg (by omega)]
  have hd : ∑ k ∈ Ico 0 2048, expo y 0 q k = ∑ k ∈ Ico 0 n, expo y 0 q k := sum_past _ (by omega) hn hz
  have hs : ∑ k ∈ Ico 0 n, expo y s q k = Real.exp s * ∑ k ∈ Ico 0 n, expo y 0 q k := by
    rw [Finset.mul_sum]; exact Finset.sum_congr rfl fun k _ => expo_shift y s q k
  have hv : ∑ k ∈ Ico 0 n, expo y s q k * v k = Real.exp s * ∑ k ∈ Ico 0 n, expo y 0 q k * v k := by
    rw [Finset.mul_sum]; exact Finset.sum_congr rfl fun k _ => by rw [expo_shift y s q k, mul_assoc]
  rw [hs, hv, mul_div_mul_left _ _ (Real.exp_pos s).ne']
  rw [sum_past (fun k => prob y q k * v k) (n := n) (by omega) hn fun k hk => by unfold prob; rw [hz k hk]; simp]
  rw [Finset.sum_div]
  refine Finset.sum_congr rfl fun k _ => ?_
  unfold prob; rw [hd]; ring

/-- A power of two of a score in units of `log 2` is the exponential of the score. -/
theorem two_rpow (x : ℝ) : Real.rpow 2 (x * (Real.log 2)⁻¹) = Real.exp x := by
  rw [Real.rpow_eq_pow, Real.rpow_def_of_pos (by norm_num)]
  congr 1
  have : Real.log 2 ≠ 0 := (Real.log_pos (by norm_num)).ne'
  field_simp

theorem two_rpow_sub (x y : ℝ) : Real.rpow 2 (x - y) = Real.rpow 2 x * Real.rpow 2 (-y) := by
  simp only [Real.rpow_eq_pow]
  rw [sub_eq_add_neg, Real.rpow_add (by norm_num)]

theorem two_rpow_pos (x : ℝ) : 0 < Real.rpow 2 x := Real.rpow_pos_of_pos (by norm_num) x

end Cert.Rows
-- ==== Proof.Entry.lean ====
/-
  The stages of one tile of the kernel read at an index, over the extended reals.
-/
module

public import proofs.«01_k».proof.Proof.Tile
public import proofs.«01_k».proof.Proof.Rows

@[expose] public section

noncomputable section

namespace Cert.Tile

open Idealize.ShloMosaic Idealize.ShloMosaic.TcCoe Idealize.SL.Sem Cert.KernelIdeal Cert.KernelIdeal.Gen Cert.Rows

theorem named_mask : (Named.named κ "mask" 0xF149F2CA#32 : Ideal .f32) = ⊥ := IdealRules.named_const.ideal_named_scalar _ _ _ _ rfl

theorem named_neg : (Named.named κ "neg_log2e" 0xBFB8AA3B#32 : Ideal .f32) = ((-((Real.log 2)⁻¹) : ℝ) : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

theorem rate_coe (g : Nat) (hg : g < 4) : (rate g : Ideal .f32) = (((1 / 2 ^ (2 * (1 + g))) * (Real.log 2)⁻¹ : ℝ) : EReal) := by
  have h2 : Real.log 2 ≠ 0 := (Real.log_pos (by norm_num)).ne'
  interval_cases g <;>
  · refine (IdealRules.named_const.ideal_named_scalar _ _ _ _ rfl).trans (congrArg _ ?_)
    rw [mul_inv]; norm_num

theorem coe_max (a b : ℝ) : ((max a b : ℝ) : EReal) = max (a : EReal) b := EReal.coe_strictMono.monotone.map_max

theorem coe_min (a b : ℝ) : ((min a b : ℝ) : EReal) = min (a : EReal) b := EReal.coe_strictMono.monotone.map_min

theorem slt_ofNat {a b : Nat} (ha : a < 256) (hb : b < 256) :
    IntOp.cmpi CmpIPredicate.slt (BitVec.ofNat 32 a) (BitVec.ofNat 32 b) = BitVec.ofBool (decide (a < b)) := by
  show BitVec.ofBool (BitVec.slt _ _) = _
  rw [BitVec.slt_eq_decide]
  congr 1
  rw [decide_eq_decide, BitVec.toInt_eq_toNat_of_lt (by rw [BitVec.toNat_ofNat]; omega), BitVec.toInt_eq_toNat_of_lt (by rw [BitVec.toNat_ofNat]; omega),
    BitVec.toNat_ofNat, BitVec.toNat_ofNat]
  omega

theorem sle_ofNat {a b : Nat} (ha : a < 256) (hb : b < 256) :
    IntOp.cmpi CmpIPredicate.sle (BitVec.ofNat 32 a) (BitVec.ofNat 32 b) = BitVec.ofBool (decide (a ≤ b)) := by
  show BitVec.ofBool (BitVec.sle _ _) = _
  rw [BitVec.sle_eq_decide]
  congr 1
  rw [decide_eq_decide, BitVec.toInt_eq_toNat_of_lt (by rw [BitVec.toNat_ofNat]; omega), BitVec.toInt_eq_toNat_of_lt (by rw [BitVec.toNat_ofNat]; omega),
    BitVec.toNat_ofNat, BitVec.toNat_ofNat]
  omega

theorem half_pair (k : Vec Ideal S1x256x128 .bf16) (q : Vec Ideal S1x512x128 .bf16) (p : Nat) (r c : Fin 256) (hp : p < 2) :
    half p (pair k q) (ix2 r c) = ∑ l : Fin 128, (q (ix3 (0 : Fin 1) (⟨p * 256 + r.val, by omega⟩ : Fin 512) l) : EReal) * k (ix3 (0 : Fin 1) c l) := by
  interval_cases p
  · pointwise [half, pair, top]
  · pointwise [half, pair, bot]

theorem logsig_coe (z : FVec Ideal S256x256 .f32) (r c : Fin 256) (a : ℝ) (h : z (ix2 r c) = (a : EReal)) :
    logsig z (ix2 r c) = ((lsig a : ℝ) : EReal) := by
  pointwise [logsig]
  rw [h, named_neg]
  have e : Real.rpow 2 (max a (-a) * -(Real.log 2)⁻¹) = Real.exp (-|a|) := by
    rw [← two_rpow (-|a|)]
    congr 1
    rw [abs_eq_max_neg]; ring
  have e2 : (FloatOps.exp2 (FloatOps.mulf (FloatOps.absf ((a : EReal) : Ideal .f32)) ((-(Real.log 2)⁻¹ : ℝ) : EReal) : Ideal .f32) : EReal) = ((Real.exp (-|a|) : ℝ) : EReal) := by
    show Ideal.exp2 (max (a : EReal) (-(a : EReal)) * ((-(Real.log 2)⁻¹ : ℝ) : EReal)) = _
    rw [← EReal.coe_neg, ← coe_max, ← EReal.coe_mul, Ideal.exp2_coe, e]
  refine (congrArg (fun t : EReal => min (a : EReal) 0 - Ideal.log (1 + t)) e2).trans ?_
  have hp : 0 < 1 + Real.exp (-|a|) := by have := Real.exp_pos (-|a|); linarith
  show min (a : EReal) 0 - Ideal.log (1 + ((Real.exp (-|a|) : ℝ) : EReal)) = _
  rw [← EReal.coe_zero, ← EReal.coe_one, ← EReal.coe_add, Ideal.log_coe, if_neg (not_le.mpr hp), ← coe_min, ← EReal.coe_sub]
  rfl

theorem left_coe (z : FVec Ideal S256x256 .f32) (r c : Fin 256) (a : ℝ) (h : z (ix2 r c) = (a : EReal)) :
    left z (ix2 r c) = ((lsig (-a) : ℝ) : EReal) := by
  show logsig z (ix2 r c) - z (ix2 r c) = _
  rw [logsig_coe z r c a h, h, ← EReal.coe_sub, lsig_sub]

theorem strict_apply (r c : Fin 256) : strict (ix2 r c) = BitVec.ofBool (decide (c.val < r.val)) := by
  pointwise [strict]
  exact slt_ofNat c.isLt r.isLt

theorem causal_apply (r c : Fin 256) : causal (ix2 r c) = BitVec.ofBool (decide (c.val ≤ r.val)) := by
  pointwise [causal]
  exact sle_ofNat c.isLt r.isLt

theorem later_apply (l : FVec Ideal S256x256 .f32) (tri : Vec Ideal S256x256 .bf16) (r c : Fin 256) :
    later l tri (ix2 r c) = ∑ c' : Fin 256, (l (ix2 r c') : EReal) * tri (ix2 c' c) := by
  pointwise [later]

theorem twice_apply (x : FVec Ideal S256x128 .f32) (r c : Fin 256) :
    twice x (ix2 r c) = x (ix2 r (⟨c.val % 128, by omega⟩ : Fin 128)) := by
  pointwise [twice]
  split
  · congr 2; apply Fin.ext; show c.val = c.val % 128; omega
  · congr 2; apply Fin.ext; show c.val - 128 = c.val % 128; omega

theorem flat_apply (x : Vec Ideal S1x256x128 .f32) (r : Fin 256) (l : Fin 128) :
    flat x (ix2 r l) = x (ix3 (0 : Fin 1) r l) := by
  pointwise [flat]

theorem slabOf_apply (x : FVec Ideal S256x128 .f32) (r : Fin 256) (l : Fin 128) :
    slabOf x (ix3 (0 : Fin 1) r l) = x (ix2 r l) := by
  pointwise [slabOf]

theorem lanes_apply (x : FVec Ideal S256 .f32) (r : Fin 256) (l : Fin 128) :
    lanes x (ix2 r l) = x (ix1 r) := by
  pointwise [lanes]

theorem vals_apply (a b : FVec Ideal S256x256 .bf16) (v : Vec Ideal S1x256x128 .bf16) (p : Nat) (hp : p < 2) (r : Fin 256) (l : Fin 128) :
    halfv p (vals a b v) (ix2 r l) = ∑ c : Fin 256, ((if p = 0 then a else b) (ix2 r c) : EReal) * v (ix3 (0 : Fin 1) c l) := by
  interval_cases p
  · pointwise [halfv, vals, topv]
  · pointwise [halfv, vals, botv]

theorem low_apply (r : Fin 256) (l : Fin 128) : low (ix2 r l) = BitVec.ofBool (decide (l.val < 64)) := by
  pointwise [low, k0_pay316]
  exact slt_ofNat (by omega) (by omega)

theorem offs_apply (n : BitVec 32) (c : Fin 256) : (offs n : FVec Ideal S1x256 .f32) (ix2 (0 : Fin 1) c) = (((c.val : ℝ) + n.toInt : ℝ) : EReal) := by
  pointwise [offs, k0_pay347]
  rw [EReal.coe_add]
  congr 1
  show (((BitVec.ofNat 32 c.val).toInt : ℝ) : EReal) = _
  rw [BitVec.toInt_eq_toNat_of_lt (by rw [BitVec.toNat_ofNat]; omega), BitVec.toNat_ofNat, Nat.mod_eq_of_lt (by omega)]
  simp

theorem score_apply (w : Ideal .f32) (o : FVec Ideal S1x256 .f32) (z : FVec Ideal S256x256 .f32) (r c : Fin 256) :
    score w o z (ix2 r c) = (z (ix2 r c) : EReal) * Named.named κ "log2e" 0x3FB8AA3B#32 + w * o (ix2 (0 : Fin 1) c) := by
  pointwise [score]

theorem ninf : Ideal.ofBits .f32 0xFF800000#32 = ⊥ := by simp [Ideal.ofBits, Ideal.ieee]

theorem maxNext_apply (s : FVec Ideal S256x256 .f32) (m : Vec Ideal S1x256x128 .f32) (r : Fin 256) (l : Fin 128) :
    maxNext s m (ix2 r l) = max (m (ix3 (0 : Fin 1) r l) : EReal) (Finset.univ.fold max ⊥ fun c : Fin 256 => (s (ix2 r c) : EReal)) := by
  pointwise [maxNext]
  rw [lanes_apply, flat_apply, ninf]
  refine congrArg (max (m (ix3 (0 : Fin 1) r l) : EReal)) ?_
  have e : ∀ (b : EReal) (f : FVec Ideal S256x256 .f32), reduceFold (α := EReal) reduces_S256x256_S256 max b f (ix1 r) = Finset.univ.fold max b fun c : Fin 256 => (f (ix2 r c) : EReal) := by
    intro b f
    pointwise []
  exact e ⊥ s

theorem carryNext_apply (l : FVec Ideal S256x256 .f32) (c : Vec Ideal S1x256x128 .f32) (r : Fin 256) (u : Fin 128) :
    carryNext l c (ix3 (0 : Fin 1) r u) = (c (ix3 (0 : Fin 1) r u) : EReal) + ∑ k : Fin 256, (l (ix2 r k) : EReal) := by
  pointwise [carryNext]
  rw [slabOf_apply]
  pointwise []
  rw [lanes_apply, flat_apply]
  pointwise []

theorem wexp_apply (z l : FVec Ideal S256x256 .f32) (tri : Vec Ideal S256x256 .bf16) (c : Vec Ideal S1x256x128 .f32) (r k : Fin 256) :
    wexp z l tri c (ix2 r k) = Ideal.exp (logsig z (ix2 r k) + later l tri (ix2 r k) + c (ix3 (0 : Fin 1) r (⟨k.val % 128, by omega⟩ : Fin 128))) := by
  pointwise [wexp]
  rw [twice_apply, flat_apply]

theorem accNext_apply (old : Vec Ideal S256x128 .f32) (p : FVec Ideal S512x128 .f32) (r : Fin 256) (l : Fin 128) :
    accNext old p (ix2 r l) = (old (ix2 r l) : EReal) + halfv (l.val / 64) p (ix2 r l) := by
  pointwise [accNext]
  rw [low_apply]
  by_cases h : l.val < 64
  · have e : l.val / 64 = 0 := by omega
    rw [e, decide_eq_true h]; rfl
  · have e : l.val / 64 = 1 := by omega
    rw [e, decide_eq_false h]; rfl

theorem pow_apply (s : FVec Ideal S256x256 .f32) (m : Vec Ideal S1x256x128 .f32) (r c : Fin 256) :
    pow s m (ix2 r c) = Ideal.exp2 ((s (ix2 r c) : EReal) - maxNext s m (ix2 r (⟨c.val % 128, by omega⟩ : Fin 128))) := by
  pointwise [pow]
  rw [twice_apply]
  rfl

theorem fade_apply (s : FVec Ideal S256x256 .f32) (m : Vec Ideal S1x256x128 .f32) (r : Fin 256) (l : Fin 128) :
    fade s m (ix2 r l) = Ideal.exp2 ((m (ix3 (0 : Fin 1) r l) : EReal) - maxNext s m (ix2 r l)) := by
  pointwise [fade]
  rw [flat_apply]
  rfl

theorem sumNext_apply (s : FVec Ideal S256x256 .f32) (m l : Vec Ideal S1x256x128 .f32) (r : Fin 256) (u : Fin 128) :
    sumNext s m l (ix3 (0 : Fin 1) r u) = fade s m (ix2 r u) * l (ix3 (0 : Fin 1) r u)
      + (pow s m (ix2 r (⟨u.val, by omega⟩ : Fin 256)) + pow s m (ix2 r (⟨128 + u.val, by omega⟩ : Fin 256))) := by
  pointwise [sumNext]
  rw [slabOf_apply]
  pointwise []
  rw [flat_apply]

theorem dNext_apply (s : FVec Ideal S256x256 .f32) (m a : Vec Ideal S1x256x128 .f32) (p : FVec Ideal S256x128 .f32) (r : Fin 256) (l : Fin 128) :
    dNext s m a p (ix3 (0 : Fin 1) r l) = fade s m (ix2 r l) * a (ix3 (0 : Fin 1) r l) + p (ix2 r l) := by
  pointwise [dNext]
  rw [slabOf_apply]
  pointwise []
  rw [flat_apply]

end Cert.Tile
-- ==== Proof.Spec.lean ====
/-
  What the attention computes, over the real numbers, from the projected rows `x s col` of one batch entry.
-/
module

public import proofs.«01_k».proof.Proof.Rows

@[expose] public section

noncomputable section

namespace Cert.Spec

open Finset Cert.Rows

/-- The logit of stick-breaking head `hd` between query `q` and key `k`. -/
def zsb (x : ℕ → ℕ → ℝ) (hd q k : ℕ) : ℝ := (∑ d : Fin 64, x q (hd * 64 + d.val) * x k (512 + (hd * 64 + d.val))) * (1 / 8)

/-- Column `d` of stick-breaking head `hd` at query `q`. -/
def sbOut (x : ℕ → ℕ → ℝ) (hd d q : ℕ) : ℝ := stick (zsb x hd q) (fun k => x k (1024 + (hd * 64 + d))) q

/-- The slope of differential head `h`. -/
def slope (h : ℕ) : ℝ := 1 / (2 ^ (2 * (1 + h)) : ℝ)

/-- The score of map `mp` of differential head `h` between query `q` and key `k`, its distance penalty included. -/
def ydf (x : ℕ → ℕ → ℝ) (h mp q k : ℕ) : ℝ :=
  (∑ d : Fin 64, x q (1536 + (h * 128 + mp * 64 + d.val)) * x k (2048 + (h * 128 + mp * 64 + d.val))) * (1 / 8)
    + -(slope h) * ((q : ℝ) - (k : ℝ))

/-- Column `e` of the attention of one map. -/
def attn (x : ℕ → ℕ → ℝ) (h mp e q : ℕ) : ℝ := ∑ k ∈ Ico 0 2048, prob (ydf x h mp q) q k * x k (2560 + (h * 128 + e))

/-- The difference of the two maps. -/
def diff (x : ℕ → ℕ → ℝ) (lam : ℝ) (h e q : ℕ) : ℝ := attn x h 0 e q - lam * attn x h 1 e q

end Cert.Spec
-- ==== Proof.Steps.lean ====
/-
  One tile of the kernel against the mathematics: what the running sums, maxima and values hold after it, given what
  they held before.
-/
module

public import proofs.«01_k».proof.Proof.Entry
public import proofs.«01_k».proof.Proof.Spec

@[expose] public section

noncomputable section

namespace Cert.Tile

open Idealize.ShloMosaic Idealize.ShloMosaic.TcCoe Idealize.SL.Sem Cert.KernelIdeal Cert.KernelIdeal.Gen Cert.Rows Cert.Spec
open Finset (Ico)

/-! ## The logits -/

/-- The scaled product of a query's lanes with a key's, at the columns of one half of a pair of heads. -/
def dotl (x : ℕ → ℕ → ℝ) (a b g p q k : ℕ) : ℝ :=
  (∑ d : Fin 64, x q (a + (g * 128 + (p * 64 + d.val))) * x k (b + (g * 128 + (p * 64 + d.val)))) * (1 / 8)

theorem zsb_dotl (x : ℕ → ℕ → ℝ) (h q k : ℕ) : zsb x h q k = dotl x 0 512 (h / 2) (h % 2) q k := by
  unfold zsb dotl
  congr 1
  refine Finset.sum_congr rfl fun d _ => ?_
  have e : h * 64 + d.val = h / 2 * 128 + (h % 2 * 64 + d.val) := by omega
  rw [e, Nat.zero_add]

theorem ydf_dotl (x : ℕ → ℕ → ℝ) (g p q k : ℕ) : ydf x g p q k = dotl x 1536 2048 g p q k + -(slope g) * ((q : ℝ) - k) := by
  unfold ydf dotl
  refine congrArg (fun s : ℝ => s * (1 / 8) + -(slope g) * ((q : ℝ) - k)) (Finset.sum_congr rfl fun d _ => ?_)
  rw [Nat.add_assoc (g * 128)]

/-- A sum over the lanes of one half. -/
theorem sum_half (f : ℕ → ℝ) {p : ℕ} (hp : p < 2) :
    ∑ l : Fin 128, (if l.val / 64 = p then f l.val else 0) = ∑ d : Fin 64, f (p * 64 + d.val) := by
  rw [Fin.sum_univ_eq_sum_range (fun l => if l / 64 = p then f l else 0) 128, Fin.sum_univ_eq_sum_range (fun d => f (p * 64 + d)) 64,
    show 128 = 64 + 64 from rfl, Finset.sum_range_add]
  have e1 : ∀ l ∈ Finset.range 64, (if l / 64 = p then f l else 0) = if p = 0 then f l else 0 := fun l hl => by
    have := Finset.mem_range.mp hl
    rw [show l / 64 = 0 by omega]; simp only [eq_comm]
  have e2 : ∀ l ∈ Finset.range 64, (if (64 + l) / 64 = p then f (64 + l) else 0) = if p = 1 then f (64 + l) else 0 := fun l hl => by
    have := Finset.mem_range.mp hl
    rw [show (64 + l) / 64 = 1 by omega]; simp only [eq_comm]
  rw [Finset.sum_congr rfl e1, Finset.sum_congr rfl e2]
  interval_cases p <;> simp

section

variable (x : ℕ → ℕ → ℝ) (qi t : ℕ)

/-- What the scaled queries hold: row `p * 256 + r` is the query's lanes of half `p`, the other lanes zero. -/
def HasQ (a : ℕ) (q : Nat → Vec Ideal S1x512x128 .bf16) : Prop :=
  ∀ g, g < 4 → ∀ p, ∀ (hp : p < 2) (r : Fin 256) (l : Fin 128), q g (ix3 (0 : Fin 1) (⟨p * 256 + r.val, by omega⟩ : Fin 512) l)
    = (((if l.val / 64 = p then x (qi * 256 + r.val) (a + (g * 128 + l.val)) * (1 / 8) else 0) : ℝ) : EReal)

/-- What a tile of keys or values holds. -/
def HasK (b : ℕ) (k : Nat → Vec Ideal S1x256x128 .bf16) : Prop :=
  ∀ g, g < 4 → ∀ (c : Fin 256) (l : Fin 128), k g (ix3 (0 : Fin 1) c l) = ((x (t * 256 + c.val) (b + (g * 128 + l.val)) : ℝ) : EReal)

theorem logits_coe {a b : ℕ} {q : Nat → Vec Ideal S1x512x128 .bf16} {k : Nat → Vec Ideal S1x256x128 .bf16}
    (hq : HasQ x qi a q) (hk : HasK x t b k) (h : ℕ) (hh : h < 8) (r c : Fin 256) :
    logits k q h (ix2 r c) = ((dotl x a b (h / 2) (h % 2) (qi * 256 + r.val) (t * 256 + c.val) : ℝ) : EReal) := by
  unfold logits
  rw [half_pair _ _ _ r c (Nat.mod_lt _ (by norm_num)),
    sum_of_coe (fun l : Fin 128 => if l.val / 64 = h % 2 then x (qi * 256 + r.val) (a + (h / 2 * 128 + l.val)) * x (t * 256 + c.val) (b + (h / 2 * 128 + l.val)) * (1 / 8) else 0)]
  · rw [sum_half (fun l => x (qi * 256 + r.val) (a + (h / 2 * 128 + l)) * x (t * 256 + c.val) (b + (h / 2 * 128 + l)) * (1 / 8)) (Nat.mod_lt _ (by norm_num)),
      ← Finset.sum_mul]
    rfl
  · intro l
    rw [hq (h / 2) (by omega) (h % 2) (Nat.mod_lt _ (by norm_num)) r l, hk (h / 2) (by omega) c l, ← EReal.coe_mul]
    congr 1
    split
    · ring
    · ring

/-! ## The stick-breaking heads -/

/-- A tile of the logarithms of what is left. -/
def IsRest (h : ℕ) (L : FVec Ideal S256x256 .f32) : Prop :=
  ∀ r c : Fin 256, L (ix2 r c) = ((rest (zsb x h (qi * 256 + r.val)) (qi * 256 + r.val) (t * 256 + c.val) : ℝ) : EReal)

/-- A tile of logits. -/
def IsZ (h : ℕ) (z : FVec Ideal S256x256 .f32) : Prop :=
  ∀ r c : Fin 256, z (ix2 r c) = ((zsb x h (qi * 256 + r.val) (t * 256 + c.val) : ℝ) : EReal)

theorem isZ {q : Nat → Vec Ideal S1x512x128 .bf16} {k : Nat → Vec Ideal S1x256x128 .bf16}
    (hq : HasQ x qi 0 q) (hk : HasK x t 512 k) (h : ℕ) (hh : h < 8) : IsZ x qi t h (logits k q h) := fun r c => by
  rw [logits_coe x qi t hq hk h hh r c, zsb_dotl]

variable {x qi t}

theorem isRest_left {h : ℕ} {z : FVec Ideal S256x256 .f32} (hz : IsZ x qi t h z) (ht : t < qi) : IsRest x qi t h (left z) := fun r c => by
  rw [left_coe z r c _ (hz r c)]
  unfold rest
  rw [if_pos (by omega)]

theorem isRest_leftD {h : ℕ} {z : FVec Ideal S256x256 .f32} (hz : IsZ x qi t h z) (ht : t = qi) : IsRest x qi t h (leftD z) := fun r c => by
  subst ht
  show Scalar.select (strict (ix2 r c)) (left z (ix2 r c)) (Scalar.ofBits (F := Ideal) .f32 0x00000000#32) = _
  rw [strict_apply, left_coe z r c _ (hz r c)]
  unfold rest
  by_cases hlt : c.val < r.val
  · rw [decide_eq_true hlt, if_pos (by omega)]; rfl
  · rw [decide_eq_false hlt, if_neg (by omega)]
    exact Ideal.ofBits_zero_f32

/-- What a head's running sum holds once the tiles from `t` on are done. -/
def IsCarry (x : ℕ → ℕ → ℝ) (qi t h : ℕ) (C : Vec Ideal S1x256x128 .f32) : Prop :=
  ∀ (r : Fin 256) (u : Fin 128), C (ix3 (0 : Fin 1) r u)
    = ((∑ j ∈ Ico (t * 256) ((qi + 1) * 256), rest (zsb x h (qi * 256 + r.val)) (qi * 256 + r.val) j : ℝ) : EReal)

theorem carry_step {h : ℕ} {L : FVec Ideal S256x256 .f32} {C : Vec Ideal S1x256x128 .f32} (hL : IsRest x qi t h L)
    (hC : IsCarry x qi (t + 1) h C) (ht : t ≤ qi) : IsCarry x qi t h (carryNext L C) := fun r u => by
  rw [carryNext_apply, hC r u, sum_of_coe _ (fun k => hL r k),
    sum_tile (rest (zsb x h (qi * 256 + r.val)) (qi * 256 + r.val)) (t * 256) 256, ← EReal.coe_add, add_comm,
    sum_front _ (by omega : t < qi + 1)]

/-- The later columns of a tile. -/
def IsTri (tri : Vec Ideal S256x256 .bf16) : Prop :=
  ∀ a b : Fin 256, tri (ix2 a b) = (((if b.val < a.val then 1 else 0) : ℝ) : EReal)

theorem wexp_coe {h : ℕ} {z L : FVec Ideal S256x256 .f32} {C : Vec Ideal S1x256x128 .f32} {tri : Vec Ideal S256x256 .bf16} (hz : IsZ x qi t h z)
    (hL : IsRest x qi t h L) (hC : IsCarry x qi (t + 1) h C) (htri : IsTri tri) (ht : t ≤ qi) (hqi : qi < 8) (r c : Fin 256)
    (hk : t * 256 + c.val < qi * 256 + r.val) :
    wexp z L tri C (ix2 r c) = ((weight (zsb x h (qi * 256 + r.val)) (qi * 256 + r.val) (t * 256 + c.val) : ℝ) : EReal) := by
  rw [wexp_apply, logsig_coe z r c _ (hz r c), later_apply, hC r _,
    sum_of_coe (fun c' : Fin 256 => rest (zsb x h (qi * 256 + r.val)) (qi * 256 + r.val) (t * 256 + c'.val) * (if c.val < c'.val then 1 else 0))
      (fun c' => by rw [hL r c', htri c' c, ← EReal.coe_mul]), ← EReal.coe_add, ← EReal.coe_add, Ideal.exp_coe,
    weight_tile (n := qi + 1) _ c (by omega) (by omega) (by omega) hk]

/-- A tile of weights. -/
def IsW (x : ℕ → ℕ → ℝ) (qi t h : ℕ) (w : FVec Ideal S256x256 .bf16) : Prop :=
  ∀ r c : Fin 256, w (ix2 r c) = ((weight (zsb x h (qi * 256 + r.val)) (qi * 256 + r.val) (t * 256 + c.val) : ℝ) : EReal)

theorem isW_wgt {h : ℕ} {z : FVec Ideal S256x256 .f32} {C : Vec Ideal S1x256x128 .f32} {tri : Vec Ideal S256x256 .bf16} (hz : IsZ x qi t h z)
    (hC : IsCarry x qi (t + 1) h C) (htri : IsTri tri) (ht : t < qi) (hqi : qi < 8) : IsW x qi t h (wgt z tri C) := fun r c =>
  wexp_coe hz (isRest_left hz ht) hC htri ht.le hqi r c (by omega)

theorem isW_wgtD {h : ℕ} {z : FVec Ideal S256x256 .f32} {C : Vec Ideal S1x256x128 .f32} {tri : Vec Ideal S256x256 .bf16} (hz : IsZ x qi t h z)
    (hC : IsCarry x qi (t + 1) h C) (htri : IsTri tri) (ht : t = qi) (hqi : qi < 8) : IsW x qi t h (wgtD z tri C) := fun r c => by
  show Scalar.select (strict (ix2 r c)) (wexp z (leftD z) tri C (ix2 r c)) (Scalar.ofBits (F := Ideal) .f32 0x00000000#32) = _
  rw [strict_apply]
  by_cases hlt : c.val < r.val
  · rw [decide_eq_true hlt]
    exact wexp_coe hz (isRest_leftD hz ht) hC htri ht.le hqi r c (by omega)
  · rw [decide_eq_false hlt]
    unfold weight
    rw [if_neg (by omega)]
    exact Ideal.ofBits_zero_f32

/-- What a pair's sums of values hold once the tiles from `t` on are done. -/
def IsAcc (x : ℕ → ℕ → ℝ) (qi t g : ℕ) (A : Vec Ideal S256x128 .f32) : Prop :=
  ∀ (r : Fin 256) (l : Fin 128), A (ix2 r l)
    = ((∑ k ∈ Ico (t * 256) ((qi + 1) * 256), weight (zsb x (2 * g + l.val / 64) (qi * 256 + r.val)) (qi * 256 + r.val) k * x k (1024 + (g * 128 + l.val)) : ℝ) : EReal)

theorem acc_step {g : ℕ} {a b : FVec Ideal S256x256 .bf16} {v : Nat → Vec Ideal S1x256x128 .bf16} {A : Vec Ideal S256x128 .f32}
    (ha : IsW x qi t (2 * g) a) (hb : IsW x qi t (2 * g + 1) b) (hv : HasK x t 1024 v) (hA : IsAcc x qi (t + 1) g A) (hg : g < 4) (ht : t ≤ qi) :
    IsAcc x qi t g (accNext A (vals a b (v g))) := fun r l => by
  have hp : l.val / 64 < 2 := by omega
  have hw : ∀ c : Fin 256, (if l.val / 64 = 0 then a else b) (ix2 r c)
      = ((weight (zsb x (2 * g + l.val / 64) (qi * 256 + r.val)) (qi * 256 + r.val) (t * 256 + c.val) : ℝ) : EReal) := fun c => by
    by_cases h0 : l.val / 64 = 0
    · rw [if_pos h0, ha r c, h0, Nat.add_zero]
    · rw [if_neg h0, hb r c, show l.val / 64 = 1 by omega]
  rw [accNext_apply, hA r l, vals_apply _ _ _ _ hp,
    sum_of_coe (fun c : Fin 256 => weight (zsb x (2 * g + l.val / 64) (qi * 256 + r.val)) (qi * 256 + r.val) (t * 256 + c.val) * x (t * 256 + c.val) (1024 + (g * 128 + l.val)))
      (fun c => by rw [hw c, hv g hg c l, ← EReal.coe_mul]),
    sum_tile (fun k => weight (zsb x (2 * g + l.val / 64) (qi * 256 + r.val)) (qi * 256 + r.val) k * x k (1024 + (g * 128 + l.val))) (t * 256) 256, ← EReal.coe_add, add_comm,
    sum_front (fun k => weight (zsb x (2 * g + l.val / 64) (qi * 256 + r.val)) (qi * 256 + r.val) k * x k (1024 + (g * 128 + l.val))) (by omega : t < qi + 1)]

/-- All tiles done, a pair's sums of values are its heads' outputs. -/
theorem acc_done {g : ℕ} {A : Vec Ideal S256x128 .f32} (hA : IsAcc x qi 0 g A) (hqi : qi < 8) (r : Fin 256) (l : Fin 128) :
    A (ix2 r l) = ((sbOut x (2 * g + l.val / 64) (l.val % 64) (qi * 256 + r.val) : ℝ) : EReal) := by
  rw [hA r l]
  unfold sbOut
  rw [stick_eq _ _ (n := qi + 1) (by omega) (by omega)]
  have e : (2 * g + l.val / 64) * 64 + l.val % 64 = g * 128 + l.val := by omega
  rw [e]

/-! ## The differential heads -/

/-- A row's scores, moved so that the penalty is counted from the first column of the queries' tile. -/
def moved (x : ℕ → ℕ → ℝ) (g p q0 q k : ℕ) : ℝ := expo (ydf x g p q) (slope g * ((q : ℝ) - q0)) q k

/-- A tile of scores, in powers of two: a score for the columns not after their row. -/
def IsS (x : ℕ → ℕ → ℝ) (qi t h : ℕ) (s : FVec Ideal S256x256 .f32) : Prop :=
  ∀ r c : Fin 256, s (ix2 r c) = if t * 256 + c.val ≤ qi * 256 + r.val then
    (((ydf x (h / 2) (h % 2) (qi * 256 + r.val) (t * 256 + c.val) + Spec.slope (h / 2) * ((qi * 256 + r.val : ℕ) - (qi * 256 : ℕ) : ℝ)) * (Real.log 2)⁻¹ : ℝ) : EReal)
    else ⊥

theorem score_coe {h : ℕ} {q : Nat → Vec Ideal S1x512x128 .bf16} {k : Nat → Vec Ideal S1x256x128 .bf16}
    (hq : HasQ x qi 1536 q) (hk : HasK x t 2048 k) (hh : h < 8) {n : BitVec 32} (hn : n.toInt = ((t : ℤ) - qi) * 256) (r c : Fin 256) :
    score (rate (h / 2)) (offs n) (logits k q h) (ix2 r c) =
      (((ydf x (h / 2) (h % 2) (qi * 256 + r.val) (t * 256 + c.val) + Spec.slope (h / 2) * ((qi * 256 + r.val : ℕ) - (qi * 256 : ℕ) : ℝ)) * (Real.log 2)⁻¹ : ℝ) : EReal) := by
  rw [score_apply, logits_coe x qi t hq hk h hh r c, named_log2e, rate_coe _ (by omega), offs_apply, hn, ← EReal.coe_mul, ← EReal.coe_mul, ← EReal.coe_add]
  congr 1
  rw [ydf_dotl]
  unfold Spec.slope
  push_cast
  ring

theorem isS_score {h : ℕ} {q : Nat → Vec Ideal S1x512x128 .bf16} {k : Nat → Vec Ideal S1x256x128 .bf16}
    (hq : HasQ x qi 1536 q) (hk : HasK x t 2048 k) (hh : h < 8) {n : BitVec 32} (hn : n.toInt = ((t : ℤ) - qi) * 256) (ht : t < qi) :
    IsS x qi t h (score (rate (h / 2)) (offs n) (logits k q h)) := fun r c => by
  rw [score_coe hq hk hh hn r c, if_pos (by omega)]

theorem isS_scoreD {h : ℕ} {q : Nat → Vec Ideal S1x512x128 .bf16} {k : Nat → Vec Ideal S1x256x128 .bf16}
    (hq : HasQ x qi 1536 q) (hk : HasK x t 2048 k) (hh : h < 8) {n : BitVec 32} (hn : n.toInt = ((t : ℤ) - qi) * 256) (ht : t = qi) :
    IsS x qi t h (scoreD (rate (h / 2)) (offs n) (logits k q h)) := fun r c => by
  show Scalar.select (causal (ix2 r c)) (score (rate (h / 2)) (offs n) (logits k q h) (ix2 r c)) (Named.named κ "mask" 0xF149F2CA#32 : Ideal .f32) = _
  rw [causal_apply, score_coe hq hk hh hn r c, named_mask]
  by_cases hlt : c.val ≤ r.val
  · rw [decide_eq_true hlt, if_pos (by omega)]; rfl
  · rw [decide_eq_false hlt, if_neg (by omega)]; rfl

/-- A maximum of reals and `⊥`, one of them real, is real. -/
theorem fold_real {n : ℕ} (f : Fin n → EReal) (b : EReal) (hb : b ≠ ⊤) (hf : ∀ c, f c ≠ ⊤) (c : Fin n) (hc : f c ≠ ⊥) :
    ∃ μ : ℝ, max b (Finset.univ.fold max ⊥ f) = (μ : EReal) := by
  have h1 : max b (Finset.univ.fold max ⊥ f) < ⊤ := max_lt (lt_top_iff_ne_top.mpr hb)
    ((Finset.fold_max_lt (s := Finset.univ) (f := f) (b := ⊥) ⊤).mpr ⟨bot_lt_top, fun c _ => lt_top_iff_ne_top.mpr (hf c)⟩)
  have h2 : ⊥ < max b (Finset.univ.fold max ⊥ f) := lt_max_of_lt_right
    ((Finset.lt_fold_max (s := Finset.univ) (f := f) (b := ⊥) ⊥).mpr (Or.inr ⟨c, Finset.mem_univ c, bot_lt_iff_ne_bot.mpr hc⟩))
  exact ⟨_, (EReal.coe_toReal h1.ne h2.ne').symm⟩

/-- What a map's maximum, lane sums and sums of values hold in row `r` once the tiles from `t` on are done: before the
    first tile nothing, after it the sums up to a power of two. -/
def IsMap (x : ℕ → ℕ → ℝ) (qi t h : ℕ) (M L D : Vec Ideal S1x256x128 .f32) (r : Fin 256) : Prop :=
  (t = qi + 1 ∧ ∀ u : Fin 128, M (ix3 (0 : Fin 1) r u) = (⊥ : EReal) ∧ L (ix3 (0 : Fin 1) r u) = (0 : EReal) ∧ D (ix3 (0 : Fin 1) r u) = (0 : EReal)) ∨
  ∃ μ : ℝ, ∀ u : Fin 128, M (ix3 (0 : Fin 1) r u) = (μ : EReal)
    ∧ L (ix3 (0 : Fin 1) r u) = ((Real.rpow 2 (-μ) * ∑ τ ∈ Ico t (qi + 1),
        (moved x (h / 2) (h % 2) (qi * 256) (qi * 256 + r.val) (τ * 256 + u.val) + moved x (h / 2) (h % 2) (qi * 256) (qi * 256 + r.val) (τ * 256 + (128 + u.val))) : ℝ) : EReal)
    ∧ D (ix3 (0 : Fin 1) r u) = ((Real.rpow 2 (-μ) * ∑ k ∈ Ico (t * 256) ((qi + 1) * 256),
        moved x (h / 2) (h % 2) (qi * 256) (qi * 256 + r.val) k * x k (2560 + (h / 2 * 128 + u.val)) : ℝ) : EReal)

theorem isMap_start {h : ℕ} {M L D : Vec Ideal S1x256x128 .f32} (r : Fin 256) (hM : M = fun _ => (⊥ : EReal)) (hL : L = fun _ => (0 : EReal))
    (hD : D = fun _ => (0 : EReal)) : IsMap x qi (qi + 1) h M L D r := by
  subst hM hL hD
  exact Or.inl ⟨rfl, fun _ => ⟨rfl, rfl, rfl⟩⟩

/-- The new maximum of a row is real, the same on every lane. -/
theorem max_step {h : ℕ} {s : FVec Ideal S256x256 .f32} {M L D : Vec Ideal S1x256x128 .f32} {r : Fin 256} (hs : IsS x qi t h s)
    (hM : IsMap x qi (t + 1) h M L D r) (ht : t ≤ qi) : ∃ μ : ℝ, ∀ u : Fin 128, maxNext s M (ix2 r u) = (μ : EReal) := by
  have hb : ∃ b : EReal, b ≠ ⊤ ∧ ∀ u : Fin 128, M (ix3 (0 : Fin 1) r u) = b := by
    rcases hM with ⟨_, h⟩ | ⟨μ, h⟩
    · exact ⟨⊥, bot_ne_top, fun u => (h u).1⟩
    · exact ⟨μ, EReal.coe_ne_top μ, fun u => (h u).1⟩
  obtain ⟨b, hbt, hbu⟩ := hb
  obtain ⟨μ, hμ⟩ := fold_real (fun c : Fin 256 => (s (ix2 r c) : EReal)) b hbt
    (fun c => by rw [hs r c]; split; exacts [EReal.coe_ne_top _, bot_ne_top]) 0
    (by rw [hs r 0, if_pos (by show t * 256 + 0 ≤ _; omega)]; exact EReal.coe_ne_bot _)
  exact ⟨μ, fun u => by rw [maxNext_apply, hbu u, hμ]⟩

/-- A tile's powers. -/
theorem pow_coe {h : ℕ} {s : FVec Ideal S256x256 .f32} {M : Vec Ideal S1x256x128 .f32} {r : Fin 256} (hs : IsS x qi t h s) {μ : ℝ}
    (hμ : ∀ u : Fin 128, maxNext s M (ix2 r u) = (μ : EReal)) (c : Fin 256) :
    pow s M (ix2 r c) = ((Real.rpow 2 (-μ) * moved x (h / 2) (h % 2) (qi * 256) (qi * 256 + r.val) (t * 256 + c.val) : ℝ) : EReal) := by
  rw [pow_apply, hμ, hs r c]
  unfold moved expo
  split
  · rw [← EReal.coe_sub, Ideal.exp2_coe, two_rpow_sub, two_rpow, mul_comm]
  · rw [EReal.bot_sub, Ideal.exp2_bot, mul_zero]; rfl

theorem two_rpow_shift (ν μ : ℝ) : Real.rpow 2 (ν - μ) * Real.rpow 2 (-ν) = Real.rpow 2 (-μ) := by
  simp only [Real.rpow_eq_pow]
  rw [← Real.rpow_add (by norm_num)]
  congr 1
  ring

theorem map_step {h : ℕ} {s : FVec Ideal S256x256 .f32} {M L D : Vec Ideal S1x256x128 .f32} {r : Fin 256} {p : FVec Ideal S256x128 .f32}
    (hs : IsS x qi t h s) (hM : IsMap x qi (t + 1) h M L D r) (ht : t ≤ qi)
    (hp : ∀ u : Fin 128, p (ix2 r u) = ∑ c : Fin 256, (pow s M (ix2 r c) : EReal) * ((x (t * 256 + c.val) (2560 + (h / 2 * 128 + u.val)) : ℝ) : EReal)) :
    IsMap x qi t h (slabOf (maxNext s M)) (sumNext s M L) (dNext s M D p) r := by
  obtain ⟨μ, hμ⟩ := max_step hs hM ht
  have hpu : ∀ u : Fin 128, p (ix2 r u) = ((Real.rpow 2 (-μ) * ∑ k ∈ Ico (t * 256) (t * 256 + 256),
      moved x (h / 2) (h % 2) (qi * 256) (qi * 256 + r.val) k * x k (2560 + (h / 2 * 128 + u.val)) : ℝ) : EReal) := fun u => by
    rw [hp u, ← sum_tile (fun k => moved x (h / 2) (h % 2) (qi * 256) (qi * 256 + r.val) k * x k (2560 + (h / 2 * 128 + u.val))) (t * 256) 256, Finset.mul_sum]
    exact sum_of_coe _ fun c => by rw [pow_coe hs hμ c, ← EReal.coe_mul, mul_assoc]
  refine Or.inr ⟨μ, fun u => ⟨by rw [slabOf_apply, hμ u], ?_, ?_⟩⟩
  · rw [sumNext_apply, fade_apply, hμ u, pow_coe hs hμ, pow_coe hs hμ, Finset.sum_eq_sum_Ico_succ_bot (by omega : t < qi + 1)]
    rcases hM with ⟨e, h0⟩ | ⟨ν, h0⟩
    · have e' : t = qi := by omega
      rw [(h0 u).1, (h0 u).2.1, EReal.bot_sub, Ideal.exp2_bot, zero_mul, zero_add, ← EReal.coe_add, e', Finset.Ico_self, Finset.sum_empty, add_zero, mul_add]
    · rw [(h0 u).1, (h0 u).2.1, ← EReal.coe_sub, Ideal.exp2_coe, ← EReal.coe_mul, ← EReal.coe_add, ← EReal.coe_add, ← mul_assoc,
        two_rpow_shift ν μ]
      congr 1
      ring
  · rw [dNext_apply, fade_apply, hμ u, hpu u, ← sum_front (fun k => moved x (h / 2) (h % 2) (qi * 256) (qi * 256 + r.val) k * x k (2560 + (h / 2 * 128 + u.val))) (by omega : t < qi + 1)]
    rcases hM with ⟨e, h0⟩ | ⟨ν, h0⟩
    · have e' : t = qi := by omega
      rw [(h0 u).1, (h0 u).2.2, EReal.bot_sub, Ideal.exp2_bot, zero_mul, zero_add, e', Finset.Ico_self, Finset.sum_empty, add_zero]
    · rw [(h0 u).1, (h0 u).2.2, ← EReal.coe_sub, Ideal.exp2_coe, ← EReal.coe_mul, ← EReal.coe_add, ← mul_assoc,
        two_rpow_shift ν μ]
      congr 1
      ring

end

end Cert.Tile
-- ==== Proof.Sweep.lean ====
/-
  One tile of the kernel's sweep, in what the buffers hold: from the tiles after it to the tiles from it on.
-/
module

public import proofs.«01_k».proof.Proof.Steps

@[expose] public section

noncomputable section

namespace Cert.Tile

open Idealize.ShloMosaic Idealize.ShloMosaic.TcCoe Idealize.SL.Sem Cert.KernelIdeal Cert.KernelIdeal.Gen Cert.Rows Cert.Spec
open Finset (Ico)

/-- The stick-breaking heads once the tiles from `t` on are done. -/
structure IsSb (x : ℕ → ℕ → ℝ) (qi t : ℕ) (C : Nat → Vec Ideal S1x256x128 .f32) (A : Nat → Vec Ideal S256x128 .f32) : Prop where
  carry : ∀ h, h < 8 → IsCarry x qi t h (C h)
  acc : ∀ g, g < 4 → IsAcc x qi t g (A g)

/-- The differential heads once the tiles from `t` on are done. -/
def IsDf (x : ℕ → ℕ → ℝ) (qi t : ℕ) (M L D : Nat → Vec Ideal S1x256x128 .f32) : Prop :=
  ∀ h, h < 8 → ∀ r, IsMap x qi t h (M h) (L h) (D h) r

variable {x : ℕ → ℕ → ℝ} {qi t : ℕ} {q : Nat → Vec Ideal S1x512x128 .bf16} {k v : Nat → Vec Ideal S1x256x128 .bf16}
  {tri : Vec Ideal S256x256 .bf16} {C M L D : Nat → Vec Ideal S1x256x128 .f32} {A : Nat → Vec Ideal S256x128 .f32}

theorem sb_step (hq : HasQ x qi 0 q) (hk : HasK x t 512 k) (hv : HasK x t 1024 v) (htri : IsTri tri) (hS : IsSb x qi (t + 1) C A)
    (ht : t < qi) (hqi : qi < 8) :
    IsSb x qi t (fun h => carryNext (left (logits k q h)) (C h)) (gain (logits k q) tri C v A) where
  carry h hh := carry_step (isRest_left (isZ x qi t hq hk h hh) ht) (hS.carry h hh) (by omega)
  acc g hg := acc_step (isW_wgt (isZ x qi t hq hk (2 * g) (by omega)) (hS.carry (2 * g) (by omega)) htri ht hqi)
    (isW_wgt (isZ x qi t hq hk (2 * g + 1) (by omega)) (hS.carry (2 * g + 1) (by omega)) htri ht hqi) hv (hS.acc g hg) hg (by omega)

theorem sb_first (hq : HasQ x qi 0 q) (hk : HasK x qi 512 k) (hv : HasK x qi 1024 v) (htri : IsTri tri) (hS : IsSb x qi (qi + 1) C A)
    (hqi : qi < 8) :
    IsSb x qi qi (fun h => carryNext (leftD (logits k q h)) (C h)) (gainD (logits k q) tri C v A) where
  carry h hh := carry_step (isRest_leftD (isZ x qi qi hq hk h hh) rfl) (hS.carry h hh) le_rfl
  acc g hg := acc_step (isW_wgtD (isZ x qi qi hq hk (2 * g) (by omega)) (hS.carry (2 * g) (by omega)) htri rfl hqi)
    (isW_wgtD (isZ x qi qi hq hk (2 * g + 1) (by omega)) (hS.carry (2 * g + 1) (by omega)) htri rfl hqi) hv (hS.acc g hg) hg le_rfl

/-- Before the first tile the sums are zero. -/
theorem sb_start (hC : ∀ h, h < 8 → C h = fun _ => (0 : EReal)) (hA : ∀ g, g < 4 → A g = fun _ => (0 : EReal)) : IsSb x qi (qi + 1) C A where
  carry h hh := fun r u => by rw [hC h hh, Finset.Ico_self, Finset.sum_empty]; rfl
  acc g hg := fun r l => by rw [hA g hg, Finset.Ico_self, Finset.sum_empty]; rfl

theorem df_start (hM : ∀ h, h < 8 → M h = fun _ => (⊥ : EReal)) (hL : ∀ h, h < 8 → L h = fun _ => (0 : EReal)) (hD : ∀ h, h < 8 → D h = fun _ => (0 : EReal)) :
    IsDf x qi (qi + 1) M L D := fun h hh r => isMap_start r (hM h hh) (hL h hh) (hD h hh)

theorem pvals_half (s s' : FVec Ideal S256x256 .f32) (m m' : Vec Ideal S1x256x128 .f32) (w : Vec Ideal S1x256x128 .bf16) (r : Fin 256) (u : Fin 128) :
    halfv 0 (pvals s s' m m' w) (ix2 r u) = ∑ c : Fin 256, (pow s m (ix2 r c) : EReal) * w (ix3 (0 : Fin 1) c u)
    ∧ halfv 1 (pvals s s' m m' w) (ix2 r u) = ∑ c : Fin 256, (pow s' m' (ix2 r c) : EReal) * w (ix3 (0 : Fin 1) c u) :=
  ⟨vals_apply _ _ w 0 (by omega) r u, vals_apply _ _ w 1 (by omega) r u⟩

theorem df_step {s : Nat → FVec Ideal S256x256 .f32} (hs : ∀ h, h < 8 → IsS x qi t h (s h)) (hv : HasK x t 2560 v) (hS : IsDf x qi (t + 1) M L D)
    (ht : t ≤ qi) : IsDf x qi t (fun h => slabOf (maxNext (s h) (M h))) (fun h => sumNext (s h) (M h) (L h)) (dgain s M v D) := fun h hh r => by
  refine map_step (hs h hh) (hS h hh r) ht fun u => ?_
  simp only [← hv (h / 2) (by omega)]
  rcases Nat.mod_two_eq_zero_or_one h with e | e
  · rw [e, (pvals_half _ _ _ _ _ r u).1, show 2 * (h / 2) = h by omega]
  · rw [e, (pvals_half _ _ _ _ _ r u).2, show 2 * (h / 2) + 1 = h by omega]

end Cert.Tile
-- ==== Proof.Trip.lean ====
/-
  What one trip of the kernel's loop stores, head by head, in the stages of `Tile`.
-/
module

public import proofs.«01_k».proof.Proof.Tile

@[expose] public section

noncomputable section

namespace Cert.Tile

open Idealize.ShloMosaic Idealize.ShloMosaic.TcCoe Idealize.SL.Sem Cert.KernelIdeal Cert.KernelIdeal.Gen

variable {F : FTy → Type} [FloatOps F] [Named F]

/-- The tile of keys or values a trip reads, for each pair of heads. -/
def tkey (i : grid0.Coords) (k : Fin (k0_t1_loop i).trips) (a : View sig .tc .vmem S1x2048x512 .bf16) (f : a.ty.Contents (Elt F)) (g : Nat) :
    Vec F S1x256x128 .bf16 := match g with
  | 0 => View.readAt (Elt F) a (Rect.unit (s := S1x2048x512) (k0_off5 i k) S1x256x128.size (k0_off5_inb i k)).toLoadRect f
  | 1 => View.readAt (Elt F) a (Rect.unit (s := S1x2048x512) (k0_off6 i k) S1x256x128.size (k0_off6_inb i k)).toLoadRect f
  | 2 => View.readAt (Elt F) a (Rect.unit (s := S1x2048x512) (k0_off7 i k) S1x256x128.size (k0_off7_inb i k)).toLoadRect f
  | _ => View.readAt (Elt F) a (Rect.unit (s := S1x2048x512) (k0_off8 i k) S1x256x128.size (k0_off8_inb i k)).toLoadRect f

/-- The tile's first column, counted from the first column of the queries' tile, as the trip computes it. -/
def tshift (i : grid0.Coords) (k : Fin (k0_t1_loop i).trips) : BitVec 32 :=
  Scalar.muli (Scalar.subi (Scalar.subi (BitVec.ofNat 32 (i 1).val) (Scf.iv 1#32 1#32 k)) (BitVec.ofNat 32 (i 1).val)) 256#32

/-- The scores of a trip. -/
def tscore (i : grid0.Coords) (k : Fin (k0_t1_loop i).trips) (kd : Nat → Vec F S1x256x128 .bf16) (q : Nat → Vec F S1x512x128 .bf16) (h : Nat) :
    FVec F S256x256 .f32 := score (rate (h / 2)) (offs (tshift i k)) (logits kd q h)

/-- The whole of the triangle buffer. -/
def whole16 (a : View sig .tc .vmem S256x256 .bf16) (f : a.ty.Contents (Elt F)) : Vec F S256x256 .bf16 :=
  View.readAt (Elt F) a (Rect.unit (s := S256x256) ![0, 0] S256x256.size inb_S256x256_S256x256_0_0).toLoadRect f

theorem trip_acc (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole) (v117 : IVec S256x256 32) (v118 : IVec S256x256 32) (c1 : BitVec 32) (X_arg8 : BufTy.Contents (Elt F) arg8.view.ty) (X_arg9 : BufTy.Contents (Elt F) arg9.view.ty) (X_arg11 : BufTy.Contents (Elt F) arg11.view.ty) (X_arg12 : BufTy.Contents (Elt F) arg12.view.ty) (X_arg14 : BufTy.Contents (Elt F) arg14.view.ty) (X_arg15 : BufTy.Contents (Elt F) arg15.view.ty) (X_arg16 : BufTy.Contents (Elt F) arg16.view.ty) (k : Fin (k0_t1_loop i).trips) (acc : BitVec 32) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 v117 v118 k0_pay347 c1 X_arg8 X_arg9 X_arg11 X_arg12 X_arg14 X_arg15 X_arg16 k acc f_arg17 f_arg18 f_arg19 f_arg20 f_arg21).1 =
      putCols (gain (logits (tkey i k arg8.view X_arg8) (fun g => View.readAt (Elt F) arg14.view (rqslab g).toLoadRect X_arg14)) (whole16 arg16.view X_arg16) (fun h => View.readAt (Elt F) arg18.view (rslab h).toLoadRect f_arg18) (tkey i k arg9.view X_arg9) (fun g => View.readAt (Elt F) arg17.view (rcols g).toLoadRect f_arg17)) := by
  unfold tripL_k0_t1 trip_k0_t1
  dsimp only
  with_unfolding_all rfl

theorem trip_carry (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole) (v117 : IVec S256x256 32) (v118 : IVec S256x256 32) (c1 : BitVec 32) (X_arg8 : BufTy.Contents (Elt F) arg8.view.ty) (X_arg9 : BufTy.Contents (Elt F) arg9.view.ty) (X_arg11 : BufTy.Contents (Elt F) arg11.view.ty) (X_arg12 : BufTy.Contents (Elt F) arg12.view.ty) (X_arg14 : BufTy.Contents (Elt F) arg14.view.ty) (X_arg15 : BufTy.Contents (Elt F) arg15.view.ty) (X_arg16 : BufTy.Contents (Elt F) arg16.view.ty) (k : Fin (k0_t1_loop i).trips) (acc : BitVec 32) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 v117 v118 k0_pay347 c1 X_arg8 X_arg9 X_arg11 X_arg12 X_arg14 X_arg15 X_arg16 k acc f_arg17 f_arg18 f_arg19 f_arg20 f_arg21).2.1 =
      puts (fun h => carryNext (left (logits (tkey i k arg8.view X_arg8) (fun g => View.readAt (Elt F) arg14.view (rqslab g).toLoadRect X_arg14) h)) ((fun h => View.readAt (Elt F) arg18.view (rslab h).toLoadRect f_arg18) h)) := by
  unfold tripL_k0_t1 trip_k0_t1
  dsimp only
  with_unfolding_all rfl

theorem trip_max (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole) (v117 : IVec S256x256 32) (v118 : IVec S256x256 32) (c1 : BitVec 32) (X_arg8 : BufTy.Contents (Elt F) arg8.view.ty) (X_arg9 : BufTy.Contents (Elt F) arg9.view.ty) (X_arg11 : BufTy.Contents (Elt F) arg11.view.ty) (X_arg12 : BufTy.Contents (Elt F) arg12.view.ty) (X_arg14 : BufTy.Contents (Elt F) arg14.view.ty) (X_arg15 : BufTy.Contents (Elt F) arg15.view.ty) (X_arg16 : BufTy.Contents (Elt F) arg16.view.ty) (k : Fin (k0_t1_loop i).trips) (acc : BitVec 32) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 v117 v118 k0_pay347 c1 X_arg8 X_arg9 X_arg11 X_arg12 X_arg14 X_arg15 X_arg16 k acc f_arg17 f_arg18 f_arg19 f_arg20 f_arg21).2.2.1 =
      puts (fun h => slabOf (maxNext (tscore i k (tkey i k arg11.view X_arg11) (fun g => View.readAt (Elt F) arg15.view (rqslab g).toLoadRect X_arg15) h) ((fun h => View.readAt (Elt F) arg19.view (rslab h).toLoadRect f_arg19) h))) := by
  unfold tripL_k0_t1 trip_k0_t1
  dsimp only
  with_unfolding_all rfl

theorem trip_sum (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole) (v117 : IVec S256x256 32) (v118 : IVec S256x256 32) (c1 : BitVec 32) (X_arg8 : BufTy.Contents (Elt F) arg8.view.ty) (X_arg9 : BufTy.Contents (Elt F) arg9.view.ty) (X_arg11 : BufTy.Contents (Elt F) arg11.view.ty) (X_arg12 : BufTy.Contents (Elt F) arg12.view.ty) (X_arg14 : BufTy.Contents (Elt F) arg14.view.ty) (X_arg15 : BufTy.Contents (Elt F) arg15.view.ty) (X_arg16 : BufTy.Contents (Elt F) arg16.view.ty) (k : Fin (k0_t1_loop i).trips) (acc : BitVec 32) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 v117 v118 k0_pay347 c1 X_arg8 X_arg9 X_arg11 X_arg12 X_arg14 X_arg15 X_arg16 k acc f_arg17 f_arg18 f_arg19 f_arg20 f_arg21).2.2.2.1 =
      puts (fun h => sumNext (tscore i k (tkey i k arg11.view X_arg11) (fun g => View.readAt (Elt F) arg15.view (rqslab g).toLoadRect X_arg15) h) ((fun h => View.readAt (Elt F) arg19.view (rslab h).toLoadRect f_arg19) h) ((fun h => View.readAt (Elt F) arg20.view (rslab h).toLoadRect f_arg20) h)) := by
  unfold tripL_k0_t1 trip_k0_t1
  dsimp only
  with_unfolding_all rfl

theorem trip_val (𝒱 : Variants) (c : Dev nD) (bd : Option 𝒱.V) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole) (v117 : IVec S256x256 32) (v118 : IVec S256x256 32) (c1 : BitVec 32) (X_arg8 : BufTy.Contents (Elt F) arg8.view.ty) (X_arg9 : BufTy.Contents (Elt F) arg9.view.ty) (X_arg11 : BufTy.Contents (Elt F) arg11.view.ty) (X_arg12 : BufTy.Contents (Elt F) arg12.view.ty) (X_arg14 : BufTy.Contents (Elt F) arg14.view.ty) (X_arg15 : BufTy.Contents (Elt F) arg15.view.ty) (X_arg16 : BufTy.Contents (Elt F) arg16.view.ty) (k : Fin (k0_t1_loop i).trips) (acc : BitVec 32) (f_arg17 : BufTy.Contents (Elt F) arg17.view.ty) (f_arg18 : BufTy.Contents (Elt F) arg18.view.ty) (f_arg19 : BufTy.Contents (Elt F) arg19.view.ty) (f_arg20 : BufTy.Contents (Elt F) arg20.view.ty) (f_arg21 : BufTy.Contents (Elt F) arg21.view.ty) :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 v117 v118 k0_pay347 c1 X_arg8 X_arg9 X_arg11 X_arg12 X_arg14 X_arg15 X_arg16 k acc f_arg17 f_arg18 f_arg19 f_arg20 f_arg21).2.2.2.2 =
      puts (dgain (tscore i k (tkey i k arg11.view X_arg11) (fun g => View.readAt (Elt F) arg15.view (rqslab g).toLoadRect X_arg15)) (fun h => View.readAt (Elt F) arg19.view (rslab h).toLoadRect f_arg19) (tkey i k arg12.view X_arg12) (fun h => View.readAt (Elt F) arg21.view (rslab h).toLoadRect f_arg21)) := by
  unfold tripL_k0_t1 trip_k0_t1
  dsimp only
  with_unfolding_all rfl

end Cert.Tile
-- ==== Proof.Diag.lean ====
/-
  What the diagonal tile and the end of the kernel's body store, in the stages of `Tile`.
-/
module

public import proofs.«01_k».proof.Proof.Trip

@[expose] public section

noncomputable section

namespace Cert.Tile

open Idealize.ShloMosaic Idealize.ShloMosaic.TcCoe Idealize.SL.Sem Cert.KernelIdeal Cert.KernelIdeal.Gen

variable {F : FTy → Type} [FloatOps F] [Named F]

/-- The tile of keys or values that the diagonal reads, for each pair of heads. -/
def dkey (i : grid0.Coords) (a : View sig .tc .vmem S1x2048x512 .bf16) (f : a.ty.Contents (Elt F)) (g : Nat) :
    Vec F S1x256x128 .bf16 := match g with
  | 0 => View.readAt (Elt F) a (Rect.unit (s := S1x2048x512) (k0_off1 i) S1x256x128.size (k0_off1_inb i)).toLoadRect f
  | 1 => View.readAt (Elt F) a (Rect.unit (s := S1x2048x512) (k0_off2 i) S1x256x128.size (k0_off2_inb i)).toLoadRect f
  | 2 => View.readAt (Elt F) a (Rect.unit (s := S1x2048x512) (k0_off3 i) S1x256x128.size (k0_off3_inb i)).toLoadRect f
  | _ => View.readAt (Elt F) a (Rect.unit (s := S1x2048x512) (k0_off4 i) S1x256x128.size (k0_off4_inb i)).toLoadRect f

/-- The diagonal tile's first column, counted from the first column of the queries' tile. -/
def dshift (i : grid0.Coords) : BitVec 32 :=
  Scalar.muli (Scalar.subi (BitVec.ofNat 32 (i 1).val) (BitVec.ofNat 32 (i 1).val)) 256#32

/-- The scores of the diagonal tile. -/
def dscore (i : grid0.Coords) (kd : Nat → Vec F S1x256x128 .bf16) (q : Nat → Vec F S1x512x128 .bf16) (h : Nat) :
    FVec F S256x256 .f32 := scoreD (rate (h / 2)) (offs (dshift i)) (logits kd q h)

/-- The queries, scaled. -/
def scaled (q : Vec F S1x256x512 .bf16) : FVec F S256x512 .bf16 :=
  mulf (shapeCast S256x512 q shapeCasts_S1x256x512_S256x512) (broadcast S256x512 (Scalar.ofBits .bf16 0x3E00#16))

/-- The scaled queries of a pair of heads. -/
def qcut (q : Vec F S1x256x512 .bf16) (g : Nat) : FVec F S256x128 .bf16 :=
  extractStridedSlice S256x128 ![0, g % 4 * 128] (scaled q) ⟨rfl, cols_inb g⟩

/-- Nothing. -/
def none16 : FVec F S256x128 .bf16 := broadcast S256x128 (Scalar.ofBits .bf16 0x0000#16)

/-- The queries of one head of a pair, the other head's lanes zero. -/
def qpart (q : Vec F S1x256x512 .bf16) (g p : Nat) : FVec F S1x256x128 .bf16 :=
  shapeCast S1x256x128 (match p with | 0 => select low (qcut q g) none16 | _ => select low none16 (qcut q g)) shapeCasts_S256x128_S1x256x128

theorem rqpart_inb (g p : Nat) : ∀ a : Fin S4x512x128.rank, (![g % 4, p % 2 * 256, 0] : Fin 3 → Nat) a + S1x256x128.size a ≤ S4x512x128.size a := fun x => match x with
  | ⟨0, _⟩ => by show g % 4 + 1 ≤ 4; omega
  | ⟨1, _⟩ => by show p % 2 * 256 + 256 ≤ 512; omega
  | ⟨2, _⟩ => by show 0 + 128 ≤ 128; omega

/-- Where the queries of one head are stored. -/
def rqpart (g p : Nat) : Rect S4x512x128 := Rect.unit (s := S4x512x128) ![g % 4, p % 2 * 256, 0] S1x256x128.size (rqpart_inb g p)

/-- The stores of the queries, the last first. -/
def putQueries (w : Nat → Nat → FVec F S1x256x128 .bf16) : List (View.Piece (Elt F) S4x512x128 .bf16) :=
  [⟨rqpart 3 1, w 3 1⟩, ⟨rqpart 3 0, w 3 0⟩, ⟨rqpart 2 1, w 2 1⟩, ⟨rqpart 2 0, w 2 0⟩,
   ⟨rqpart 1 1, w 1 1⟩, ⟨rqpart 1 0, w 1 0⟩, ⟨rqpart 0 1, w 0 1⟩, ⟨rqpart 0 0, w 0 0⟩]

/-- The factor of the second map. -/
def lambda (a b c e : Vec F S1x64 .f32) : FVec F S1x1 .f32 :=
  addf (subf
    (exp (shapeCast S1x1 (multiReduction .add [1] S1 (mulf (shapeCast S1x64 a shapeCasts_S1x64_S1x64) (shapeCast S1x64 b shapeCasts_S1x64_S1x64)) 0x00000000#32 reduces_S1x64_S1 (.inl rfl) rfl) shapeCasts_S1_S1x1))
    (exp (shapeCast S1x1 (multiReduction .add [1] S1 (mulf (shapeCast S1x64 c shapeCasts_S1x64_S1x64) (shapeCast S1x64 e shapeCasts_S1x64_S1x64)) 0x00000000#32 reduces_S1x64_S1 (.inl rfl) rfl) shapeCasts_S1_S1x1)))
    (broadcast S1x1 (Scalar.ofBits .f32 0x3E4CCCCD#32))

/-- A row's total, as a column. -/
def total (x : FVec F S256x128 .f32) : FVec F S256x1 .f32 :=
  shapeCast S256x1 (multiReduction .add [1] S256 x 0x00000000#32 reduces_S256x128_S256 (.inl rfl) rfl) shapeCasts_S256_S256x1

/-- A map's values over its sum. -/
def quot (a l : Vec F S1x256x128 .f32) : FVec F S256x128 .f32 := divf (flat a) (broadcastTo S256x128 (total (flat l)) broadcasts_S256x1_S256x128)

/-- The difference of the two maps. -/
def both (lam : FVec F S1x1 .f32) (l0 l1 a0 a1 : Vec F S1x256x128 .f32) : FVec F S256x128 .f32 :=
  subf (quot a0 l0) (mulf (broadcastTo S256x128 lam broadcasts_S1x1_S256x128) (quot a1 l1))

/-- A head normalised over its lanes. -/
def normed (o : FVec F S256x128 .f32) (g : Vec F S1x128 .f32) : FVec F S1x256x128 .bf16 :=
  shapeCast S1x256x128 (truncf .bf16 (mulf (mulf (mulf o
    (broadcastTo S256x128 (rsqrt (addf (divf (total (mulf o o)) (broadcast S256x1 (Scalar.ofBits .f32 0x43000000#32)))
      (broadcast S256x1 (Scalar.ofBits .f32 0x3727C5AC#32)))) broadcasts_S256x1_S256x128))
    (broadcastTo S256x128 (shapeCast S1x128 g shapeCasts_S1x128_S1x128) broadcasts_S1x128_S256x128))
    (broadcast S256x128 (Scalar.ofBits .f32 0x3F4CCCCD#32))) bitsLt_bf16_f32) shapeCasts_S256x128_S1x256x128

/-- The running sums as the diagonal tile finds them. -/
def dC (c : Dev nD) (i : grid0.Coords) (arg7 : Memref sig .tc .vmem S1x256x512 .bf16) (harg7 : arg7.IsWhole) (arg8 : Memref sig .tc .vmem S1x2048x512 .bf16) (harg8 : arg8.IsWhole) (arg14 : Memref sig .tc .vmem S4x512x128 .bf16) (arg18 : Memref sig .tc .vmem S8x256x128 .f32) (x5 : Vec F S1x256x512 .bf16) (x6 : Vec F S1x2048x512 .bf16) (h : Nat) : Vec F S1x256x128 .f32 := match h with
  | 0 => (kernelRun0_A.sl.v224 (F := F) c arg18)
  | 1 => (kernelRun0_A.sl.v344 (F := F) c i arg7 harg7 arg8 harg8 arg14 arg18 x5 x6)
  | 2 => (kernelRun0_A.sl.v377 (F := F) c i arg7 harg7 arg8 harg8 arg14 arg18 x5 x6)
  | 3 => (kernelRun0_A.sl.v532 (F := F) c i arg7 harg7 arg8 harg8 arg14 arg18 x5 x6)
  | 4 => (kernelRun0_A.sl.v565 (F := F) c i arg7 harg7 arg8 harg8 arg14 arg18 x5 x6)
  | 5 => (kernelRun0_A.sl.v712 (F := F) c i arg7 harg7 arg8 harg8 arg14 arg18 x5 x6)
  | 6 => (kernelRun0_A.sl.v732 (F := F) c i arg7 harg7 arg8 harg8 arg14 arg18 x5 x6)
  | _ => (kernelRun0_A.sl.v857 (F := F) c i arg7 harg7 arg8 harg8 arg14 arg18 x5 x6)

/-- The running maxima as the diagonal tile finds them. -/
def dM (c : Dev nD) (i : grid0.Coords) (arg10 : Memref sig .tc .vmem S1x256x512 .bf16) (harg10 : arg10.IsWhole) (arg11 : Memref sig .tc .vmem S1x2048x512 .bf16) (harg11 : arg11.IsWhole) (arg15 : Memref sig .tc .vmem S4x512x128 .bf16) (arg19 : Memref sig .tc .vmem S8x256x128 .f32) (x8 : Vec F S1x256x512 .bf16) (x9 : Vec F S1x2048x512 .bf16) (h : Nat) : Vec F S1x256x128 .f32 := match h with
  | 0 => (kernelRun0_A.sl.v256 (F := F) c arg19)
  | 1 => (kernelRun0_A.sl.v291 (F := F) c i arg10 harg10 arg11 harg11 arg15 arg19 x8 x9)
  | 2 => (kernelRun0_A.sl.v424 (F := F) c i arg10 harg10 arg11 harg11 arg15 arg19 x8 x9)
  | 3 => (kernelRun0_A.sl.v459 (F := F) c i arg10 harg10 arg11 harg11 arg15 arg19 x8 x9)
  | 4 => (kernelRun0_A.sl.v612 (F := F) c i arg10 harg10 arg11 harg11 arg15 arg19 x8 x9)
  | 5 => (kernelRun0_A.sl.v647 (F := F) c i arg10 harg10 arg11 harg11 arg15 arg19 x8 x9)
  | 6 => (kernelRun0_A.sl.v773 (F := F) c i arg10 harg10 arg11 harg11 arg15 arg19 x8 x9)
  | _ => (kernelRun0_A.sl.v808 (F := F) c i arg10 harg10 arg11 harg11 arg15 arg19 x8 x9)

/-- The running lane sums as the diagonal tile finds them. -/
def dL (c : Dev nD) (i : grid0.Coords) (arg10 : Memref sig .tc .vmem S1x256x512 .bf16) (harg10 : arg10.IsWhole) (arg11 : Memref sig .tc .vmem S1x2048x512 .bf16) (harg11 : arg11.IsWhole) (arg15 : Memref sig .tc .vmem S4x512x128 .bf16) (arg19 : Memref sig .tc .vmem S8x256x128 .f32) (arg20 : Memref sig .tc .vmem S8x256x128 .f32) (x8 : Vec F S1x256x512 .bf16) (x9 : Vec F S1x2048x512 .bf16) (h : Nat) : Vec F S1x256x128 .f32 := match h with
  | 0 => (kernelRun0_A.sl.v268 (F := F) c arg20)
  | 1 => (kernelRun0_A.sl.v303 (F := F) c i arg10 harg10 arg11 harg11 arg15 arg19 arg20 x8 x9)
  | 2 => (kernelRun0_A.sl.v436 (F := F) c i arg10 harg10 arg11 harg11 arg15 arg19 arg20 x8 x9)
  | 3 => (kernelRun0_A.sl.v471 (F := F) c i arg10 harg10 arg11 harg11 arg15 arg19 arg20 x8 x9)
  | 4 => (kernelRun0_A.sl.v624 (F := F) c i arg10 harg10 arg11 harg11 arg15 arg19 arg20 x8 x9)
  | 5 => (kernelRun0_A.sl.v659 (F := F) c i arg10 harg10 arg11 harg11 arg15 arg19 arg20 x8 x9)
  | 6 => (kernelRun0_A.sl.v785 (F := F) c i arg10 harg10 arg11 harg11 arg15 arg19 arg20 x8 x9)
  | _ => (kernelRun0_A.sl.v820 (F := F) c i arg10 harg10 arg11 harg11 arg15 arg19 arg20 x8 x9)

/-- The running sums of values as the diagonal tile finds them. -/
def dD (c : Dev nD) (i : grid0.Coords) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg15 : Memref sig .tc .vmem S4x512x128 .bf16) (arg19 : Memref sig .tc .vmem S8x256x128 .f32) (arg21 : Memref sig .tc .vmem S8x256x128 .f32) (x8 : Vec F S1x256x512 .bf16) (x9 : Vec F S1x2048x512 .bf16) (x10 : Vec F S1x2048x512 .bf16) (h : Nat) : Vec F S1x256x128 .f32 := match h with
  | 0 => (kernelRun0_A.sl.v492 (F := F) c arg21)
  | 1 => (kernelRun0_A.sl.v500 (F := F) c i arg10 harg10 arg11 harg11 arg12 harg12 arg15 arg19 arg21 x8 x9 x10)
  | 2 => (kernelRun0_A.sl.v680 (F := F) c i arg10 harg10 arg11 harg11 arg12 harg12 arg15 arg19 arg21 x8 x9 x10)
  | 3 => (kernelRun0_A.sl.v688 (F := F) c i arg10 harg10 arg11 harg11 arg12 harg12 arg15 arg19 arg21 x8 x9 x10)
  | 4 => (kernelRun0_A.sl.v841 (F := F) c i arg10 harg10 arg11 harg11 arg12 harg12 arg15 arg19 arg21 x8 x9 x10)
  | 5 => (kernelRun0_A.sl.v849 (F := F) c i arg10 harg10 arg11 harg11 arg12 harg12 arg15 arg19 arg21 x8 x9 x10)
  | 6 => (kernelRun0_A.sl.v893 (F := F) c i arg10 harg10 arg11 harg11 arg12 harg12 arg15 arg19 arg21 x8 x9 x10)
  | _ => (kernelRun0_A.sl.v901 (F := F) c i arg10 harg10 arg11 harg11 arg12 harg12 arg15 arg19 arg21 x8 x9 x10)

/-- The sums of values as the diagonal tile finds them. -/
def dA (c : Dev nD) (i : grid0.Coords) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg14 : Memref sig .tc .vmem S4x512x128 .bf16) (arg16 : Memref sig .tc .vmem S256x256 .bf16) (arg17 : Memref sig .tc .vmem S256x512 .f32) (arg18 : Memref sig .tc .vmem S8x256x128 .f32) (x5 : Vec F S1x256x512 .bf16) (x6 : Vec F S1x2048x512 .bf16) (x7 : Vec F S1x2048x512 .bf16) (h : Nat) : Vec F S256x128 .f32 := match h with
  | 0 => (kernelRun0_A.sl.v399 (F := F) c arg17)
  | 1 => (kernelRun0_A.sl.v587 (F := F) c i arg7 harg7 arg8 harg8 arg9 harg9 arg14 arg16 arg17 arg18 x5 x6 x7)
  | 2 => (kernelRun0_A.sl.v754 (F := F) c i arg7 harg7 arg8 harg8 arg9 harg9 arg14 arg16 arg17 arg18 x5 x6 x7)
  | _ => (kernelRun0_A.sl.v879 (F := F) c i arg7 harg7 arg8 harg8 arg9 harg9 arg14 arg16 arg17 arg18 x5 x6 x7)

/-- The stick-breaking queries as the diagonal tile finds them. -/
def dQS (c : Dev nD) (arg7 : Memref sig .tc .vmem S1x256x512 .bf16) (harg7 : arg7.IsWhole) (arg14 : Memref sig .tc .vmem S4x512x128 .bf16) (x5 : Vec F S1x256x512 .bf16) (h : Nat) : Vec F S1x512x128 .bf16 := match h with
  | 0 => (kernelRun0_A.sl.v160 (F := F) c arg7 harg7 arg14 x5)
  | 1 => (kernelRun0_A.sl.v187 (F := F) c arg7 harg7 arg14 x5)
  | 2 => (kernelRun0_A.sl.v323 (F := F) c arg7 harg7 arg14 x5)
  | _ => (kernelRun0_A.sl.v511 (F := F) c arg7 harg7 arg14 x5)

/-- The differential queries as the diagonal tile finds them. -/
def dQD (c : Dev nD) (arg10 : Memref sig .tc .vmem S1x256x512 .bf16) (harg10 : arg10.IsWhole) (arg15 : Memref sig .tc .vmem S4x512x128 .bf16) (x8 : Vec F S1x256x512 .bf16) (h : Nat) : Vec F S1x512x128 .bf16 := match h with
  | 0 => (kernelRun0_A.sl.v181 (F := F) c arg10 harg10 arg15 x8)
  | 1 => (kernelRun0_A.sl.v244 (F := F) c arg10 harg10 arg15 x8)
  | 2 => (kernelRun0_A.sl.v412 (F := F) c arg10 harg10 arg15 x8)
  | _ => (kernelRun0_A.sl.v600 (F := F) c arg10 harg10 arg15 x8)

theorem diag_queries_sb (c : Dev nD) (arg7 : Memref sig .tc .vmem S1x256x512 .bf16) (harg7 : arg7.IsWhole) (x5 : Vec F S1x256x512 .bf16) :
    kernelRun0_A.sl.HS0_8 (F := F) c arg7 harg7 x5 =
      putQueries (qpart (View.readAt (Elt F) arg7.view (Rect.unit (s := S1x256x512) ![0, 0, 0] S1x256x512.size inb_S1x256x512_S1x256x512_0_0_0).toLoadRect (harg7.unread x5))) := by
  with_unfolding_all rfl

theorem diag_queries_df (c : Dev nD) (arg10 : Memref sig .tc .vmem S1x256x512 .bf16) (harg10 : arg10.IsWhole) (x8 : Vec F S1x256x512 .bf16) :
    kernelRun0_A.sl.HS1_8 (F := F) c arg10 harg10 x8 =
      putQueries (qpart (View.readAt (Elt F) arg10.view (Rect.unit (s := S1x256x512) ![0, 0, 0] S1x256x512.size inb_S1x256x512_S1x256x512_0_0_0).toLoadRect (harg10.unread x8))) := by
  with_unfolding_all rfl

theorem diag_acc (c : Dev nD) (i : grid0.Coords) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg14 : Memref sig .tc .vmem S4x512x128 .bf16) (arg16 : Memref sig .tc .vmem S256x256 .bf16) (arg17 : Memref sig .tc .vmem S256x512 .f32) (arg18 : Memref sig .tc .vmem S8x256x128 .f32) (x5 : Vec F S1x256x512 .bf16) (x6 : Vec F S1x2048x512 .bf16) (x7 : Vec F S1x2048x512 .bf16) :
    kernelRun0_A.sl.HS3_5 (F := F) c i arg7 harg7 arg8 harg8 arg9 harg9 arg14 arg16 arg17 arg18 x5 x6 x7 =
      putCols (gainD (logits (dkey i arg8.view (harg8.unread x6)) (dQS (F := F) c arg7 harg7 arg14 x5)) (kernelRun0_A.sl.v206 (F := F) c arg16) (dC (F := F) c i arg7 harg7 arg8 harg8 arg14 arg18 x5 x6) (dkey i arg9.view (harg9.unread x7)) (dA (F := F) c i arg7 harg7 arg8 harg8 arg9 harg9 arg14 arg16 arg17 arg18 x5 x6 x7)) ++ (kernelRun0_A.sl.HS3_1 (F := F)) := by
  with_unfolding_all rfl

theorem diag_carry (c : Dev nD) (i : grid0.Coords) (arg7 : Memref sig .tc .vmem S1x256x512 .bf16) (harg7 : arg7.IsWhole) (arg8 : Memref sig .tc .vmem S1x2048x512 .bf16) (harg8 : arg8.IsWhole) (arg14 : Memref sig .tc .vmem S4x512x128 .bf16) (arg18 : Memref sig .tc .vmem S8x256x128 .f32) (x5 : Vec F S1x256x512 .bf16) (x6 : Vec F S1x2048x512 .bf16) :
    kernelRun0_A.sl.HS4_9 (F := F) c i arg7 harg7 arg8 harg8 arg14 arg18 x5 x6 =
      puts (fun h => carryNext (leftD (logits (dkey i arg8.view (harg8.unread x6)) (dQS (F := F) c arg7 harg7 arg14 x5) h)) ((dC (F := F) c i arg7 harg7 arg8 harg8 arg14 arg18 x5 x6) h)) ++ (kernelRun0_A.sl.HS4_1 (F := F)) := by
  with_unfolding_all rfl

theorem diag_max (c : Dev nD) (i : grid0.Coords) (arg10 : Memref sig .tc .vmem S1x256x512 .bf16) (harg10 : arg10.IsWhole) (arg11 : Memref sig .tc .vmem S1x2048x512 .bf16) (harg11 : arg11.IsWhole) (arg15 : Memref sig .tc .vmem S4x512x128 .bf16) (arg19 : Memref sig .tc .vmem S8x256x128 .f32) (x8 : Vec F S1x256x512 .bf16) (x9 : Vec F S1x2048x512 .bf16) :
    kernelRun0_A.sl.HS5_9 (F := F) c i arg10 harg10 arg11 harg11 arg15 arg19 x8 x9 =
      puts (fun h => slabOf (maxNext (dscore i (dkey i arg11.view (harg11.unread x9)) (dQD (F := F) c arg10 harg10 arg15 x8) h) ((dM (F := F) c i arg10 harg10 arg11 harg11 arg15 arg19 x8 x9) h))) ++ (kernelRun0_A.sl.HS5_1 (F := F)) := by
  with_unfolding_all rfl

theorem diag_sum (c : Dev nD) (i : grid0.Coords) (arg10 : Memref sig .tc .vmem S1x256x512 .bf16) (harg10 : arg10.IsWhole) (arg11 : Memref sig .tc .vmem S1x2048x512 .bf16) (harg11 : arg11.IsWhole) (arg15 : Memref sig .tc .vmem S4x512x128 .bf16) (arg19 : Memref sig .tc .vmem S8x256x128 .f32) (arg20 : Memref sig .tc .vmem S8x256x128 .f32) (x8 : Vec F S1x256x512 .bf16) (x9 : Vec F S1x2048x512 .bf16) :
    kernelRun0_A.sl.HS6_9 (F := F) c i arg10 harg10 arg11 harg11 arg15 arg19 arg20 x8 x9 =
      puts (fun h => sumNext (dscore i (dkey i arg11.view (harg11.unread x9)) (dQD (F := F) c arg10 harg10 arg15 x8) h) ((dM (F := F) c i arg10 harg10 arg11 harg11 arg15 arg19 x8 x9) h) ((dL (F := F) c i arg10 harg10 arg11 harg11 arg15 arg19 arg20 x8 x9) h)) ++ (kernelRun0_A.sl.HS6_1 (F := F)) := by
  with_unfolding_all rfl

theorem diag_val (c : Dev nD) (i : grid0.Coords) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg15 : Memref sig .tc .vmem S4x512x128 .bf16) (arg19 : Memref sig .tc .vmem S8x256x128 .f32) (arg21 : Memref sig .tc .vmem S8x256x128 .f32) (x8 : Vec F S1x256x512 .bf16) (x9 : Vec F S1x2048x512 .bf16) (x10 : Vec F S1x2048x512 .bf16) :
    kernelRun0_A.sl.HS7_9 (F := F) c i arg10 harg10 arg11 harg11 arg12 harg12 arg15 arg19 arg21 x8 x9 x10 =
      puts (dgain (dscore i (dkey i arg11.view (harg11.unread x9)) (dQD (F := F) c arg10 harg10 arg15 x8)) (dM (F := F) c i arg10 harg10 arg11 harg11 arg15 arg19 x8 x9) (dkey i arg12.view (harg12.unread x10)) (dD (F := F) c i arg10 harg10 arg11 harg11 arg12 harg12 arg15 arg19 arg21 x8 x9 x10)) ++ (kernelRun0_A.sl.HS7_1 (F := F)) := by
  with_unfolding_all rfl

end Cert.Tile
-- ==== Proof.Slabs.lean ====
/-
  What a load finds after a tile's stores: each slab the last store into it, and before the first tile what the
  buffers were filled with.
-/
module

public import proofs.«01_k».proof.Proof.Diag
public import Idealize.ShloMosaic.Lib.Pipeline.ReadBack

@[expose] public section

noncomputable section

namespace Cert.Tile

open Idealize.ShloMosaic Idealize.ShloMosaic.TcCoe Idealize.SL.Sem Cert.KernelIdeal Cert.KernelIdeal.Gen

variable {F : FTy → Type} [FloatOps F] [Named F]

section Generic

variable {sig' : RefSig} {kd : Kind} {sp : Space} {s : Shape} {e : EltTy}

/-- A load of the last store's own rectangle. -/
theorem load_hit (v : View sig' kd sp s e) (f : v.ty.Contents (Elt F)) (r : Rect s) (w : r.shape.Idx → Elt F e)
    (L : List (View.Piece (Elt F) s e)) :
    View.readAt (Elt F) v r.toLoadRect (v.writes (Elt F) f (⟨r, w⟩ :: L)) = w :=
  funext fun x => View.read_writes_cons_emb v f r w L x

/-- A load that the last store does not touch. -/
theorem load_skip (v : View sig' kd sp s e) (f : v.ty.Contents (Elt F)) (p : View.Piece (Elt F) s e) (r : Rect s)
    (L : List (View.Piece (Elt F) s e)) (h : Disjoint p.1.set r.set) :
    View.readAt (Elt F) v r.toLoadRect (v.writes (Elt F) f (p :: L)) = View.readAt (Elt F) v r.toLoadRect (v.writes (Elt F) f L) := by
  funext x
  rw [View.readAt_apply, View.readAt_apply, View.writes_cons]
  refine View.read_slice_write_of_not_mem p.1 _ _ _ ?_
  rw [Rect.map_emb_univ]
  exact Finset.disjoint_right.mp h (LoadRect.idx_mem r.toLoadRect x)

/-- A load of a buffer filled as a whole. -/
theorem load_fill (v : View sig' kd sp s e) {off : Fin s.rank → Nat} (inb : ∀ a, off a + s.size a ≤ s.size a) (Z : s.Idx → Elt F e)
    (r : Rect s) (h : ∀ a, off a = 0) :
    View.readAt (Elt F) v r.toLoadRect (v.writes (Elt F) v.junk [⟨Rect.unit off s.size inb, Z⟩]) = fun x => Z (r.toLoadRect.idx x) :=
  View.readCov_fill v inb Z [] r h

end Generic

theorem rslab_disjoint {h h' : Nat} (hh : h % 8 ≠ h' % 8) : Disjoint (rslab h).set (rslab h').set :=
  Rect.unit_disjoint (s := S8x256x128) (0 : Fin 3) (by show h % 8 + 1 ≤ h' % 8 ∨ h' % 8 + 1 ≤ h % 8; omega)

theorem rcols_disjoint {g g' : Nat} (hh : g % 4 ≠ g' % 4) : Disjoint (rcols g).set (rcols g').set :=
  Rect.unit_disjoint (s := S256x512) (1 : Fin 2)
    (by show g % 4 * 128 + 128 ≤ g' % 4 * 128 ∨ g' % 4 * 128 + 128 ≤ g % 4 * 128; omega)

/-- Stores into the slabs of some heads leave their own in each. -/
theorem load_slabs_mem (v : View sig .tc .vmem S8x256x128 .f32) (f : v.ty.Contents (Elt F)) (w : Nat → Vec F S1x256x128 .f32)
    (L : List (View.Piece (Elt F) S8x256x128 .f32)) (h : Nat) (hh : h < 8) (hs : List Nat) (hl : ∀ x ∈ hs, x < 8) (hm : h ∈ hs) :
    View.readAt (Elt F) v (rslab h).toLoadRect (v.writes (Elt F) f (hs.map (fun x => (⟨rslab x, w x⟩ : View.Piece (Elt F) S8x256x128 .f32)) ++ L)) = w h := by
  induction hs with
  | nil => exact absurd hm List.not_mem_nil
  | cons x hs ih =>
    rw [List.map_cons, List.cons_append]
    by_cases e : x = h
    · subst e; exact load_hit v f (rslab x) (w x) _
    · have hx := hl x List.mem_cons_self
      refine (load_skip v f ⟨rslab x, w x⟩ (rslab h) _ (rslab_disjoint (by omega))).trans ?_
      exact ih (fun y hy => hl y (List.mem_cons_of_mem _ hy)) ((List.mem_cons.mp hm).resolve_left fun h' => e h'.symm)

/-- Stores into the slabs of other heads leave a head's slab alone. -/
theorem load_slabs_not_mem (v : View sig .tc .vmem S8x256x128 .f32) (f : v.ty.Contents (Elt F)) (w : Nat → Vec F S1x256x128 .f32)
    (L : List (View.Piece (Elt F) S8x256x128 .f32)) (h : Nat) (hh : h < 8) (hs : List Nat) (hl : ∀ x ∈ hs, x < 8) (hm : h ∉ hs) :
    View.readAt (Elt F) v (rslab h).toLoadRect (v.writes (Elt F) f (hs.map (fun x => (⟨rslab x, w x⟩ : View.Piece (Elt F) S8x256x128 .f32)) ++ L))
      = View.readAt (Elt F) v (rslab h).toLoadRect (v.writes (Elt F) f L) := by
  induction hs with
  | nil => rfl
  | cons x hs ih =>
    rw [List.map_cons, List.cons_append]
    have hx := hl x List.mem_cons_self
    have e : x ≠ h := fun h' => hm (h' ▸ List.mem_cons_self)
    refine (load_skip v f ⟨rslab x, w x⟩ (rslab h) _ (rslab_disjoint (by omega))).trans ?_
    exact ih (fun y hy => hl y (List.mem_cons_of_mem _ hy)) fun h' => hm (List.mem_cons_of_mem _ h')

/-- Stores into the columns of some pairs leave their own in each. -/
theorem load_cols_mem (v : View sig .tc .vmem S256x512 .f32) (f : v.ty.Contents (Elt F)) (w : Nat → Vec F S256x128 .f32)
    (L : List (View.Piece (Elt F) S256x512 .f32)) (h : Nat) (hh : h < 4) (hs : List Nat) (hl : ∀ x ∈ hs, x < 4) (hm : h ∈ hs) :
    View.readAt (Elt F) v (rcols h).toLoadRect (v.writes (Elt F) f (hs.map (fun x => (⟨rcols x, w x⟩ : View.Piece (Elt F) S256x512 .f32)) ++ L)) = w h := by
  induction hs with
  | nil => exact absurd hm List.not_mem_nil
  | cons x hs ih =>
    rw [List.map_cons, List.cons_append]
    by_cases e : x = h
    · subst e; exact load_hit v f (rcols x) (w x) _
    · have hx := hl x List.mem_cons_self
      refine (load_skip v f ⟨rcols x, w x⟩ (rcols h) _ (rcols_disjoint (by omega))).trans ?_
      exact ih (fun y hy => hl y (List.mem_cons_of_mem _ hy)) ((List.mem_cons.mp hm).resolve_left fun h' => e h'.symm)

/-- Stores into the columns of other pairs leave a pair's columns alone. -/
theorem load_cols_not_mem (v : View sig .tc .vmem S256x512 .f32) (f : v.ty.Contents (Elt F)) (w : Nat → Vec F S256x128 .f32)
    (L : List (View.Piece (Elt F) S256x512 .f32)) (h : Nat) (hh : h < 4) (hs : List Nat) (hl : ∀ x ∈ hs, x < 4) (hm : h ∉ hs) :
    View.readAt (Elt F) v (rcols h).toLoadRect (v.writes (Elt F) f (hs.map (fun x => (⟨rcols x, w x⟩ : View.Piece (Elt F) S256x512 .f32)) ++ L))
      = View.readAt (Elt F) v (rcols h).toLoadRect (v.writes (Elt F) f L) := by
  induction hs with
  | nil => rfl
  | cons x hs ih =>
    rw [List.map_cons, List.cons_append]
    have hx := hl x List.mem_cons_self
    have e : x ≠ h := fun h' => hm (h' ▸ List.mem_cons_self)
    refine (load_skip v f ⟨rcols x, w x⟩ (rcols h) _ (rcols_disjoint (by omega))).trans ?_
    exact ih (fun y hy => hl y (List.mem_cons_of_mem _ hy)) fun h' => hm (List.mem_cons_of_mem _ h')

/-- After a store for every head, each head's slab holds its own. -/
theorem load_puts (v : View sig .tc .vmem S8x256x128 .f32) (f : v.ty.Contents (Elt F)) (w : Nat → Vec F S1x256x128 .f32)
    (L : List (View.Piece (Elt F) S8x256x128 .f32)) (h : Nat) (hh : h < 8) :
    View.readAt (Elt F) v (rslab h).toLoadRect (v.writes (Elt F) f (puts w ++ L)) = w h :=
  load_slabs_mem v f w L h hh [7, 6, 5, 4, 3, 2, 1, 0] (by decide) (by interval_cases h <;> decide)

/-- After a store for every pair of heads, each pair's columns hold its own. -/
theorem load_putCols (v : View sig .tc .vmem S256x512 .f32) (f : v.ty.Contents (Elt F)) (w : Nat → Vec F S256x128 .f32)
    (L : List (View.Piece (Elt F) S256x512 .f32)) (g : Nat) (hg : g < 4) :
    View.readAt (Elt F) v (rcols g).toLoadRect (v.writes (Elt F) f (putCols w ++ L)) = w g :=
  load_cols_mem v f w L g hg [3, 2, 1, 0] (by decide) (by interval_cases g <;> decide)

/-- The stores of the earlier heads leave a head's slab alone. -/
theorem load_puts_drop (v : View sig .tc .vmem S8x256x128 .f32) (f : v.ty.Contents (Elt F)) (w : Nat → Vec F S1x256x128 .f32)
    (L : List (View.Piece (Elt F) S8x256x128 .f32)) (h : Nat) (hh : h < 8) :
    View.readAt (Elt F) v (rslab h).toLoadRect (v.writes (Elt F) f ((puts w).drop (8 - h) ++ L))
      = View.readAt (Elt F) v (rslab h).toLoadRect (v.writes (Elt F) f L) := by
  have e : (puts w).drop (8 - h) = ([7, 6, 5, 4, 3, 2, 1, 0].drop (8 - h)).map (fun x => (⟨rslab x, w x⟩ : View.Piece (Elt F) S8x256x128 .f32)) := by
    rw [List.map_drop]; rfl
  rw [e]
  exact load_slabs_not_mem v f w L h hh _ (fun x hx => (show ∀ x ∈ [7, 6, 5, 4, 3, 2, 1, 0], x < 8 by decide) x (List.mem_of_mem_drop hx))
    (by interval_cases h <;> decide)

/-- The stores of the earlier pairs leave a pair's columns alone. -/
theorem load_putCols_drop (v : View sig .tc .vmem S256x512 .f32) (f : v.ty.Contents (Elt F)) (w : Nat → Vec F S256x128 .f32)
    (L : List (View.Piece (Elt F) S256x512 .f32)) (g : Nat) (hg : g < 4) :
    View.readAt (Elt F) v (rcols g).toLoadRect (v.writes (Elt F) f ((putCols w).drop (4 - g) ++ L))
      = View.readAt (Elt F) v (rcols g).toLoadRect (v.writes (Elt F) f L) := by
  have e : (putCols w).drop (4 - g) = ([3, 2, 1, 0].drop (4 - g)).map (fun x => (⟨rcols x, w x⟩ : View.Piece (Elt F) S256x512 .f32)) := by
    rw [List.map_drop]; rfl
  rw [e]
  exact load_cols_not_mem v f w L g hg _ (fun x hx => (show ∀ x ∈ [3, 2, 1, 0], x < 4 by decide) x (List.mem_of_mem_drop hx))
    (by interval_cases g <;> decide)

theorem fill_carry (c : Dev nD) (i : grid0.Coords) (arg7 : Memref sig .tc .vmem S1x256x512 .bf16) (harg7 : arg7.IsWhole) (arg8 : Memref sig .tc .vmem S1x2048x512 .bf16) (harg8 : arg8.IsWhole) (arg14 : Memref sig .tc .vmem S4x512x128 .bf16) (arg18 : Memref sig .tc .vmem S8x256x128 .f32) (x5 : Vec F S1x256x512 .bf16) (x6 : Vec F S1x2048x512 .bf16) (h : Nat) (hh : h < 8) :
    dC (F := F) c i arg7 harg7 arg8 harg8 arg14 arg18 x5 x6 h = fun _ => Scalar.ofBits .f32 0x00000000#32 := by
  have e : dC (F := F) c i arg7 harg7 arg8 harg8 arg14 arg18 x5 x6 h = View.readAt (Elt F) arg18.view (rslab h).toLoadRect
      (arg18.view.writes (Elt F) arg18.view.junk ((puts (fun h => carryNext (leftD (logits (dkey i arg8.view (harg8.unread x6)) (dQS (F := F) c arg7 harg7 arg14 x5) h)) ((dC (F := F) c i arg7 harg7 arg8 harg8 arg14 arg18 x5 x6) h))).drop (8 - h) ++ kernelRun0_A.sl.HS4_1 (F := F))) := by
    interval_cases h <;> with_unfolding_all rfl
  rw [e, load_puts_drop _ _ _ _ h hh]
  have e1 : (kernelRun0_A.sl.HS4_1 (F := F)) = [⟨Rect.unit (s := S8x256x128) ![0, 0, 0] _ inb_S8x256x128_S8x256x128_0_0_0, k0_pay350⟩] := by with_unfolding_all rfl
  rw [e1, load_fill arg18.view inb_S8x256x128_S8x256x128_0_0_0 _ (rslab h) (fun a => by fin_cases a <;> rfl)]
  with_unfolding_all rfl

theorem fill_max (c : Dev nD) (i : grid0.Coords) (arg10 : Memref sig .tc .vmem S1x256x512 .bf16) (harg10 : arg10.IsWhole) (arg11 : Memref sig .tc .vmem S1x2048x512 .bf16) (harg11 : arg11.IsWhole) (arg15 : Memref sig .tc .vmem S4x512x128 .bf16) (arg19 : Memref sig .tc .vmem S8x256x128 .f32) (x8 : Vec F S1x256x512 .bf16) (x9 : Vec F S1x2048x512 .bf16) (h : Nat) (hh : h < 8) :
    dM (F := F) c i arg10 harg10 arg11 harg11 arg15 arg19 x8 x9 h = fun _ => Named.named κ "mask" 0xF149F2CA#32 := by
  have e : dM (F := F) c i arg10 harg10 arg11 harg11 arg15 arg19 x8 x9 h = View.readAt (Elt F) arg19.view (rslab h).toLoadRect
      (arg19.view.writes (Elt F) arg19.view.junk ((puts (fun h => slabOf (maxNext (dscore i (dkey i arg11.view (harg11.unread x9)) (dQD (F := F) c arg10 harg10 arg15 x8) h) ((dM (F := F) c i arg10 harg10 arg11 harg11 arg15 arg19 x8 x9) h)))).drop (8 - h) ++ kernelRun0_A.sl.HS5_1 (F := F))) := by
    interval_cases h <;> with_unfolding_all rfl
  rw [e, load_puts_drop _ _ _ _ h hh]
  have e1 : (kernelRun0_A.sl.HS5_1 (F := F)) = [⟨Rect.unit (s := S8x256x128) ![0, 0, 0] _ inb_S8x256x128_S8x256x128_0_0_0, k0_pay351⟩] := by with_unfolding_all rfl
  rw [e1, load_fill arg19.view inb_S8x256x128_S8x256x128_0_0_0 _ (rslab h) (fun a => by fin_cases a <;> rfl)]
  with_unfolding_all rfl

theorem fill_sum (c : Dev nD) (i : grid0.Coords) (arg10 : Memref sig .tc .vmem S1x256x512 .bf16) (harg10 : arg10.IsWhole) (arg11 : Memref sig .tc .vmem S1x2048x512 .bf16) (harg11 : arg11.IsWhole) (arg15 : Memref sig .tc .vmem S4x512x128 .bf16) (arg19 : Memref sig .tc .vmem S8x256x128 .f32) (arg20 : Memref sig .tc .vmem S8x256x128 .f32) (x8 : Vec F S1x256x512 .bf16) (x9 : Vec F S1x2048x512 .bf16) (h : Nat) (hh : h < 8) :
    dL (F := F) c i arg10 harg10 arg11 harg11 arg15 arg19 arg20 x8 x9 h = fun _ => Scalar.ofBits .f32 0x00000000#32 := by
  have e : dL (F := F) c i arg10 harg10 arg11 harg11 arg15 arg19 arg20 x8 x9 h = View.readAt (Elt F) arg20.view (rslab h).toLoadRect
      (arg20.view.writes (Elt F) arg20.view.junk ((puts (fun h => sumNext (dscore i (dkey i arg11.view (harg11.unread x9)) (dQD (F := F) c arg10 harg10 arg15 x8) h) ((dM (F := F) c i arg10 harg10 arg11 harg11 arg15 arg19 x8 x9) h) ((dL (F := F) c i arg10 harg10 arg11 harg11 arg15 arg19 arg20 x8 x9) h))).drop (8 - h) ++ kernelRun0_A.sl.HS6_1 (F := F))) := by
    interval_cases h <;> with_unfolding_all rfl
  rw [e, load_puts_drop _ _ _ _ h hh]
  have e1 : (kernelRun0_A.sl.HS6_1 (F := F)) = [⟨Rect.unit (s := S8x256x128) ![0, 0, 0] _ inb_S8x256x128_S8x256x128_0_0_0, (k0_pay353 k0_pay352)⟩] := by with_unfolding_all rfl
  rw [e1, load_fill arg20.view inb_S8x256x128_S8x256x128_0_0_0 _ (rslab h) (fun a => by fin_cases a <;> rfl)]
  with_unfolding_all rfl

theorem fill_val (c : Dev nD) (i : grid0.Coords) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg15 : Memref sig .tc .vmem S4x512x128 .bf16) (arg19 : Memref sig .tc .vmem S8x256x128 .f32) (arg21 : Memref sig .tc .vmem S8x256x128 .f32) (x8 : Vec F S1x256x512 .bf16) (x9 : Vec F S1x2048x512 .bf16) (x10 : Vec F S1x2048x512 .bf16) (h : Nat) (hh : h < 8) :
    dD (F := F) c i arg10 harg10 arg11 harg11 arg12 harg12 arg15 arg19 arg21 x8 x9 x10 h = fun _ => Scalar.ofBits .f32 0x00000000#32 := by
  have e : dD (F := F) c i arg10 harg10 arg11 harg11 arg12 harg12 arg15 arg19 arg21 x8 x9 x10 h = View.readAt (Elt F) arg21.view (rslab h).toLoadRect
      (arg21.view.writes (Elt F) arg21.view.junk ((puts (dgain (dscore i (dkey i arg11.view (harg11.unread x9)) (dQD (F := F) c arg10 harg10 arg15 x8)) (dM (F := F) c i arg10 harg10 arg11 harg11 arg15 arg19 x8 x9) (dkey i arg12.view (harg12.unread x10)) (dD (F := F) c i arg10 harg10 arg11 harg11 arg12 harg12 arg15 arg19 arg21 x8 x9 x10))).drop (8 - h) ++ kernelRun0_A.sl.HS7_1 (F := F))) := by
    interval_cases h <;> with_unfolding_all rfl
  rw [e, load_puts_drop _ _ _ _ h hh]
  have e1 : (kernelRun0_A.sl.HS7_1 (F := F)) = [⟨Rect.unit (s := S8x256x128) ![0, 0, 0] _ inb_S8x256x128_S8x256x128_0_0_0, k0_pay354⟩] := by with_unfolding_all rfl
  rw [e1, load_fill arg21.view inb_S8x256x128_S8x256x128_0_0_0 _ (rslab h) (fun a => by fin_cases a <;> rfl)]
  with_unfolding_all rfl

theorem fill_acc (c : Dev nD) (i : grid0.Coords) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg14 : Memref sig .tc .vmem S4x512x128 .bf16) (arg16 : Memref sig .tc .vmem S256x256 .bf16) (arg17 : Memref sig .tc .vmem S256x512 .f32) (arg18 : Memref sig .tc .vmem S8x256x128 .f32) (x5 : Vec F S1x256x512 .bf16) (x6 : Vec F S1x2048x512 .bf16) (x7 : Vec F S1x2048x512 .bf16) (h : Nat) (hh : h < 4) :
    dA (F := F) c i arg7 harg7 arg8 harg8 arg9 harg9 arg14 arg16 arg17 arg18 x5 x6 x7 h = fun _ => Scalar.ofBits .f32 0x00000000#32 := by
  have e : dA (F := F) c i arg7 harg7 arg8 harg8 arg9 harg9 arg14 arg16 arg17 arg18 x5 x6 x7 h = View.readAt (Elt F) arg17.view (rcols h).toLoadRect
      (arg17.view.writes (Elt F) arg17.view.junk ((putCols (gainD (logits (dkey i arg8.view (harg8.unread x6)) (dQS (F := F) c arg7 harg7 arg14 x5)) (kernelRun0_A.sl.v206 (F := F) c arg16) (dC (F := F) c i arg7 harg7 arg8 harg8 arg14 arg18 x5 x6) (dkey i arg9.view (harg9.unread x7)) (dA (F := F) c i arg7 harg7 arg8 harg8 arg9 harg9 arg14 arg16 arg17 arg18 x5 x6 x7))).drop (4 - h) ++ kernelRun0_A.sl.HS3_1 (F := F))) := by
    interval_cases h <;> with_unfolding_all rfl
  rw [e, load_putCols_drop _ _ _ _ h hh]
  have e1 : (kernelRun0_A.sl.HS3_1 (F := F)) = [⟨Rect.unit (s := S256x512) ![0, 0] _ inb_S256x512_S256x512_0_0, k0_pay349⟩] := by with_unfolding_all rfl
  rw [e1, load_fill arg17.view inb_S256x512_S256x512_0_0 _ (rcols h) (fun a => by fin_cases a <;> rfl)]
  with_unfolding_all rfl

end Cert.Tile
-- ==== Proof.Epi.lean ====
/-
  The loop of the kernel's body from the diagonal tile on, and what the body stores at its end, in the stages of `Tile`.
-/
module

public import proofs.«01_k».proof.Proof.Diag

@[expose] public section

noncomputable section

namespace Cert.Tile

open Idealize.ShloMosaic Idealize.ShloMosaic.TcCoe Idealize.SL.Sem Cert.KernelIdeal Cert.KernelIdeal.Gen

variable {F : FTy → Type} [FloatOps F] [Named F]

/-- One trip for each tile left of the diagonal. -/
theorem trips_t1 (i : grid0.Coords) : Scf.trips (k0_t1_loop i).lb (k0_t1_loop i).ub (k0_t1_loop i).st = (i 1).val := by
  have h : (i 1).val < 8 := (i 1).isLt
  unfold k0_t1_loop
  dsimp only
  generalize (i 1).val = n at h ⊢
  interval_cases n <;> decide

/-- The remainder loop has no trips. -/
theorem trips_t2 (i : grid0.Coords) : Scf.trips (k0_t2_loop i).lb (k0_t2_loop i).ub (k0_t2_loop i).st = 0 := by
  have h : (i 1).val < 8 := (i 1).isLt
  unfold k0_t2_loop
  dsimp only
  generalize (i 1).val = n at h ⊢
  interval_cases n <;> decide

/-- What the loop has stored before trip `n`. -/
def loop (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (n : Nat) :
    BitVec 32 × List (View.Piece (Elt F) S256x512 .f32) × List (View.Piece (Elt F) S8x256x128 .f32) × List (View.Piece (Elt F) S8x256x128 .f32) × List (View.Piece (Elt F) S8x256x128 .f32) × List (View.Piece (Elt F) S8x256x128 .f32) :=
  st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 (iota .tc S256x256 32 [0] iota_S256x256_d0_w32) (iota .tc S256x256 32 [1] iota_S256x256_d1_w32) k0_pay347 1#32 (harg8.unread x6) (harg9.unread x7) (harg11.unread x9) (harg12.unread x10) (arg14.view.writes (Elt F) arg14.view.junk (kernelRun0_A.sl.HS0_8 (F := F) c arg7 harg7 x5)) (arg15.view.writes (Elt F) arg15.view.junk (kernelRun0_A.sl.HS1_8 (F := F) c arg10 harg10 x8)) (arg16.view.writes (Elt F) arg16.view.junk (kernelRun0_A.sl.HS2_1 (F := F))) (arg17.view.writes (Elt F) arg17.view.junk (kernelRun0_A.sl.HS3_5 (F := F) c i arg7 harg7 arg8 harg8 arg9 harg9 arg14 arg16 arg17 arg18 x5 x6 x7)) (arg18.view.writes (Elt F) arg18.view.junk (kernelRun0_A.sl.HS4_9 (F := F) c i arg7 harg7 arg8 harg8 arg14 arg18 x5 x6)) (arg19.view.writes (Elt F) arg19.view.junk (kernelRun0_A.sl.HS5_9 (F := F) c i arg10 harg10 arg11 harg11 arg15 arg19 x8 x9)) (arg20.view.writes (Elt F) arg20.view.junk (kernelRun0_A.sl.HS6_9 (F := F) c i arg10 harg10 arg11 harg11 arg15 arg19 arg20 x8 x9)) (arg21.view.writes (Elt F) arg21.view.junk (kernelRun0_A.sl.HS7_9 (F := F) c i arg10 harg10 arg11 harg11 arg12 harg12 arg15 arg19 arg21 x8 x9 x10)) 0#32 n

/-- The sums of values as they stand before trip `n`. -/
def sA (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (n : Nat) : arg17.view.ty.Contents (Elt F) :=
  arg17.view.writes (Elt F) (arg17.view.writes (Elt F) arg17.view.junk (kernelRun0_A.sl.HS3_5 (F := F) c i arg7 harg7 arg8 harg8 arg9 harg9 arg14 arg16 arg17 arg18 x5 x6 x7)) (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n).2.1

/-- The running sums as they stand before trip `n`. -/
def sC (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (n : Nat) : arg18.view.ty.Contents (Elt F) :=
  arg18.view.writes (Elt F) (arg18.view.writes (Elt F) arg18.view.junk (kernelRun0_A.sl.HS4_9 (F := F) c i arg7 harg7 arg8 harg8 arg14 arg18 x5 x6)) (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n).2.2.1

/-- The running maxima as they stand before trip `n`. -/
def sM (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (n : Nat) : arg19.view.ty.Contents (Elt F) :=
  arg19.view.writes (Elt F) (arg19.view.writes (Elt F) arg19.view.junk (kernelRun0_A.sl.HS5_9 (F := F) c i arg10 harg10 arg11 harg11 arg15 arg19 x8 x9)) (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n).2.2.2.1

/-- The running lane sums as they stand before trip `n`. -/
def sL (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (n : Nat) : arg20.view.ty.Contents (Elt F) :=
  arg20.view.writes (Elt F) (arg20.view.writes (Elt F) arg20.view.junk (kernelRun0_A.sl.HS6_9 (F := F) c i arg10 harg10 arg11 harg11 arg15 arg19 arg20 x8 x9)) (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n).2.2.2.2.1

/-- The running sums of values of the differential heads as they stand before trip `n`. -/
def sD (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (n : Nat) : arg21.view.ty.Contents (Elt F) :=
  arg21.view.writes (Elt F) (arg21.view.writes (Elt F) arg21.view.junk (kernelRun0_A.sl.HS7_9 (F := F) c i arg10 harg10 arg11 harg11 arg12 harg12 arg15 arg19 arg21 x8 x9 x10)) (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n).2.2.2.2.2

/-- The loop's stores, one trip more. -/
theorem loop_succ (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (k : Fin (k0_t1_loop i).trips) :
    (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)).2 =
      ((tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 (iota .tc S256x256 32 [0] iota_S256x256_d0_w32) (iota .tc S256x256 32 [1] iota_S256x256_d1_w32) k0_pay347 1#32 (harg8.unread x6) (harg9.unread x7) (harg11.unread x9) (harg12.unread x10) (arg14.view.writes (Elt F) arg14.view.junk (kernelRun0_A.sl.HS0_8 (F := F) c arg7 harg7 x5)) (arg15.view.writes (Elt F) arg15.view.junk (kernelRun0_A.sl.HS1_8 (F := F) c arg10 harg10 x8)) (arg16.view.writes (Elt F) arg16.view.junk (kernelRun0_A.sl.HS2_1 (F := F))) k (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).1 (sA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sM (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)).1 ++ (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).2.1,
       (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 (iota .tc S256x256 32 [0] iota_S256x256_d0_w32) (iota .tc S256x256 32 [1] iota_S256x256_d1_w32) k0_pay347 1#32 (harg8.unread x6) (harg9.unread x7) (harg11.unread x9) (harg12.unread x10) (arg14.view.writes (Elt F) arg14.view.junk (kernelRun0_A.sl.HS0_8 (F := F) c arg7 harg7 x5)) (arg15.view.writes (Elt F) arg15.view.junk (kernelRun0_A.sl.HS1_8 (F := F) c arg10 harg10 x8)) (arg16.view.writes (Elt F) arg16.view.junk (kernelRun0_A.sl.HS2_1 (F := F))) k (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).1 (sA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sM (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)).2.1 ++ (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).2.2.1,
       (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 (iota .tc S256x256 32 [0] iota_S256x256_d0_w32) (iota .tc S256x256 32 [1] iota_S256x256_d1_w32) k0_pay347 1#32 (harg8.unread x6) (harg9.unread x7) (harg11.unread x9) (harg12.unread x10) (arg14.view.writes (Elt F) arg14.view.junk (kernelRun0_A.sl.HS0_8 (F := F) c arg7 harg7 x5)) (arg15.view.writes (Elt F) arg15.view.junk (kernelRun0_A.sl.HS1_8 (F := F) c arg10 harg10 x8)) (arg16.view.writes (Elt F) arg16.view.junk (kernelRun0_A.sl.HS2_1 (F := F))) k (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).1 (sA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sM (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)).2.2.1 ++ (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).2.2.2.1,
       (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 (iota .tc S256x256 32 [0] iota_S256x256_d0_w32) (iota .tc S256x256 32 [1] iota_S256x256_d1_w32) k0_pay347 1#32 (harg8.unread x6) (harg9.unread x7) (harg11.unread x9) (harg12.unread x10) (arg14.view.writes (Elt F) arg14.view.junk (kernelRun0_A.sl.HS0_8 (F := F) c arg7 harg7 x5)) (arg15.view.writes (Elt F) arg15.view.junk (kernelRun0_A.sl.HS1_8 (F := F) c arg10 harg10 x8)) (arg16.view.writes (Elt F) arg16.view.junk (kernelRun0_A.sl.HS2_1 (F := F))) k (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).1 (sA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sM (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)).2.2.2.1 ++ (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).2.2.2.2.1,
       (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 (iota .tc S256x256 32 [0] iota_S256x256_d0_w32) (iota .tc S256x256 32 [1] iota_S256x256_d1_w32) k0_pay347 1#32 (harg8.unread x6) (harg9.unread x7) (harg11.unread x9) (harg12.unread x10) (arg14.view.writes (Elt F) arg14.view.junk (kernelRun0_A.sl.HS0_8 (F := F) c arg7 harg7 x5)) (arg15.view.writes (Elt F) arg15.view.junk (kernelRun0_A.sl.HS1_8 (F := F) c arg10 harg10 x8)) (arg16.view.writes (Elt F) arg16.view.junk (kernelRun0_A.sl.HS2_1 (F := F))) k (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).1 (sA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sC (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sM (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val) (sD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)).2.2.2.2 ++ (loop (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val).2.2.2.2.2) :=
  congrArg Prod.snd (st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) k0_pay316 (iota .tc S256x256 32 [0] iota_S256x256_d0_w32) (iota .tc S256x256 32 [1] iota_S256x256_d1_w32) k0_pay347 1#32 (harg8.unread x6) (harg9.unread x7) (harg11.unread x9) (harg12.unread x10) (arg14.view.writes (Elt F) arg14.view.junk (kernelRun0_A.sl.HS0_8 (F := F) c arg7 harg7 x5)) (arg15.view.writes (Elt F) arg15.view.junk (kernelRun0_A.sl.HS1_8 (F := F) c arg10 harg10 x8)) (arg16.view.writes (Elt F) arg16.view.junk (kernelRun0_A.sl.HS2_1 (F := F))) (arg17.view.writes (Elt F) arg17.view.junk (kernelRun0_A.sl.HS3_5 (F := F) c i arg7 harg7 arg8 harg8 arg9 harg9 arg14 arg16 arg17 arg18 x5 x6 x7)) (arg18.view.writes (Elt F) arg18.view.junk (kernelRun0_A.sl.HS4_9 (F := F) c i arg7 harg7 arg8 harg8 arg14 arg18 x5 x6)) (arg19.view.writes (Elt F) arg19.view.junk (kernelRun0_A.sl.HS5_9 (F := F) c i arg10 harg10 arg11 harg11 arg15 arg19 x8 x9)) (arg20.view.writes (Elt F) arg20.view.junk (kernelRun0_A.sl.HS6_9 (F := F) c i arg10 harg10 arg11 harg11 arg15 arg19 arg20 x8 x9)) (arg21.view.writes (Elt F) arg21.view.junk (kernelRun0_A.sl.HS7_9 (F := F) c i arg10 harg10 arg11 harg11 arg12 harg12 arg15 arg19 arg21 x8 x9 x10)) 0#32 k)

/-- The lane sums of the differential heads as the body's end finds them. -/
def eL (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (h : Nat) : Vec F S1x256x128 .f32 := match h with
  | 0 => kernelRun0_A.sl.v941 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 1 => kernelRun0_A.sl.v945 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 2 => kernelRun0_A.sl.v980 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 3 => kernelRun0_A.sl.v984 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 4 => kernelRun0_A.sl.v1019 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 5 => kernelRun0_A.sl.v1023 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 6 => kernelRun0_A.sl.v1058 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | _ => kernelRun0_A.sl.v1062 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10

/-- The sums of values of the differential heads as the body's end finds them. -/
def eD (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (h : Nat) : Vec F S1x256x128 .f32 := match h with
  | 0 => kernelRun0_A.sl.v949 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 1 => kernelRun0_A.sl.v953 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 2 => kernelRun0_A.sl.v988 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 3 => kernelRun0_A.sl.v992 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 4 => kernelRun0_A.sl.v1027 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 5 => kernelRun0_A.sl.v1031 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | 6 => kernelRun0_A.sl.v1066 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10
  | _ => kernelRun0_A.sl.v1070 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10

/-- The body's stores into its output block. -/
theorem pieces_A (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x0 : Vec F S1x64 .f32) (x1 : Vec F S1x64 .f32) (x2 : Vec F S1x64 .f32) (x3 : Vec F S1x64 .f32) (x4 : Vec F S1x128 .f32) (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10).1 =
      [⟨Rect.unit (s := S1x256x1024) ![0, 0, 896] S1x256x128.size inb_S1x256x1024_S1x256x128_0_0_896, normed (both (lambda (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 6) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 7) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 6) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 7)) (View.readAt (Elt F) arg6.view (Rect.unit (s := S1x128) ![0, 0] S1x128.size inb_S1x128_S1x128_0_0).toLoadRect (harg6.unread x4))⟩,
       ⟨Rect.unit (s := S1x256x1024) ![0, 0, 768] S1x256x128.size inb_S1x256x1024_S1x256x128_0_0_768, normed (both (lambda (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 4) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 5) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 4) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 5)) (View.readAt (Elt F) arg6.view (Rect.unit (s := S1x128) ![0, 0] S1x128.size inb_S1x128_S1x128_0_0).toLoadRect (harg6.unread x4))⟩,
       ⟨Rect.unit (s := S1x256x1024) ![0, 0, 640] S1x256x128.size inb_S1x256x1024_S1x256x128_0_0_640, normed (both (lambda (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 2) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 3) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 2) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 3)) (View.readAt (Elt F) arg6.view (Rect.unit (s := S1x128) ![0, 0] S1x128.size inb_S1x128_S1x128_0_0).toLoadRect (harg6.unread x4))⟩,
       ⟨Rect.unit (s := S1x256x1024) ![0, 0, 512] S1x256x128.size inb_S1x256x1024_S1x256x128_0_0_512, normed (both (lambda (View.readAt (Elt F) arg2.view (Rect.unit (s := S1x64) ![0, 0] S1x64.size inb_S1x64_S1x64_0_0).toLoadRect (harg2.unread x0)) (View.readAt (Elt F) arg3.view (Rect.unit (s := S1x64) ![0, 0] S1x64.size inb_S1x64_S1x64_0_0).toLoadRect (harg3.unread x1)) (View.readAt (Elt F) arg4.view (Rect.unit (s := S1x64) ![0, 0] S1x64.size inb_S1x64_S1x64_0_0).toLoadRect (harg4.unread x2)) (View.readAt (Elt F) arg5.view (Rect.unit (s := S1x64) ![0, 0] S1x64.size inb_S1x64_S1x64_0_0).toLoadRect (harg5.unread x3))) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 0) (eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 1) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 0) (eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 1)) (View.readAt (Elt F) arg6.view (Rect.unit (s := S1x128) ![0, 0] S1x128.size inb_S1x128_S1x128_0_0).toLoadRect (harg6.unread x4))⟩,
       ⟨Rect.unit (s := S1x256x1024) ![0, 0, 0] S1x256x512.size inb_S1x256x1024_S1x256x512_0_0_0,
        k0_pay523 (kernelRun0_A.sl.v917 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10)⟩] := by
  unfold kernelRun0_A
  dsimp only
  with_unfolding_all rfl

theorem eA_eq (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) : kernelRun0_A.sl.v917 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 = View.readAt (Elt F) arg17.view (Rect.unit (s := S256x512) ![0, 0] S256x512.size inb_S256x512_S256x512_0_0).toLoadRect (sA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (i 1).val) := by
  have e1 := trips_t1 i
  have e2 := trips_t2 i
  unfold kernelRun0_A.sl.v917 sA
  rw [← View.writes_append, e1, e2]
  rfl

theorem eL_eq (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (h : Nat) (hh : h < 8) : eL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 h = View.readAt (Elt F) arg20.view (rslab h).toLoadRect (sL (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (i 1).val) := by
  have e1 := trips_t1 i
  have e2 := trips_t2 i
  unfold sL
  rw [← View.writes_append]
  interval_cases h
  all_goals
    simp only [eL]
    first | unfold kernelRun0_A.sl.v941 | unfold kernelRun0_A.sl.v945 | unfold kernelRun0_A.sl.v980 | unfold kernelRun0_A.sl.v984 | unfold kernelRun0_A.sl.v1019 | unfold kernelRun0_A.sl.v1023 | unfold kernelRun0_A.sl.v1058 | unfold kernelRun0_A.sl.v1062
    rw [e1, e2]
    rfl

theorem eD_eq (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec F S1x256x512 .bf16) (x6 : Vec F S1x2048x512 .bf16) (x7 : Vec F S1x2048x512 .bf16) (x8 : Vec F S1x256x512 .bf16) (x9 : Vec F S1x2048x512 .bf16) (x10 : Vec F S1x2048x512 .bf16) (h : Nat) (hh : h < 8) : eD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 h = View.readAt (Elt F) arg21.view (rslab h).toLoadRect (sD (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (i 1).val) := by
  have e1 := trips_t1 i
  have e2 := trips_t2 i
  unfold sD
  rw [← View.writes_append]
  interval_cases h
  all_goals
    simp only [eD]
    first | unfold kernelRun0_A.sl.v949 | unfold kernelRun0_A.sl.v953 | unfold kernelRun0_A.sl.v988 | unfold kernelRun0_A.sl.v992 | unfold kernelRun0_A.sl.v1027 | unfold kernelRun0_A.sl.v1031 | unfold kernelRun0_A.sl.v1066 | unfold kernelRun0_A.sl.v1070
    rw [e1, e2]
    rfl

end Cert.Tile
-- ==== Proof.Reads.lean ====
/-
  What the kernel's loads find, over the extended reals: the scaled queries, the tiles of keys and values, the triangle,
  and where each tile starts.
-/
module

public import proofs.«01_k».proof.Proof.Steps
public import proofs.«01_k».proof.Proof.Slabs
public import proofs.«01_k».proof.Proof.Epi
public import Idealize.ShloMosaic.Lib.WholeRead

@[expose] public section

noncomputable section

namespace Cert.Tile

open Idealize.ShloMosaic Idealize.ShloMosaic.TcCoe Idealize.SL.Sem Cert.KernelIdeal Cert.KernelIdeal.Gen Cert.Rows Cert.Spec

/-! ### Where a tile starts -/

theorem row_lt (i : grid0.Coords) : (i 1).val < 8 := (i 1).isLt

theorem trip_lt (i : grid0.Coords) (k : Fin (k0_t1_loop i).trips) : k.val < (i 1).val := lt_of_lt_of_eq k.isLt (trips_t1 i)

theorem dshift_int (i : grid0.Coords) : (dshift i).toInt = (((i 1).val : ℤ) - (i 1).val) * 256 := by
  have h := row_lt i
  unfold dshift
  generalize (i 1).val = n at h ⊢
  interval_cases n <;> decide

theorem tshift_int (i : grid0.Coords) (k : Fin (k0_t1_loop i).trips) :
    (tshift i k).toInt = ((((i 1).val - 1 - k.val : ℕ) : ℤ) - (i 1).val) * 256 := by
  have h := row_lt i
  have hk := trip_lt i k
  unfold tshift
  generalize (i 1).val = n at h hk ⊢
  generalize k.val = m at hk ⊢
  interval_cases n <;> interval_cases m <;> decide

theorem off_diag (i : grid0.Coords) : k0_off1 i = ![0, (i 1).val * 256, 0] ∧ k0_off2 i = ![0, (i 1).val * 256, 128]
    ∧ k0_off3 i = ![0, (i 1).val * 256, 256] ∧ k0_off4 i = ![0, (i 1).val * 256, 384] := by
  have h := row_lt i
  unfold k0_off1 k0_off2 k0_off3 k0_off4
  dsimp only
  generalize (i 1).val = n at h ⊢
  interval_cases n <;> decide

theorem off_trip (i : grid0.Coords) (k : Fin (k0_t1_loop i).trips) :
    k0_off5 i k = ![0, ((i 1).val - 1 - k.val) * 256, 0] ∧ k0_off6 i k = ![0, ((i 1).val - 1 - k.val) * 256, 128]
    ∧ k0_off7 i k = ![0, ((i 1).val - 1 - k.val) * 256, 256] ∧ k0_off8 i k = ![0, ((i 1).val - 1 - k.val) * 256, 384] := by
  have h := row_lt i
  have hk := trip_lt i k
  unfold k0_off5 k0_off6 k0_off7 k0_off8
  dsimp only
  generalize (i 1).val = n at h hk ⊢
  generalize k.val = m at hk ⊢
  interval_cases n <;> interval_cases m <;> decide

/-! ### Tiles of keys and values -/

/-- A block of one batch's keys or values, its columns from column `b` of the row. -/
def IsBlk (x : ℕ → ℕ → ℝ) (b : ℕ) (y : Vec Ideal S1x2048x512 .bf16) : Prop :=
  ∀ j : S1x2048x512.Idx, y j = ((x (j 1).val (b + (j 2).val) : ℝ) : EReal)

theorem key_read {x : ℕ → ℕ → ℝ} {b : ℕ} {y : Vec Ideal S1x2048x512 .bf16} (hy : IsBlk x b y) (m : Memref sig .tc .vmem S1x2048x512 .bf16)
    (hm : m.IsWhole) {off : Fin 3 → Nat} {t g : ℕ} (ho : off = ![0, t * 256, g * 128])
    (inb : ∀ a : Fin S1x2048x512.rank, off a + S1x256x128.size a ≤ S1x2048x512.size a) (c : Fin 256) (l : Fin 128) :
    View.readAt (Elt Ideal) m.view (Rect.unit (s := S1x2048x512) off S1x256x128.size inb).toLoadRect (hm.unread y) (ix3 (0 : Fin 1) c l)
      = ((x (t * 256 + c.val) (b + (g * 128 + l.val)) : ℝ) : EReal) := by
  subst ho
  rw [hm.readAt_unread, hy]
  have e1 : ((Rect.unit (s := S1x2048x512) ![0, t * 256, g * 128] S1x256x128.size inb).toLoadRect.idx (ix3 (0 : Fin 1) c l) 1).val = t * 256 + c.val := by
    show t * 256 + 1 * c.val = _
    rw [one_mul]
  have e2 : ((Rect.unit (s := S1x2048x512) ![0, t * 256, g * 128] S1x256x128.size inb).toLoadRect.idx (ix3 (0 : Fin 1) c l) 2).val = g * 128 + l.val := by
    show g * 128 + 1 * l.val = _
    rw [one_mul]
  rw [e1, e2]

theorem hasK_dkey {x : ℕ → ℕ → ℝ} {b : ℕ} {y : Vec Ideal S1x2048x512 .bf16} (hy : IsBlk x b y) (i : grid0.Coords)
    (m : Memref sig .tc .vmem S1x2048x512 .bf16) (hm : m.IsWhole) : HasK x (i 1).val b (dkey i m.view (hm.unread y)) := fun g hg c l => by
  obtain ⟨h1, h2, h3, h4⟩ := off_diag i
  interval_cases g
  · exact key_read hy m hm (g := 0) h1 _ c l
  · exact key_read hy m hm (g := 1) h2 _ c l
  · exact key_read hy m hm (g := 2) h3 _ c l
  · exact key_read hy m hm (g := 3) h4 _ c l

theorem hasK_tkey {x : ℕ → ℕ → ℝ} {b : ℕ} {y : Vec Ideal S1x2048x512 .bf16} (hy : IsBlk x b y) (i : grid0.Coords) (k : Fin (k0_t1_loop i).trips)
    (m : Memref sig .tc .vmem S1x2048x512 .bf16) (hm : m.IsWhole) : HasK x ((i 1).val - 1 - k.val) b (tkey i k m.view (hm.unread y)) := fun g hg c l => by
  obtain ⟨h1, h2, h3, h4⟩ := off_trip i k
  interval_cases g
  · exact key_read hy m hm (g := 0) h1 _ c l
  · exact key_read hy m hm (g := 1) h2 _ c l
  · exact key_read hy m hm (g := 2) h3 _ c l
  · exact key_read hy m hm (g := 3) h4 _ c l

/-! ### The queries -/

/-- A block of one batch's queries, its columns from column `a` of the row. -/
def IsQ (x : ℕ → ℕ → ℝ) (qi a : ℕ) (y : Vec Ideal S1x256x512 .bf16) : Prop :=
  ∀ j : S1x256x512.Idx, y j = ((x (qi * 256 + (j 1).val) (a + (j 2).val) : ℝ) : EReal)

theorem scaled_apply (q : Vec Ideal S1x256x512 .bf16) (r : Fin 256) (c : Fin 512) :
    scaled q (ix2 r c) = (q (ix3 (0 : Fin 1) r c) : EReal) * Ideal.ofBits .bf16 0x3E00#16 := by
  pointwise [scaled]

theorem qcut_apply (q : Vec Ideal S1x256x512 .bf16) (g : ℕ) (hg : g < 4) (r : Fin 256) (l : Fin 128) :
    qcut q g (ix2 r l) = (q (ix3 (0 : Fin 1) r (⟨g * 128 + l.val, by omega⟩ : Fin 512)) : EReal) * Ideal.ofBits .bf16 0x3E00#16 := by
  rw [← scaled_apply]
  interval_cases g
  all_goals
    refine congrArg (scaled q) (funext fun a => Fin.ext ?_)
    match a with
    | ⟨0, _⟩ => exact Nat.zero_add _
    | ⟨1, _⟩ => rfl

theorem eighth : Ideal.ofBits .bf16 0x3E00#16 = ((1 / 8 : ℝ) : EReal) := by
  simp [Ideal.ofBits, Ideal.ieee]
  rw [← EReal.coe_mul]
  norm_num

theorem qpart_apply (q : Vec Ideal S1x256x512 .bf16) (g p : ℕ) (hp : p < 2) (r : Fin 256) (l : Fin 128) :
    qpart q g p (ix3 (0 : Fin 1) r l) = if l.val / 64 = p then qcut q g (ix2 r l) else (0 : EReal) := by
  interval_cases p
  · pointwise [qpart, none16]
    rw [low_apply]
    by_cases h : l.val < 64
    · rw [if_pos (by omega)]; simp [h, Scalar.select]
    · rw [if_neg (by omega)]; simp [h, Scalar.select]
  · pointwise [qpart, none16]
    rw [low_apply]
    by_cases h : l.val < 64
    · rw [if_neg (by omega)]; simp [h, Scalar.select]
    · rw [if_pos (by omega)]; simp [h, Scalar.select]

theorem rqpart_disjoint {g p g' p' : Nat} (h : g % 4 ≠ g' % 4 ∨ p % 2 ≠ p' % 2) : Disjoint (rqpart g p).set (rqpart g' p').set := by
  rcases h with h | h
  · exact Rect.unit_disjoint (s := S4x512x128) (0 : Fin 3) (by show g % 4 + 1 ≤ g' % 4 ∨ g' % 4 + 1 ≤ g % 4; omega)
  · exact Rect.unit_disjoint (s := S4x512x128) (1 : Fin 3) (by show p % 2 * 256 + 256 ≤ p' % 2 * 256 ∨ p' % 2 * 256 + 256 ≤ p % 2 * 256; omega)

/-- Stores into the query rows of some heads leave their own in each. -/
theorem load_parts (v : View sig .tc .vmem S4x512x128 .bf16) (f : v.ty.Contents (Elt Ideal)) (w : Nat → Nat → Vec Ideal S1x256x128 .bf16)
    (g p : Nat) (hg : g < 4) (hp : p < 2) (hs : List (Nat × Nat)) (hl : ∀ y ∈ hs, y.1 < 4 ∧ y.2 < 2) (hm : (g, p) ∈ hs) :
    View.readAt (Elt Ideal) v (rqpart g p).toLoadRect (v.writes (Elt Ideal) f (hs.map (fun y => (⟨rqpart y.1 y.2, w y.1 y.2⟩ : View.Piece (Elt Ideal) S4x512x128 .bf16)))) = w g p := by
  induction hs with
  | nil => exact absurd hm List.not_mem_nil
  | cons y hs ih =>
    rw [List.map_cons]
    by_cases e : y = (g, p)
    · subst e; exact load_hit v f (rqpart g p) (w g p) _
    · obtain ⟨h1, h2⟩ := hl y List.mem_cons_self
      refine (load_skip v f ⟨rqpart y.1 y.2, w y.1 y.2⟩ (rqpart g p) _ (rqpart_disjoint ?_)).trans ?_
      · by_contra hc
        exact e (Prod.ext (by omega) (by omega))
      · exact ih (fun z hz => hl z (List.mem_cons_of_mem _ hz)) ((List.mem_cons.mp hm).resolve_left fun h' => e h'.symm)

/-- A pair's load finds the scaled queries. -/
theorem hasQ_read {x : ℕ → ℕ → ℝ} {qi a : ℕ} {y : Vec Ideal S1x256x512 .bf16} (hy : IsQ x qi a y) (v : View sig .tc .vmem S4x512x128 .bf16)
    (m : Memref sig .tc .vmem S1x256x512 .bf16) (hm : m.IsWhole) {off : Fin 3 → Nat} (inb : ∀ a : Fin S1x256x512.rank, off a + S1x256x512.size a ≤ S1x256x512.size a) (ho : off = ![0, 0, 0]) :
    HasQ x qi a (fun g => View.readAt (Elt Ideal) v (rqslab g).toLoadRect (v.writes (Elt Ideal) v.junk
      (putQueries (qpart (View.readAt (Elt Ideal) m.view (Rect.unit (s := S1x256x512) off S1x256x512.size inb).toLoadRect (hm.unread y)))))) := fun g hg p hp r l => by
  subst ho
  set q := View.readAt (Elt Ideal) m.view (Rect.unit (s := S1x256x512) ![0, 0, 0] S1x256x512.size inb).toLoadRect (hm.unread y) with hq
  have hqv : ∀ c : Fin 512, q (ix3 (0 : Fin 1) r c) = ((x (qi * 256 + r.val) (a + c.val) : ℝ) : EReal) := fun c => by
    rw [hq, hm.readAt_unread, hy]
    have e1 : ((Rect.unit (s := S1x256x512) ![0, 0, 0] S1x256x512.size inb).toLoadRect.idx (ix3 (0 : Fin 1) r c) 1).val = r.val := by
      show 0 + 1 * r.val = _
      omega
    have e2 : ((Rect.unit (s := S1x256x512) ![0, 0, 0] S1x256x512.size inb).toLoadRect.idx (ix3 (0 : Fin 1) r c) 2).val = c.val := by
      show 0 + 1 * c.val = _
      omega
    rw [e1, e2]
  have h := congrFun (load_parts v v.junk (qpart q) g p hg hp [(3, 1), (3, 0), (2, 1), (2, 0), (1, 1), (1, 0), (0, 1), (0, 0)] (by decide)
    (by interval_cases g <;> interval_cases p <;> decide)) (ix3 (0 : Fin 1) r l)
  rw [qpart_apply q g p hp, qcut_apply q g hg, hqv, eighth, ← EReal.coe_mul] at h
  refine Eq.trans ?_ (h.trans ?_)
  · show v.read (Elt Ideal) _ _ = v.read (Elt Ideal) _ _
    refine congrArg (v.read (Elt Ideal) _) (funext fun b => Fin.ext ?_)
    match b with
    | ⟨0, _⟩ => rfl
    | ⟨1, _⟩ => show 0 + 1 * (p * 256 + r.val) = p % 2 * 256 + 1 * r.val; rw [Nat.mod_eq_of_lt hp]; omega
    | ⟨2, _⟩ => rfl
  · split <;> rfl

/-! ### The triangle -/

theorem isTri_fill : IsTri (k0_pay348 : FVec Ideal S256x256 .bf16) := fun a b => by
  pointwise [k0_pay348]
  have h : IntOp.cmpi CmpIPredicate.sgt (BitVec.ofNat 32 a.val) (BitVec.ofNat 32 b.val) = BitVec.ofBool (decide (b.val < a.val)) :=
    slt_ofNat b.isLt a.isLt
  rw [h]
  show ((((BitVec.setWidth 32 (BitVec.ofBool (decide (b.val < a.val)))).toInt : ℤ) : ℝ) : EReal) = _
  by_cases e : b.val < a.val
  · simp [e]
  · simp [e]

end Cert.Tile
-- ==== Proof.State.lean ====
/-
  What the buffers hold before each trip of the kernel's loop, over the extended reals.
-/
module

public import proofs.«01_k».proof.Proof.Sweep
public import proofs.«01_k».proof.Proof.Reads

@[expose] public section

noncomputable section

namespace Cert.Tile

open Idealize.ShloMosaic Idealize.ShloMosaic.TcCoe Idealize.SL.Sem Cert.KernelIdeal Cert.KernelIdeal.Gen Cert.Rows Cert.Spec

variable {x : ℕ → ℕ → ℝ}

theorem IsSb.congr {qi t : ℕ} {C C' : Nat → Vec Ideal S1x256x128 .f32} {A A' : Nat → Vec Ideal S256x128 .f32} (h : IsSb x qi t C' A')
    (hC : ∀ h, h < 8 → C h = C' h) (hA : ∀ g, g < 4 → A g = A' g) : IsSb x qi t C A where
  carry n hn := hC n hn ▸ h.carry n hn
  acc g hg := hA g hg ▸ h.acc g hg

theorem IsDf.congr {qi t : ℕ} {M M' L L' D D' : Nat → Vec Ideal S1x256x128 .f32} (h : IsDf x qi t M' L' D')
    (hM : ∀ h, h < 8 → M h = M' h) (hL : ∀ h, h < 8 → L h = L' h) (hD : ∀ h, h < 8 → D h = D' h) : IsDf x qi t M L D := fun n hn r => by
  rw [hM n hn, hL n hn, hD n hn]
  exact h n hn r

theorem HasQ.congr {qi a : ℕ} {q q' : Nat → Vec Ideal S1x512x128 .bf16} (h : HasQ x qi a q') (e : ∀ g, g < 4 → q g = q' g) : HasQ x qi a q :=
  fun g hg => e g hg ▸ h g hg

/-- The queries the trips read. -/
theorem hasQ_sb (c : Dev nD) (qi : ℕ) (arg7 : Memref sig .tc .vmem S1x256x512 .bf16) (harg7 : arg7.IsWhole) (arg14 : Memref sig .tc .vmem S4x512x128 .bf16) {x5 : Vec Ideal S1x256x512 .bf16} (hx5 : IsQ x qi 0 x5) :
    HasQ x qi 0 (fun g => View.readAt (Elt Ideal) arg14.view (rqslab g).toLoadRect (arg14.view.writes (Elt Ideal) arg14.view.junk (kernelRun0_A.sl.HS0_8 (F := Ideal) c arg7 harg7 x5))) := by
  rw [diag_queries_sb]
  exact hasQ_read hx5 arg14.view arg7 harg7 _ rfl

theorem hasQ_df (c : Dev nD) (qi : ℕ) (arg10 : Memref sig .tc .vmem S1x256x512 .bf16) (harg10 : arg10.IsWhole) (arg15 : Memref sig .tc .vmem S4x512x128 .bf16) {x8 : Vec Ideal S1x256x512 .bf16} (hx8 : IsQ x qi 1536 x8) :
    HasQ x qi 1536 (fun g => View.readAt (Elt Ideal) arg15.view (rqslab g).toLoadRect (arg15.view.writes (Elt Ideal) arg15.view.junk (kernelRun0_A.sl.HS1_8 (F := Ideal) c arg10 harg10 x8))) := by
  rw [diag_queries_df]
  exact hasQ_read hx8 arg15.view arg10 harg10 _ rfl

theorem hasQ_dQS (c : Dev nD) (qi : ℕ) (arg7 : Memref sig .tc .vmem S1x256x512 .bf16) (harg7 : arg7.IsWhole) (arg14 : Memref sig .tc .vmem S4x512x128 .bf16) {x5 : Vec Ideal S1x256x512 .bf16} (hx5 : IsQ x qi 0 x5) :
    HasQ x qi 0 (dQS (F := Ideal) c arg7 harg7 arg14 x5) :=
  (hasQ_sb c qi arg7 harg7 arg14 hx5).congr fun g hg => by interval_cases g <;> with_unfolding_all rfl

theorem hasQ_dQD (c : Dev nD) (qi : ℕ) (arg10 : Memref sig .tc .vmem S1x256x512 .bf16) (harg10 : arg10.IsWhole) (arg15 : Memref sig .tc .vmem S4x512x128 .bf16) {x8 : Vec Ideal S1x256x512 .bf16} (hx8 : IsQ x qi 1536 x8) :
    HasQ x qi 1536 (dQD (F := Ideal) c arg10 harg10 arg15 x8) :=
  (hasQ_df c qi arg10 harg10 arg15 hx8).congr fun g hg => by interval_cases g <;> with_unfolding_all rfl

theorem tri_read (arg16 : Memref sig .tc .vmem S256x256 .bf16) : whole16 arg16.view (arg16.view.writes (Elt Ideal) arg16.view.junk (kernelRun0_A.sl.HS2_1 (F := Ideal))) = (k0_pay348 : FVec Ideal S256x256 .bf16) := by
  have e : ((kernelRun0_A.sl.HS2_1 (F := Ideal)) : List (View.Piece (Elt Ideal) S256x256 .bf16)) = [⟨Rect.unit (s := S256x256) ![0, 0] S256x256.size inb_S256x256_S256x256_0_0, (k0_pay348 : FVec Ideal S256x256 .bf16)⟩] := by with_unfolding_all rfl
  rw [e]
  exact View.readCov_unit_zero (Val := Elt Ideal) arg16.view (by decide : (![0, 0] : Fin 2 → Nat) = fun _ => 0) inb_S256x256_S256x256_0_0 (k0_pay348 : FVec Ideal S256x256 .bf16)

theorem tri_diag (c : Dev nD) (arg16 : Memref sig .tc .vmem S256x256 .bf16) : kernelRun0_A.sl.v206 (F := Ideal) c arg16 = (k0_pay348 : FVec Ideal S256x256 .bf16) :=
  (by with_unfolding_all rfl : kernelRun0_A.sl.v206 (F := Ideal) c arg16 = whole16 arg16.view (arg16.view.writes (Elt Ideal) arg16.view.junk (kernelRun0_A.sl.HS2_1 (F := Ideal)))).trans (tri_read arg16)

theorem next_acc (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (k : Fin (k0_t1_loop i).trips) (h : Nat) (hh : h < 4) :
    View.readAt (Elt Ideal) arg17.view (rcols h).toLoadRect (sA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)) = gain (logits (tkey i k arg8.view (harg8.unread x6)) (fun g => View.readAt (Elt Ideal) arg14.view (rqslab g).toLoadRect (arg14.view.writes (Elt Ideal) arg14.view.junk (kernelRun0_A.sl.HS0_8 (F := Ideal) c arg7 harg7 x5)))) (whole16 arg16.view (arg16.view.writes (Elt Ideal) arg16.view.junk (kernelRun0_A.sl.HS2_1 (F := Ideal)))) (fun h => View.readAt (Elt Ideal) arg18.view (rslab h).toLoadRect (sC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) (tkey i k arg9.view (harg9.unread x7)) (fun g => View.readAt (Elt Ideal) arg17.view (rcols g).toLoadRect (sA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) h := by
  have e := congrArg (fun z => z.1) (loop_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k)
  rw [trip_acc] at e
  unfold sA
  rw [show (loop (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)).2.1 = _ from e]
  exact load_putCols _ _ _ _ h hh

theorem next_carry (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (k : Fin (k0_t1_loop i).trips) (h : Nat) (hh : h < 8) :
    View.readAt (Elt Ideal) arg18.view (rslab h).toLoadRect (sC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)) = carryNext (left (logits (tkey i k arg8.view (harg8.unread x6)) (fun g => View.readAt (Elt Ideal) arg14.view (rqslab g).toLoadRect (arg14.view.writes (Elt Ideal) arg14.view.junk (kernelRun0_A.sl.HS0_8 (F := Ideal) c arg7 harg7 x5))) h)) ((fun h => View.readAt (Elt Ideal) arg18.view (rslab h).toLoadRect (sC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) h) := by
  have e := congrArg (fun z => z.2.1) (loop_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k)
  rw [trip_carry] at e
  unfold sC
  rw [show (loop (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)).2.2.1 = _ from e]
  exact load_puts _ _ _ _ h hh

theorem next_max (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (k : Fin (k0_t1_loop i).trips) (h : Nat) (hh : h < 8) :
    View.readAt (Elt Ideal) arg19.view (rslab h).toLoadRect (sM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)) = slabOf (maxNext (tscore i k (tkey i k arg11.view (harg11.unread x9)) (fun g => View.readAt (Elt Ideal) arg15.view (rqslab g).toLoadRect (arg15.view.writes (Elt Ideal) arg15.view.junk (kernelRun0_A.sl.HS1_8 (F := Ideal) c arg10 harg10 x8))) h) ((fun h => View.readAt (Elt Ideal) arg19.view (rslab h).toLoadRect (sM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) h)) := by
  have e := congrArg (fun z => z.2.2.1) (loop_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k)
  rw [trip_max] at e
  unfold sM
  rw [show (loop (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)).2.2.2.1 = _ from e]
  exact load_puts _ _ _ _ h hh

theorem next_sum (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (k : Fin (k0_t1_loop i).trips) (h : Nat) (hh : h < 8) :
    View.readAt (Elt Ideal) arg20.view (rslab h).toLoadRect (sL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)) = sumNext (tscore i k (tkey i k arg11.view (harg11.unread x9)) (fun g => View.readAt (Elt Ideal) arg15.view (rqslab g).toLoadRect (arg15.view.writes (Elt Ideal) arg15.view.junk (kernelRun0_A.sl.HS1_8 (F := Ideal) c arg10 harg10 x8))) h) ((fun h => View.readAt (Elt Ideal) arg19.view (rslab h).toLoadRect (sM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) h) ((fun h => View.readAt (Elt Ideal) arg20.view (rslab h).toLoadRect (sL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) h) := by
  have e := congrArg (fun z => z.2.2.2.1) (loop_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k)
  rw [trip_sum] at e
  unfold sL
  rw [show (loop (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)).2.2.2.2.1 = _ from e]
  exact load_puts _ _ _ _ h hh

theorem next_val (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (k : Fin (k0_t1_loop i).trips) (h : Nat) (hh : h < 8) :
    View.readAt (Elt Ideal) arg21.view (rslab h).toLoadRect (sD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)) = dgain (tscore i k (tkey i k arg11.view (harg11.unread x9)) (fun g => View.readAt (Elt Ideal) arg15.view (rqslab g).toLoadRect (arg15.view.writes (Elt Ideal) arg15.view.junk (kernelRun0_A.sl.HS1_8 (F := Ideal) c arg10 harg10 x8)))) (fun h => View.readAt (Elt Ideal) arg19.view (rslab h).toLoadRect (sM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) (tkey i k arg12.view (harg12.unread x10)) (fun h => View.readAt (Elt Ideal) arg21.view (rslab h).toLoadRect (sD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k.val)) h := by
  have e := congrArg (fun z => z.2.2.2.2) (loop_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 k)
  rw [trip_val] at e
  unfold sD
  rw [show (loop (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (k.val + 1)).2.2.2.2.2 = _ from e]
  exact load_puts _ _ _ _ h hh

theorem zero_acc (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) : (sA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 0) = (arg17.view.writes (Elt Ideal) arg17.view.junk (kernelRun0_A.sl.HS3_5 (F := Ideal) c i arg7 harg7 arg8 harg8 arg9 harg9 arg14 arg16 arg17 arg18 x5 x6 x7)) := by
  unfold sA loop
  rw [st_k0_t1.eq_1]
  rfl

theorem zero_carry (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) : (sC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 0) = (arg18.view.writes (Elt Ideal) arg18.view.junk (kernelRun0_A.sl.HS4_9 (F := Ideal) c i arg7 harg7 arg8 harg8 arg14 arg18 x5 x6)) := by
  unfold sC loop
  rw [st_k0_t1.eq_1]
  rfl

theorem zero_max (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) : (sM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 0) = (arg19.view.writes (Elt Ideal) arg19.view.junk (kernelRun0_A.sl.HS5_9 (F := Ideal) c i arg10 harg10 arg11 harg11 arg15 arg19 x8 x9)) := by
  unfold sM loop
  rw [st_k0_t1.eq_1]
  rfl

theorem zero_sum (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) : (sL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 0) = (arg20.view.writes (Elt Ideal) arg20.view.junk (kernelRun0_A.sl.HS6_9 (F := Ideal) c i arg10 harg10 arg11 harg11 arg15 arg19 arg20 x8 x9)) := by
  unfold sL loop
  rw [st_k0_t1.eq_1]
  rfl

theorem zero_val (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) : (sD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 0) = (arg21.view.writes (Elt Ideal) arg21.view.junk (kernelRun0_A.sl.HS7_9 (F := Ideal) c i arg10 harg10 arg11 harg11 arg12 harg12 arg15 arg19 arg21 x8 x9 x10)) := by
  unfold sD loop
  rw [st_k0_t1.eq_1]
  rfl

theorem state_sb (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (hx5 : IsQ x (i 1).val 0 x5) (hx6 : IsBlk x 512 x6) (hx7 : IsBlk x 1024 x7) (n : Nat) (hn : n ≤ (i 1).val) :
    IsSb x (i 1).val ((i 1).val - n) (fun h => View.readAt (Elt Ideal) arg18.view (rslab h).toLoadRect (sC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n)) (fun g => View.readAt (Elt Ideal) arg17.view (rcols g).toLoadRect (sA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n)) := by
  induction n with
  | zero =>
    refine (sb_first (hasQ_dQS c _ arg7 harg7 arg14 hx5) (hasK_dkey hx6 i arg8 harg8) (hasK_dkey hx7 i arg9 harg9)
      ((tri_diag c arg16).symm ▸ isTri_fill) (sb_start (C := dC (F := Ideal) c i arg7 harg7 arg8 harg8 arg14 arg18 x5 x6) (A := dA (F := Ideal) c i arg7 harg7 arg8 harg8 arg9 harg9 arg14 arg16 arg17 arg18 x5 x6 x7)
        (fun h hh => (fill_carry c i arg7 harg7 arg8 harg8 arg14 arg18 x5 x6 h hh).trans (funext fun _ => Ideal.ofBits_zero_f32))
        (fun g hg => (fill_acc c i arg7 harg7 arg8 harg8 arg9 harg9 arg14 arg16 arg17 arg18 x5 x6 x7 g hg).trans (funext fun _ => Ideal.ofBits_zero_f32))) (row_lt i)).congr (fun h hh => ?_) (fun g hg => ?_)
    · rw [zero_carry, diag_carry]
      exact load_puts _ _ _ _ h hh
    · rw [zero_acc, diag_acc]
      exact load_putCols _ _ _ _ g hg
  | succ n ih =>
    have hk : n < (k0_t1_loop i).trips := lt_of_lt_of_eq (by omega) (trips_t1 i).symm
    have hs := ih (by omega)
    rw [show (i 1).val - n = (i 1).val - 1 - n + 1 by omega] at hs
    rw [show (i 1).val - (n + 1) = (i 1).val - 1 - n by omega]
    exact (sb_step (hasQ_sb c _ arg7 harg7 arg14 hx5) (hasK_tkey hx6 i ⟨n, hk⟩ arg8 harg8) (hasK_tkey hx7 i ⟨n, hk⟩ arg9 harg9)
      ((tri_read arg16).symm ▸ isTri_fill) hs (by have := row_lt i; omega) (row_lt i)).congr
      (fun h hh => next_carry c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 ⟨n, hk⟩ h hh) (fun g hg => next_acc c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 ⟨n, hk⟩ g hg)

theorem state_df (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (hx8 : IsQ x (i 1).val 1536 x8) (hx9 : IsBlk x 2048 x9) (hx10 : IsBlk x 2560 x10) (n : Nat) (hn : n ≤ (i 1).val) :
    IsDf x (i 1).val ((i 1).val - n) (fun h => View.readAt (Elt Ideal) arg19.view (rslab h).toLoadRect (sM (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n)) (fun h => View.readAt (Elt Ideal) arg20.view (rslab h).toLoadRect (sL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n)) (fun h => View.readAt (Elt Ideal) arg21.view (rslab h).toLoadRect (sD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 n)) := by
  induction n with
  | zero =>
    refine (df_step (t := (i 1).val) (fun h hh => isS_scoreD (hasQ_dQD c _ arg10 harg10 arg15 hx8) (hasK_dkey hx9 i arg11 harg11) hh (dshift_int i) rfl)
      (hasK_dkey hx10 i arg12 harg12) (df_start (M := dM (F := Ideal) c i arg10 harg10 arg11 harg11 arg15 arg19 x8 x9) (L := dL (F := Ideal) c i arg10 harg10 arg11 harg11 arg15 arg19 arg20 x8 x9) (D := dD (F := Ideal) c i arg10 harg10 arg11 harg11 arg12 harg12 arg15 arg19 arg21 x8 x9 x10)
        (fun h hh => (fill_max c i arg10 harg10 arg11 harg11 arg15 arg19 x8 x9 h hh).trans (funext fun _ => named_mask))
        (fun h hh => (fill_sum c i arg10 harg10 arg11 harg11 arg15 arg19 arg20 x8 x9 h hh).trans (funext fun _ => Ideal.ofBits_zero_f32))
        (fun h hh => (fill_val c i arg10 harg10 arg11 harg11 arg12 harg12 arg15 arg19 arg21 x8 x9 x10 h hh).trans (funext fun _ => Ideal.ofBits_zero_f32))) le_rfl).congr
      (fun h hh => ?_) (fun h hh => ?_) (fun h hh => ?_)
    · rw [zero_max, diag_max]
      exact load_puts _ _ _ _ h hh
    · rw [zero_sum, diag_sum]
      exact load_puts _ _ _ _ h hh
    · rw [zero_val, diag_val]
      exact load_puts _ _ _ _ h hh
  | succ n ih =>
    have hk : n < (k0_t1_loop i).trips := lt_of_lt_of_eq (by omega) (trips_t1 i).symm
    have hs := ih (by omega)
    rw [show (i 1).val - n = (i 1).val - 1 - n + 1 by omega] at hs
    rw [show (i 1).val - (n + 1) = (i 1).val - 1 - n by omega]
    exact (df_step (fun h hh => isS_score (hasQ_df c _ arg10 harg10 arg15 hx8) (hasK_tkey hx9 i ⟨n, hk⟩ arg11 harg11) hh (tshift_int i ⟨n, hk⟩) (by have := row_lt i; omega))
      (hasK_tkey hx10 i ⟨n, hk⟩ arg12 harg12) hs (by omega)).congr
      (fun h hh => next_max c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 ⟨n, hk⟩ h hh) (fun h hh => next_sum c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 ⟨n, hk⟩ h hh) (fun h hh => next_val c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 ⟨n, hk⟩ h hh)

end Cert.Tile
-- ==== Proof.Done.lean ====
/-
  The end of the kernel's body against the mathematics: the two maps' quotients, their difference, the normalised head.
-/
module

public import proofs.«01_k».proof.Proof.Steps
public import proofs.«01_k».proof.Proof.Diag

@[expose] public section

noncomputable section

namespace Cert.Spec

open Idealize.ShloMosaic

/-- A head's values normalised over its lanes, scaled by the gain and by the constant in front. -/
def rms (o : ℕ → ℝ) (g : EReal) (e : ℕ) : EReal :=
  ((o e : ℝ) : EReal) * Ideal.rsqrt (Ideal.div (∑ d : Fin 128, ((o d.val : ℝ) : EReal) * ((o d.val : ℝ) : EReal)) (Ideal.ofBits .f32 0x43000000#32)
    + Ideal.ofBits .f32 0x3727C5AC#32) * g * Ideal.ofBits .f32 0x3F4CCCCD#32

/-- The factor of the second map. -/
def lam (a b c e : Fin 64 → EReal) : EReal :=
  Ideal.exp (∑ d, a d * b d) - Ideal.exp (∑ d, c d * e d) + Ideal.ofBits .f32 0x3E4CCCCD#32

end Cert.Spec

namespace Cert.Tile

open Idealize.ShloMosaic Idealize.ShloMosaic.TcCoe Idealize.SL.Sem Cert.KernelIdeal Cert.KernelIdeal.Gen Cert.Rows Cert.Spec
open Finset (Ico)

theorem total_apply (y : FVec Ideal S256x128 .f32) (r : Fin 256) : total y (ix2 r (0 : Fin 1)) = ∑ l : Fin 128, (y (ix2 r l) : EReal) := by
  pointwise [total]

theorem quot_apply (a l : Vec Ideal S1x256x128 .f32) (r : Fin 256) (e : Fin 128) :
    quot a l (ix2 r e) = Ideal.div (a (ix3 (0 : Fin 1) r e)) (∑ u : Fin 128, (l (ix3 (0 : Fin 1) r u) : EReal)) := by
  pointwise [quot]
  rw [flat_apply, total_apply]
  simp only [flat_apply]

theorem both_apply (lm : FVec Ideal S1x1 .f32) (l0 l1 a0 a1 : Vec Ideal S1x256x128 .f32) (r : Fin 256) (e : Fin 128) :
    both lm l0 l1 a0 a1 (ix2 r e) = (quot a0 l0 (ix2 r e) : EReal) - lm (ix2 (0 : Fin 1) (0 : Fin 1)) * quot a1 l1 (ix2 r e) := by
  pointwise [both]

theorem normed_apply (o : FVec Ideal S256x128 .f32) (g : Vec Ideal S1x128 .f32) (r : Fin 256) (e : Fin 128) :
    normed o g (ix3 (0 : Fin 1) r e) = (o (ix2 r e) : EReal) * Ideal.rsqrt (Ideal.div (∑ d : Fin 128, (o (ix2 r d) : EReal) * o (ix2 r d)) (Ideal.ofBits .f32 0x43000000#32)
      + Ideal.ofBits .f32 0x3727C5AC#32) * g (ix2 (0 : Fin 1) e) * Ideal.ofBits .f32 0x3F4CCCCD#32 := by
  pointwise [normed]
  rw [total_apply]
  rfl

theorem lambda_apply (a b c e : Vec Ideal S1x64 .f32) :
    lambda a b c e (ix2 (0 : Fin 1) (0 : Fin 1)) = lam (fun d => a (ix2 (0 : Fin 1) d)) (fun d => b (ix2 (0 : Fin 1) d)) (fun d => c (ix2 (0 : Fin 1) d)) (fun d => e (ix2 (0 : Fin 1) d)) := by
  pointwise [lambda]
  rfl

/-- A map's values over its sum are the attention of the map. -/
theorem quot_done {x : ℕ → ℕ → ℝ} {qi h : ℕ} {M L D : Vec Ideal S1x256x128 .f32} {r : Fin 256} (hM : IsMap x qi 0 h M L D r) (hqi : qi < 8) (e : Fin 128) :
    quot D L (ix2 r e) = ((attn x (h / 2) (h % 2) e.val (qi * 256 + r.val) : ℝ) : EReal) := by
  rcases hM with ⟨h0, _⟩ | ⟨μ, hμ⟩
  · omega
  rw [quot_apply, sum_of_coe _ (fun u => (hμ u).2.1), (hμ e).2.2, ← Finset.mul_sum,
    sum_lanes_tiles (moved x (h / 2) (h % 2) (qi * 256) (qi * 256 + r.val)) 0 (qi + 1) (by omega), Nat.zero_mul]
  have hp : 0 < ∑ k ∈ Ico 0 ((qi + 1) * 256), moved x (h / 2) (h % 2) (qi * 256) (qi * 256 + r.val) k := expo_sum_pos _ _ (by omega)
  have h2 := two_rpow_pos (-μ)
  rw [Ideal.div_coe (mul_pos h2 hp).ne', ← EReal.coe_mul]
  congr 1
  unfold attn
  rw [← prob_sum _ (fun k => x k (2560 + (h / 2 * 128 + e.val))) (Spec.slope (h / 2) * ((qi * 256 + r.val : ℕ) - (qi * 256 : ℕ))) (n := (qi + 1) * 256) (by omega) (by omega)]
  unfold moved at hp ⊢
  field_simp

theorem head_done {x : ℕ → ℕ → ℝ} {qi g : ℕ} {M0 L0 D0 M1 L1 D1 : Vec Ideal S1x256x128 .f32} {r : Fin 256} {lm : FVec Ideal S1x1 .f32} {w : ℝ}
    (h0 : IsMap x qi 0 (2 * g) M0 L0 D0 r) (h1 : IsMap x qi 0 (2 * g + 1) M1 L1 D1 r) (hqi : qi < 8)
    (hl : lm (ix2 (0 : Fin 1) (0 : Fin 1)) = (w : EReal)) (gn : Vec Ideal S1x128 .f32) (e : Fin 128) :
    normed (both lm L0 L1 D0 D1) gn (ix3 (0 : Fin 1) r e) = rms (fun e => diff x w g e (qi * 256 + r.val)) (gn (ix2 (0 : Fin 1) e)) e.val := by
  have hb : ∀ e : Fin 128, both lm L0 L1 D0 D1 (ix2 r e) = ((diff x w g e.val (qi * 256 + r.val) : ℝ) : EReal) := fun e => by
    rw [both_apply, quot_done h0 hqi, quot_done h1 hqi, hl, ← EReal.coe_mul, ← EReal.coe_sub,
      show 2 * g / 2 = g by omega, show 2 * g % 2 = 0 by omega, show (2 * g + 1) / 2 = g by omega, show (2 * g + 1) % 2 = 1 by omega]
    rfl
  rw [normed_apply]
  simp only [hb]
  rfl

end Cert.Tile
-- ==== Proof.Out.lean ====
/-
  What the kernel's body leaves in its output block, over the extended reals.
-/
module

public import proofs.«01_k».proof.Proof.State
public import proofs.«01_k».proof.Proof.Done

@[expose] public section

noncomputable section

namespace Cert.Spec

open Idealize.ShloMosaic

/-- The attention of row `r`, column `c`: the stick-breaking heads, then the differential ones. -/
def row (x : ℕ → ℕ → ℝ) (w : ℝ) (gn : ℕ → EReal) (r c : ℕ) : EReal :=
  if c < 512 then ((sbOut x (c / 64) (c % 64) r : ℝ) : EReal) else rms (fun e => diff x w ((c - 512) / 128) e r) (gn ((c - 512) % 128)) ((c - 512) % 128)

end Cert.Spec

namespace Cert.Tile

open Idealize.ShloMosaic Idealize.ShloMosaic.TcCoe Idealize.SL.Sem Cert.KernelIdeal Cert.KernelIdeal.Gen Cert.Rows Cert.Spec

variable {x : ℕ → ℕ → ℝ}

theorem row_read (m : Memref sig .tc .vmem S1x64 .f32) (hm : m.IsWhole) (y : Vec Ideal S1x64 .f32) :
    View.readAt (Elt Ideal) m.view (Rect.unit (s := S1x64) ![0, 0] S1x64.size inb_S1x64_S1x64_0_0).toLoadRect (hm.unread y) = y := by
  funext j
  rw [hm.readAt_unread]
  refine congrArg y (funext fun a => Fin.ext ?_)
  match a with
  | ⟨0, _⟩ => show 0 + 1 * (j 0).val = (j 0).val; omega
  | ⟨1, _⟩ => show 0 + 1 * (j 1).val = (j 1).val; omega

theorem gain_read (m : Memref sig .tc .vmem S1x128 .f32) (hm : m.IsWhole) (y : Vec Ideal S1x128 .f32) :
    View.readAt (Elt Ideal) m.view (Rect.unit (s := S1x128) ![0, 0] S1x128.size inb_S1x128_S1x128_0_0).toLoadRect (hm.unread y) = y := by
  funext j
  rw [hm.readAt_unread]
  refine congrArg y (funext fun a => Fin.ext ?_)
  match a with
  | ⟨0, _⟩ => show 0 + 1 * (j 0).val = (j 0).val; omega
  | ⟨1, _⟩ => show 0 + 1 * (j 1).val = (j 1).val; omega

theorem block_sb (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (hx5 : IsQ x (i 1).val 0 x5) (hx6 : IsBlk x 512 x6) (hx7 : IsBlk x 1024 x7) (r : Fin 256) (l : Fin 512) :
    (k0_pay523 (kernelRun0_A.sl.v917 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10) : FVec Ideal S1x256x512 .bf16) (ix3 (0 : Fin 1) r l) = ((sbOut x (l.val / 64) (l.val % 64) ((i 1).val * 256 + r.val) : ℝ) : EReal) := by
  have hs := (state_sb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 hx5 hx6 hx7 (i 1).val le_rfl).acc (l.val / 128) (by omega)
  rw [Nat.sub_self] at hs
  have h := acc_done hs (row_lt i) r ⟨l.val % 128, by omega⟩
  dsimp only at h
  rw [show 2 * (l.val / 128) + l.val % 128 / 64 = l.val / 64 by omega, show l.val % 128 % 64 = l.val % 64 by omega] at h
  rw [← h, eA_eq]
  pointwise [k0_pay523]
  show arg17.view.read (Elt Ideal) _ _ = arg17.view.read (Elt Ideal) _ _
  refine congrArg (arg17.view.read (Elt Ideal) _) (funext fun a => Fin.ext ?_)
  match a with
  | ⟨0, _⟩ => rfl
  | ⟨1, _⟩ => show 0 + 1 * l.val = l.val / 128 % 4 * 128 + 1 * (l.val % 128); omega

theorem block_df (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x0 : Vec Ideal S1x64 .f32) (x1 : Vec Ideal S1x64 .f32) (x2 : Vec Ideal S1x64 .f32) (x3 : Vec Ideal S1x64 .f32) (x4 : Vec Ideal S1x128 .f32) (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (hx8 : IsQ x (i 1).val 1536 x8) (hx9 : IsBlk x 2048 x9) (hx10 : IsBlk x 2560 x10) {w : ℝ}
    (hw : lam (fun d => x0 (ix2 (0 : Fin 1) d)) (fun d => x1 (ix2 (0 : Fin 1) d)) (fun d => x2 (ix2 (0 : Fin 1) d)) (fun d => x3 (ix2 (0 : Fin 1) d)) = (w : EReal))
    (g : ℕ) (hg : g < 4) (r : Fin 256) (e : Fin 128) :
    normed (both (lambda (View.readAt (Elt Ideal) arg2.view (Rect.unit (s := S1x64) ![0, 0] S1x64.size inb_S1x64_S1x64_0_0).toLoadRect (harg2.unread x0)) (View.readAt (Elt Ideal) arg3.view (Rect.unit (s := S1x64) ![0, 0] S1x64.size inb_S1x64_S1x64_0_0).toLoadRect (harg3.unread x1)) (View.readAt (Elt Ideal) arg4.view (Rect.unit (s := S1x64) ![0, 0] S1x64.size inb_S1x64_S1x64_0_0).toLoadRect (harg4.unread x2)) (View.readAt (Elt Ideal) arg5.view (Rect.unit (s := S1x64) ![0, 0] S1x64.size inb_S1x64_S1x64_0_0).toLoadRect (harg5.unread x3))) (eL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g)) (eL (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g + 1)) (eD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g)) (eD (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g + 1))) (View.readAt (Elt Ideal) arg6.view (Rect.unit (s := S1x128) ![0, 0] S1x128.size inb_S1x128_S1x128_0_0).toLoadRect (harg6.unread x4)) (ix3 (0 : Fin 1) r e)
      = rms (fun e => diff x w g e ((i 1).val * 256 + r.val)) (x4 (ix2 (0 : Fin 1) e)) e.val := by
  have hs := state_df c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 hx8 hx9 hx10 (i 1).val le_rfl
  rw [Nat.sub_self] at hs
  have h0 := hs (2 * g) (by omega) r
  have h1 := hs (2 * g + 1) (by omega) r
  rw [eL_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g) (by omega), eL_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g + 1) (by omega), eD_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g) (by omega), eD_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 (2 * g + 1) (by omega),
    row_read, row_read, row_read, row_read, gain_read]
  exact head_done h0 h1 (row_lt i) ((lambda_apply x0 x1 x2 x3).trans hw) x4 e

/-- The output block, entry by entry. -/
theorem block_out (c : Dev nD) (i : grid0.Coords) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x128 .f32) (harg6 : arg6.IsWhole) (arg7 : Memref sig .tc .vmem S1x256x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x256x512 .bf16) (harg10 : arg10.IsWhole) (arg11 : Memref sig .tc .vmem S1x2048x512 .bf16) (harg11 : arg11.IsWhole) (arg12 : Memref sig .tc .vmem S1x2048x512 .bf16) (harg12 : arg12.IsWhole) (arg13 : Memref sig .tc .vmem S1x256x1024 .bf16) (harg13 : arg13.IsWhole) (arg14 : Memref sig .tc .vmem S4x512x128 .bf16) (harg14 : arg14.IsWhole) (arg15 : Memref sig .tc .vmem S4x512x128 .bf16) (harg15 : arg15.IsWhole) (arg16 : Memref sig .tc .vmem S256x256 .bf16) (harg16 : arg16.IsWhole) (arg17 : Memref sig .tc .vmem S256x512 .f32) (harg17 : arg17.IsWhole) (arg18 : Memref sig .tc .vmem S8x256x128 .f32) (harg18 : arg18.IsWhole) (arg19 : Memref sig .tc .vmem S8x256x128 .f32) (harg19 : arg19.IsWhole) (arg20 : Memref sig .tc .vmem S8x256x128 .f32) (harg20 : arg20.IsWhole) (arg21 : Memref sig .tc .vmem S8x256x128 .f32) (harg21 : arg21.IsWhole)
    (x0 : Vec Ideal S1x64 .f32) (x1 : Vec Ideal S1x64 .f32) (x2 : Vec Ideal S1x64 .f32) (x3 : Vec Ideal S1x64 .f32) (x4 : Vec Ideal S1x128 .f32) (x5 : Vec Ideal S1x256x512 .bf16) (x6 : Vec Ideal S1x2048x512 .bf16) (x7 : Vec Ideal S1x2048x512 .bf16) (x8 : Vec Ideal S1x256x512 .bf16) (x9 : Vec Ideal S1x2048x512 .bf16) (x10 : Vec Ideal S1x2048x512 .bf16) (hx5 : IsQ x (i 1).val 0 x5) (hx6 : IsBlk x 512 x6) (hx7 : IsBlk x 1024 x7) (hx8 : IsQ x (i 1).val 1536 x8) (hx9 : IsBlk x 2048 x9) (hx10 : IsBlk x 2560 x10) {w : ℝ}
    (hw : lam (fun d => x0 (ix2 (0 : Fin 1) d)) (fun d => x1 (ix2 (0 : Fin 1) d)) (fun d => x2 (ix2 (0 : Fin 1) d)) (fun d => x3 (ix2 (0 : Fin 1) d)) = (w : EReal))
    {gn : ℕ → EReal} (hgn : ∀ e : Fin 128, x4 (ix2 (0 : Fin 1) e) = gn e.val) (j : S1x256x1024.Idx) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 j = row x w gn ((i 1).val * 256 + (j 1).val) (j 2).val := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10)]
  refine View.canon_apply_of_pieces (Val := Elt Ideal) (fun j : S1x256x1024.Idx => row x w gn ((i 1).val * 256 + (j 1).val) (j 2).val) _ ?_ j (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 j)
  rw [pieces_A]
  have hh : ∀ g, g < 4 → ∀ (r : Fin 256) (e : Fin 128), rms (fun e => diff x w g e ((i 1).val * 256 + r.val)) (x4 (ix2 (0 : Fin 1) e)) e.val
      = row x w gn ((i 1).val * 256 + r.val) (512 + g * 128 + e.val) := fun g hg r e => by
    unfold row
    rw [if_neg (by omega), show (512 + g * 128 + e.val - 512) / 128 = g by omega, show (512 + g * 128 + e.val - 512) % 128 = e.val by omega, hgn]
  intro p hp y
  simp only [List.mem_cons, List.mem_nil_iff, or_false] at hp
  rcases hp with rfl | rfl | rfl | rfl | rfl
  · have h := (block_df c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hx8 hx9 hx10 hw 3 (by omega) (y 1) (y 2)).trans (hh 3 (by omega) (y 1) (y 2))
    refine Eq.trans (congrArg _ (funext fun a => ?_)) (h.trans ?_)
    · match a with
      | ⟨0, _⟩ => exact Subsingleton.elim (α := Fin 1) _ _
      | ⟨1, _⟩ => rfl
      | ⟨2, _⟩ => rfl
    · exact congrArg₂ (row x w gn) (show _ = (i 1).val * 256 + (0 + 1 * (y 1).val) by omega) (show _ = 896 + 1 * (y 2).val by omega)
  · have h := (block_df c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hx8 hx9 hx10 hw 2 (by omega) (y 1) (y 2)).trans (hh 2 (by omega) (y 1) (y 2))
    refine Eq.trans (congrArg _ (funext fun a => ?_)) (h.trans ?_)
    · match a with
      | ⟨0, _⟩ => exact Subsingleton.elim (α := Fin 1) _ _
      | ⟨1, _⟩ => rfl
      | ⟨2, _⟩ => rfl
    · exact congrArg₂ (row x w gn) (show _ = (i 1).val * 256 + (0 + 1 * (y 1).val) by omega) (show _ = 768 + 1 * (y 2).val by omega)
  · have h := (block_df c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hx8 hx9 hx10 hw 1 (by omega) (y 1) (y 2)).trans (hh 1 (by omega) (y 1) (y 2))
    refine Eq.trans (congrArg _ (funext fun a => ?_)) (h.trans ?_)
    · match a with
      | ⟨0, _⟩ => exact Subsingleton.elim (α := Fin 1) _ _
      | ⟨1, _⟩ => rfl
      | ⟨2, _⟩ => rfl
    · exact congrArg₂ (row x w gn) (show _ = (i 1).val * 256 + (0 + 1 * (y 1).val) by omega) (show _ = 640 + 1 * (y 2).val by omega)
  · have h := (block_df c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 hx8 hx9 hx10 hw 0 (by omega) (y 1) (y 2)).trans (hh 0 (by omega) (y 1) (y 2))
    refine Eq.trans (congrArg _ (funext fun a => ?_)) (h.trans ?_)
    · match a with
      | ⟨0, _⟩ => exact Subsingleton.elim (α := Fin 1) _ _
      | ⟨1, _⟩ => rfl
      | ⟨2, _⟩ => rfl
    · exact congrArg₂ (row x w gn) (show _ = (i 1).val * 256 + (0 + 1 * (y 1).val) by omega) (show _ = 512 + 1 * (y 2).val by omega)
  · have h := block_sb c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x5 x6 x7 x8 x9 x10 hx5 hx6 hx7 (y 1) (y 2)
    refine Eq.trans (congrArg _ (funext fun a => ?_)) (h.trans ?_)
    · match a with
      | ⟨0, _⟩ => exact Subsingleton.elim (α := Fin 1) _ _
      | ⟨1, _⟩ => rfl
      | ⟨2, _⟩ => rfl
    · show _ = row _ _ _ ((i 1).val * 256 + (0 + 1 * (y 1).val)) (0 + 1 * (y 2).val)
      rw [one_mul, one_mul, zero_add, zero_add]
      exact (if_pos (show (y 2).val < 512 from (y 2).isLt)).symm

end Cert.Tile
-- ==== Proof.Ker.lean ====
/-
  The kernel's result, over the extended reals, entry by entry.
-/
module

public import proofs.«01_k».proof.Proof.Out
public import proofs.«01_k».proof.Proof.Gen.KernelIdeal.Value
public import Idealize.ShloMosaic.Lib.Claim
public import Idealize.ShloMosaic.Lib.Pipeline.ValueKit.Point

@[expose] public section

noncomputable section

namespace Cert.Ker

open Idealize.ShloMosaic Idealize.ShloMosaic.TcCoe Idealize.SL.Sem Cert.KernelIdeal Cert.KernelIdeal.Gen Cert.Rows Cert.Spec Cert.Tile

variable (m : (ℓ : Loc nD τ sig) → Buf (Elt Ideal) ℓ) (c : Dev nD)

/-- The grid point's coordinates. -/
theorem coords_eq (t : Fin cfg0.N) : (grid0.coords t 0).val = t.val / 8 ∧ (grid0.coords t 1).val = t.val % 8 :=
  (by decide +kernel : ∀ t : Fin grid0.N, (grid0.coords t 0).val = t.val / 8 ∧ (grid0.coords t 1).val = t.val % 8) t

theorem index5 (t : Fin cfg0.N) : win0_5.index t = ![t.val / 8, t.val % 8, 0] :=
  (by decide +kernel : ∀ t : Fin grid0.N, win0_5.index t = ![t.val / 8, t.val % 8, 0]) t

theorem index6 (t : Fin cfg0.N) : win0_6.index t = ![t.val / 8, 0, 1] :=
  (by decide +kernel : ∀ t : Fin grid0.N, win0_6.index t = ![t.val / 8, 0, 1]) t

theorem index7 (t : Fin cfg0.N) : win0_7.index t = ![t.val / 8, 0, 2] :=
  (by decide +kernel : ∀ t : Fin grid0.N, win0_7.index t = ![t.val / 8, 0, 2]) t

theorem index8 (t : Fin cfg0.N) : win0_8.index t = ![t.val / 8, t.val % 8, 3] :=
  (by decide +kernel : ∀ t : Fin grid0.N, win0_8.index t = ![t.val / 8, t.val % 8, 3]) t

theorem index9 (t : Fin cfg0.N) : win0_9.index t = ![t.val / 8, 0, 4] :=
  (by decide +kernel : ∀ t : Fin grid0.N, win0_9.index t = ![t.val / 8, 0, 4]) t

theorem index10 (t : Fin cfg0.N) : win0_10.index t = ![t.val / 8, 0, 5] :=
  (by decide +kernel : ∀ t : Fin grid0.N, win0_10.index t = ![t.val / 8, 0, 5]) t

theorem cong3 {x : ℕ → ℕ → ℕ → ℝ} {a a' b b' d d' : ℕ} (h : a = a') (h' : b = b') (h'' : d = d') : ((x a b d : ℝ) : EReal) = ((x a' b' d' : ℝ) : EReal) := by
  rw [h, h', h'']

section
variable {x : ℕ → ℕ → ℕ → ℝ} (hx : ∀ i : S16x2048x3072.Idx, (m ((c : Thread nD τ).loc main_arg0)) i = ((x (i 0).val (i 1).val (i 2).val : ℝ) : EReal))
include hx

theorem blk5 (t : Fin cfg0.N) : IsQ (x (t.val / 8)) (grid0.coords t 1).val 0 (iblk m c 5 t) := fun j => by
  rw [(coords_eq t).2]
  have h0 : (j 0).val < 1 := (j 0).isLt
  unfold iblk
  rw [show V m c (Pipeline.arrRef spec0 5) = m ((c : Thread nD τ).loc main_arg0) from V_main_arg0 m c]
  refine (hx _).trans (cong3 (x := x) (by blk_simp [index5]) (by blk_simp [index5]) (by blk_simp [index5]))

theorem blk6 (t : Fin cfg0.N) : IsBlk (x (t.val / 8)) 512 (iblk m c 6 t) := fun j => by
  have h0 : (j 0).val < 1 := (j 0).isLt
  unfold iblk
  rw [show V m c (Pipeline.arrRef spec0 6) = m ((c : Thread nD τ).loc main_arg0) from V_main_arg0 m c]
  refine (hx _).trans (cong3 (x := x) (by blk_simp [index6]) (by blk_simp [index6]) (by blk_simp [index6]))

theorem blk7 (t : Fin cfg0.N) : IsBlk (x (t.val / 8)) 1024 (iblk m c 7 t) := fun j => by
  have h0 : (j 0).val < 1 := (j 0).isLt
  unfold iblk
  rw [show V m c (Pipeline.arrRef spec0 7) = m ((c : Thread nD τ).loc main_arg0) from V_main_arg0 m c]
  refine (hx _).trans (cong3 (x := x) (by blk_simp [index7]) (by blk_simp [index7]) (by blk_simp [index7]))

theorem blk8 (t : Fin cfg0.N) : IsQ (x (t.val / 8)) (grid0.coords t 1).val 1536 (iblk m c 8 t) := fun j => by
  rw [(coords_eq t).2]
  have h0 : (j 0).val < 1 := (j 0).isLt
  unfold iblk
  rw [show V m c (Pipeline.arrRef spec0 8) = m ((c : Thread nD τ).loc main_arg0) from V_main_arg0 m c]
  refine (hx _).trans (cong3 (x := x) (by blk_simp [index8]) (by blk_simp [index8]) (by blk_simp [index8]))

theorem blk9 (t : Fin cfg0.N) : IsBlk (x (t.val / 8)) 2048 (iblk m c 9 t) := fun j => by
  have h0 : (j 0).val < 1 := (j 0).isLt
  unfold iblk
  rw [show V m c (Pipeline.arrRef spec0 9) = m ((c : Thread nD τ).loc main_arg0) from V_main_arg0 m c]
  refine (hx _).trans (cong3 (x := x) (by blk_simp [index9]) (by blk_simp [index9]) (by blk_simp [index9]))

theorem blk10 (t : Fin cfg0.N) : IsBlk (x (t.val / 8)) 2560 (iblk m c 10 t) := fun j => by
  have h0 : (j 0).val < 1 := (j 0).isLt
  unfold iblk
  rw [show V m c (Pipeline.arrRef spec0 10) = m ((c : Thread nD τ).loc main_arg0) from V_main_arg0 m c]
  refine (hx _).trans (cong3 (x := x) (by blk_simp [index10]) (by blk_simp [index10]) (by blk_simp [index10]))

end

theorem index0 (t : Fin cfg0.N) : win0_0.index t = ![0, 0] :=
  (by decide +kernel : ∀ t : Fin grid0.N, win0_0.index t = ![0, 0]) t

theorem index1 (t : Fin cfg0.N) : win0_1.index t = ![0, 0] :=
  (by decide +kernel : ∀ t : Fin grid0.N, win0_1.index t = ![0, 0]) t

theorem index2 (t : Fin cfg0.N) : win0_2.index t = ![0, 0] :=
  (by decide +kernel : ∀ t : Fin grid0.N, win0_2.index t = ![0, 0]) t

theorem index3 (t : Fin cfg0.N) : win0_3.index t = ![0, 0] :=
  (by decide +kernel : ∀ t : Fin grid0.N, win0_3.index t = ![0, 0]) t

theorem index4 (t : Fin cfg0.N) : win0_4.index t = ![0, 0] :=
  (by decide +kernel : ∀ t : Fin grid0.N, win0_4.index t = ![0, 0]) t

/-- The reshaped vectors, read whole: the gain and the four halves of the mixing weight. -/
theorem vec0 (t : Fin cfg0.N) (d : Fin 64) : iblk m c 0 t (ix2 0 d) = m ((c : Thread nD τ).loc main_arg1) (ix1 d) := by
  blk_ext! [iblk, V, index0 t]

theorem vec1 (t : Fin cfg0.N) (d : Fin 64) : iblk m c 1 t (ix2 0 d) = m ((c : Thread nD τ).loc main_arg2) (ix1 d) := by
  blk_ext! [iblk, V, index1 t]

theorem vec2 (t : Fin cfg0.N) (d : Fin 64) : iblk m c 2 t (ix2 0 d) = m ((c : Thread nD τ).loc main_arg3) (ix1 d) := by
  blk_ext! [iblk, V, index2 t]

theorem vec3 (t : Fin cfg0.N) (d : Fin 64) : iblk m c 3 t (ix2 0 d) = m ((c : Thread nD τ).loc main_arg4) (ix1 d) := by
  blk_ext! [iblk, V, index3 t]

theorem vec4 (t : Fin cfg0.N) (d : Fin 128) : iblk m c 4 t (ix2 0 d) = m ((c : Thread nD τ).loc main_arg5) (ix1 d) := by
  blk_ext! [iblk, V, index4 t]

theorem arr (G : Buf (Elt Ideal) ((c : Thread nD τ).loc main_v5))
    (h : ∀ (t : Fin cfg0.N) (y : S1x256x1024.Idx), (dats m 0 c).flushed 11 t y = G (((cfg0.win 11).blk t).view.emb y)) : (dats m 0 c).arrAt 11 cfg0.N = G := by
  refine (dats m 0 c).arrAt_eq_of_covers 11 _ (by decide +kernel) fun t hf y => ?_
  exact h t y

theorem index11 (t : Fin cfg0.N) : win0_11.index t = ![t.val / 8, t.val % 8, 0] :=
  (by decide +kernel : ∀ t : Fin grid0.N, win0_11.index t = ![t.val / 8, t.val % 8, 0]) t

section
variable {x : ℕ → ℕ → ℕ → ℝ} (hx : ∀ i : S16x2048x3072.Idx, (m ((c : Thread nD τ).loc main_arg0)) i = ((x (i 0).val (i 1).val (i 2).val : ℝ) : EReal))
include hx

/-- What the kernel leaves: every entry of its result. -/
theorem result {w : ℝ} {gn : ℕ → EReal}
    (hw : lam (fun d => m ((c : Thread nD τ).loc main_arg1) (ix1 d)) (fun d => m ((c : Thread nD τ).loc main_arg2) (ix1 d))
      (fun d => m ((c : Thread nD τ).loc main_arg3) (ix1 d)) (fun d => m ((c : Thread nD τ).loc main_arg4) (ix1 d)) = ((w : ℝ) : EReal))
    (hgn : ∀ e : Fin 128, m ((c : Thread nD τ).loc main_arg5) (ix1 e) = gn e.val) :
    (dats m 0 c).arrAt 11 cfg0.N = (fun i : S16x2048x1024.Idx => row (x (i 0).val) w gn (i 1).val (i 2).val) := by
  refine arr m c _ fun t y => ?_
  have h0 : (y 0).val < 1 := (y 0).isLt
  rw [Cert.KernelIdeal.Value.flushed11_A]
  blk_simp [index11]
  refine (block_out (x := x (t.val / 8)) (w := w) (gn := gn) c (grid0.coords t) _ _ _ _ _ _ _ _ _ _ _ _ _ _ _ _ _ _ _ _ _ _ _ _ _ _ _ _ _ _ _ _ _ _ _ _ _ _ _ _
    _ _ _ _ _ _ _ _ _ _ _ (blk5 m c hx t) (blk6 m c hx t) (blk7 m c hx t) (blk8 m c hx t) (blk9 m c hx t) (blk10 m c hx t) ?_ (fun e => (vec4 m c t e).trans (hgn e)) y).trans ?_
  · simp only [vec0, vec1, vec2, vec3]; exact hw
  · rw [(coords_eq t).2]
end

end Cert.Ker
-- ==== Proof.Layer.lean ====
/-
  A normalised row and a gated feed-forward row over the extended reals, and a sum taken in stretches.
-/
module

public import Idealize.ShloMosaic.PureOps.Ideal.Laws

@[expose] public section

noncomputable section

namespace Cert.Layer

open Idealize.ShloMosaic Finset

/-- The mean of a row of 1024 entries. -/
def mean (y : Fin 1024 → EReal) : EReal := Ideal.div (∑ k, y k) (Ideal.ofBits .f32 0x44800000#32)

/-- The mean square distance of a row from its mean. -/
def var (y : Fin 1024 → EReal) : EReal := Ideal.div (∑ k, (y k - mean y) * (y k - mean y)) (Ideal.ofBits .f32 0x44800000#32)

/-- Entry `j` of the row, normalised, scaled and shifted. -/
def norm (y g b : Fin 1024 → EReal) (j : Fin 1024) : EReal :=
  (y j - mean y) * Ideal.rsqrt (var y + Ideal.ofBits .f32 0x3727C5AC#32) * g j + b j

/-- The residual, weighted, and what is added to it. -/
def mix (x f : EReal) : EReal := Ideal.ofBits .f32 0x3FB504F3#32 * x + f

/-- The product of a row with a column. -/
def dot {n : ℕ} (h w : Fin n → EReal) : EReal := ∑ i, h i * w i

/-- A hidden unit: the gated product of the two projections. -/
def unit (a u : EReal) : EReal := a * Ideal.logistic a * u

/-- The feed-forward row. -/
def ffn {n : ℕ} (h : Fin 1024 → EReal) (wg wu : Fin 1024 → Fin n → EReal) (wd : Fin n → Fin 1024 → EReal) (j : Fin 1024) : EReal :=
  ∑ k, unit (dot h fun i => wg i k) (dot h fun i => wu i k) * wd k j

/-- The row after the output projection, normalised. -/
def mid (a x : Fin 1024 → EReal) (wo : Fin 1024 → Fin 1024 → EReal) (g b : Fin 1024 → EReal) : Fin 1024 → EReal :=
  norm (fun j => mix (x j) (dot a fun i => wo i j)) g b

/-- The row after the output projection and the feed-forward part that follows it. -/
def out {n : ℕ} (a x : Fin 1024 → EReal) (wo : Fin 1024 → Fin 1024 → EReal) (g b : Fin 1024 → EReal) (wg wu : Fin 1024 → Fin n → EReal) (wd : Fin n → Fin 1024 → EReal)
    (fg fb : Fin 1024 → EReal) : Fin 1024 → EReal :=
  norm (fun j => mix (mid a x wo g b j) (ffn (mid a x wo g b) wg wu wd j)) fg fb

/-- Two rows with the same entries have the same normalised row. -/
theorem norm_congr {y y' g g' b b' : Fin 1024 → EReal} (hy : ∀ k, y k = y' k) (hg : ∀ k, g k = g' k) (hb : ∀ k, b k = b' k) (j : Fin 1024) :
    norm y g b j = norm y' g' b' j := by
  rw [funext hy, funext hg, funext hb]

/-- The terms of a finite sum, continued by zeros. -/
def pad {n : ℕ} (f : Fin n → EReal) (k : ℕ) : EReal := if h : k < n then f ⟨k, h⟩ else 0

theorem pad_lt {n : ℕ} (f : Fin n → EReal) (k : Fin n) : pad f k.val = f k := dif_pos k.isLt

/-- The sum of stretch `c` of 256 terms. -/
def stretch (g : ℕ → EReal) (c : ℕ) : EReal := ∑ i : Fin 256, g (c * 256 + i.val)

theorem range_stretch (g : ℕ → EReal) (c : ℕ) : ∑ k ∈ range ((c + 1) * 256), g k = ∑ k ∈ range (c * 256), g k + stretch g c := by
  rw [add_mul, one_mul, sum_range_add, stretch, Fin.sum_univ_eq_sum_range (fun i => g (c * 256 + i)) 256]

/-- A sum of 2816 terms, taken in eleven stretches from a zero. -/
theorem sum_stretches (f : Fin 2816 → EReal) :
    ∑ k, f k = 0 + stretch (pad f) 0 + stretch (pad f) 1 + stretch (pad f) 2 + stretch (pad f) 3 + stretch (pad f) 4 + stretch (pad f) 5
      + stretch (pad f) 6 + stretch (pad f) 7 + stretch (pad f) 8 + stretch (pad f) 9 + stretch (pad f) 10 := by
  have h : ∑ k, f k = ∑ k ∈ range ((10 + 1) * 256), pad f k := by
    rw [← Fin.sum_univ_eq_sum_range (pad f)]
    exact sum_congr rfl fun k _ => (pad_lt f k).symm
  rw [h]
  rw [range_stretch (pad f) 10, range_stretch (pad f) 9, range_stretch (pad f) 8, range_stretch (pad f) 7, range_stretch (pad f) 6, range_stretch (pad f) 5,
    range_stretch (pad f) 4, range_stretch (pad f) 3, range_stretch (pad f) 2, range_stretch (pad f) 1, range_stretch (pad f) 0]
  simp

end Cert.Layer

end
-- ==== Proof.OutBlock.lean ====
/-
  The output projection's body: its block as named block operations, read entry by entry over the extended reals.
-/
module

public import proofs.«01_k».proof.Proof.Layer
public import proofs.«01_k».proof.Proof.Gen.OutProjIdeal.Value
public import Idealize.ShloMosaic.Lib.Pointwise
public import Idealize.ShloMosaic.Lib.ValueIdx
public import Idealize.ShloMosaic.Lib.Pipeline.ValueKit

@[expose] public section

noncomputable section

namespace Cert.OutTile

open Idealize.ShloMosaic Idealize.ShloMosaic.TcCoe Idealize.SL.Sem Cert.OutProjIdeal Cert.OutProjIdeal.Gen

section
variable {F : FTy → Type} [FloatOps F]

/-- The sum of each row. -/
def rowSum (y : FVec F S512x1024 .f32) : FVec F S512x1 .f32 :=
  shapeCast S512x1 (multiReduction .add [1] S512 y 0x00000000#32 reduces_S512x1024_S512 (.inl rfl) rfl) shapeCasts_S512_S512x1

/-- The mean of each row. -/
def rowMean (y : FVec F S512x1024 .f32) : FVec F S512x1 .f32 := divf (rowSum y) (broadcast S512x1 (Scalar.ofBits .f32 0x44800000#32))

/-- Each entry less its row's mean. -/
def centred (y : FVec F S512x1024 .f32) : FVec F S512x1024 .f32 := subf y (broadcastTo S512x1024 (rowMean y) broadcasts_S512x1_S512x1024)

/-- The block normalised row by row, scaled and shifted. -/
def normed (y : FVec F S512x1024 .f32) (g b : FVec F S1x1024 .f32) : FVec F S512x1024 .f32 :=
  addf (mulf (mulf (centred y) (broadcastTo S512x1024 (rsqrt (addf (rowMean (mulf (centred y) (centred y))) (broadcast S512x1 (Scalar.ofBits .f32 0x3727C5AC#32)))) broadcasts_S512x1_S512x1024))
    (broadcastTo S512x1024 g broadcasts_S1x1024_S512x1024)) (broadcastTo S512x1024 b broadcasts_S1x1024_S512x1024)

/-- The residual, weighted, and what is added to it. -/
def mixed (x f : FVec F S512x1024 .f32) : FVec F S512x1024 .f32 := addf (mulf (broadcast S512x1024 (Scalar.ofBits .f32 0x3FB504F3#32)) x) f

/-- The projection of the heads. -/
def proj (a : FVec F S512x1024 .bf16) (w : FVec F S1024x1024 .bf16) : FVec F S512x1024 .f32 :=
  matmul dot_S512x1024_S1024x1024_S512x1024_1_0_0_1_n_n none a (shapeCast S1024x1024 w shapeCasts_S1024x1024_S1024x1024) (constant S512x1024 .f32 0x00000000#32)

/-- One of the two projections into a stretch of hidden units. -/
def up (h : FVec F S512x1024 .bf16) (w : FVec F S1024x256 .bf16) : FVec F S512x256 .f32 :=
  matmul dot_S512x1024_S1024x256_S512x256_1_0_0_1_n_n none h (shapeCast S1024x256 w shapeCasts_S1024x256_S1024x256) (constant S512x256 .f32 0x00000000#32)

/-- A stretch of hidden units. -/
def units (h : FVec F S512x1024 .bf16) (wg wu : FVec F S1024x256 .bf16) : FVec F S512x256 .f32 :=
  mulf (mulf (up h wg) (logistic (up h wg))) (up h wu)

/-- What a stretch of hidden units adds to the feed-forward block. -/
def down (h : FVec F S512x1024 .bf16) (wg wu : FVec F S1024x256 .bf16) (wd : FVec F S256x1024 .bf16) : FVec F S512x1024 .f32 :=
  matmul dot_S512x256_S256x1024_S512x1024_1_0_0_1_n_n none (truncf .bf16 (units h wg wu) bitsLt_bf16_f32) (shapeCast S256x1024 wd shapeCasts_S256x1024_S256x1024) (constant S512x1024 .f32 0x00000000#32)

theorem col_fits (c : Fin 11) : ∀ a : Fin 2, (![0, c.val * 256] : Fin 2 → ℕ) a + S1024x256.size a ≤ S1024x2816.size a := by
  revert c; decide

theorem row_fits (c : Fin 11) : ∀ a : Fin 2, (![c.val * 256, 0] : Fin 2 → ℕ) a + S256x1024.size a ≤ S2816x1024.size a := by
  revert c; decide

/-- The columns of stretch `c`. -/
def cols (w : Vec F S1024x2816 .bf16) (c : Fin 11) : FVec F S1024x256 .bf16 :=
  View.ld w (Rect.unit (s := S1024x2816) ![0, c.val * 256] S1024x256.size (col_fits c))

/-- The rows of stretch `c`. -/
def rows (w : Vec F S2816x1024 .bf16) (c : Fin 11) : FVec F S256x1024 .bf16 :=
  View.ld w (Rect.unit (s := S2816x1024) ![c.val * 256, 0] S256x1024.size (row_fits c))

/-- What stretch `c` of the weights adds to the feed-forward block. -/
def piece (h : FVec F S512x1024 .bf16) (wg wu : Vec F S1024x2816 .bf16) (wd : Vec F S2816x1024 .bf16) (c : Fin 11) : FVec F S512x1024 .f32 :=
  down h (cols wg c) (cols wu c) (rows wd c)

/-- The first normalised block. -/
def first (x0 : Vec F S512x1024 .bf16) (x1 : Vec F S512x1024 .f32) (x2 : Vec F S1024x1024 .bf16) (x3 x4 : Vec F S1x1024 .f32) : FVec F S512x1024 .f32 :=
  normed (mixed x1 (proj x0 x2)) (shapeCast S1x1024 x3 shapeCasts_S1x1024_S1x1024) (shapeCast S1x1024 x4 shapeCasts_S1x1024_S1x1024)

/-- The feed-forward block, its eleven pieces added one after another. -/
def fed (h : FVec F S512x1024 .bf16) (wg wu : Vec F S1024x2816 .bf16) (wd : Vec F S2816x1024 .bf16) : FVec F S512x1024 .f32 :=
  addf (addf (addf (addf (addf (addf (addf (addf (addf (addf (addf (broadcast S512x1024 (Scalar.ofBits .f32 0x00000000#32)) (piece h wg wu wd 0)) (piece h wg wu wd 1)) (piece h wg wu wd 2)) (piece h wg wu wd 3)) (piece h wg wu wd 4)) (piece h wg wu wd 5)) (piece h wg wu wd 6)) (piece h wg wu wd 7)) (piece h wg wu wd 8)) (piece h wg wu wd 9)) (piece h wg wu wd 10)

/-- The whole block. -/
def block (x0 : Vec F S512x1024 .bf16) (x1 : Vec F S512x1024 .f32) (x2 : Vec F S1024x1024 .bf16) (x3 x4 : Vec F S1x1024 .f32) (x5 x6 : Vec F S1024x2816 .bf16) (x7 : Vec F S2816x1024 .bf16) (x8 x9 : Vec F S1x1024 .f32) : FVec F S512x1024 .f32 :=
  normed (mixed (first x0 x1 x2 x3 x4) (fed (truncf .bf16 (first x0 x1 x2 x3 x4) bitsLt_bf16_f32) x5 x6 x7))
    (shapeCast S1x1024 x8 shapeCasts_S1x1024_S1x1024) (shapeCast S1x1024 x9 shapeCasts_S1x1024_S1x1024)

theorem out_block (x0 : Vec F S512x1024 .bf16) (x1 : Vec F S512x1024 .f32) (x2 : Vec F S1024x1024 .bf16) (x3 x4 : Vec F S1x1024 .f32) (x5 x6 : Vec F S1024x2816 .bf16) (x7 : Vec F S2816x1024 .bf16) (x8 x9 : Vec F S1x1024 .f32) :
    out0_10 x0 x1 x2 x3 x4 x5 x6 x7 x8 x9 = block x0 x1 x2 x3 x4 x5 x6 x7 x8 x9 := by
  unfold out0_10
  rw [View.canon_cons_unit_lit _ _ _ (by decide)]
  rw [View.ld_unit_lit _ x0 (by decide), View.ld_unit_lit _ x1 (by decide), View.ld_unit_lit _ x2 (by decide), View.ld_unit_lit _ x3 (by decide),
    View.ld_unit_lit _ x4 (by decide), View.ld_unit_lit _ x8 (by decide), View.ld_unit_lit _ x9 (by decide)]
  have e : k0_pay19 x0 x1 x2 x3 x4 x5 x6 x7 x8 x9 = truncf .bf16 (first x0 x1 x2 x3 x4) bitsLt_bf16_f32 := by
    unfold k0_pay19
    rw [View.ld_unit_lit _ x0 (by decide), View.ld_unit_lit _ x1 (by decide), View.ld_unit_lit _ x2 (by decide), View.ld_unit_lit _ x3 (by decide),
      View.ld_unit_lit _ x4 (by decide)]
    rfl
  rw [e, show k0_pay2 x0 x2 x1 x3 x4 = first x0 x1 x2 x3 x4 from rfl]
  unfold block
  generalize first x0 x1 x2 x3 x4 = h
  generalize truncf .bf16 h bitsLt_bf16_f32 = h'
  rfl

end

/-! ## The block operations at an entry -/

theorem rowMean_apply (y : FVec Ideal S512x1024 .f32) (r : Fin 512) : rowMean y (ix2 r (0 : Fin 1)) = Layer.mean fun k => y (ix2 r k) := by
  pointwise [rowMean, rowSum, Layer.mean]

theorem centred_apply (y : FVec Ideal S512x1024 .f32) (r : Fin 512) (j : Fin 1024) : centred y (ix2 r j) = y (ix2 r j) - Layer.mean fun k => y (ix2 r k) := by
  pointwise [centred]
  rw [rowMean_apply]

theorem normed_apply (y : FVec Ideal S512x1024 .f32) (g b : FVec Ideal S1x1024 .f32) (r : Fin 512) (j : Fin 1024) :
    normed y g b (ix2 r j) = Layer.norm (fun k => y (ix2 r k)) (fun k => g (ix2 (0 : Fin 1) k)) (fun k => b (ix2 (0 : Fin 1) k)) j := by
  pointwise [normed]
  rw [rowMean_apply]
  simp only [mulf_apply, centred_apply]
  rfl

theorem mixed_apply (x f : FVec Ideal S512x1024 .f32) (r : Fin 512) (j : Fin 1024) : mixed x f (ix2 r j) = Layer.mix (x (ix2 r j)) (f (ix2 r j)) := by
  pointwise [mixed, Layer.mix]

theorem proj_apply (a : FVec Ideal S512x1024 .bf16) (w : FVec Ideal S1024x1024 .bf16) (r : Fin 512) (j : Fin 1024) :
    proj a w (ix2 r j) = Layer.dot (fun i => a (ix2 r i)) fun i => w (ix2 i j) := by
  pointwise [proj, Layer.dot]

theorem up_apply (h : FVec Ideal S512x1024 .bf16) (w : FVec Ideal S1024x256 .bf16) (r : Fin 512) (k : Fin 256) :
    up h w (ix2 r k) = Layer.dot (fun i => h (ix2 r i)) fun i => w (ix2 i k) := by
  pointwise [up, Layer.dot]

theorem units_apply (h : FVec Ideal S512x1024 .bf16) (wg wu : FVec Ideal S1024x256 .bf16) (r : Fin 512) (k : Fin 256) :
    units h wg wu (ix2 r k) = Layer.unit (Layer.dot (fun i => h (ix2 r i)) fun i => wg (ix2 i k)) (Layer.dot (fun i => h (ix2 r i)) fun i => wu (ix2 i k)) := by
  pointwise [units, Layer.unit]
  rw [up_apply, up_apply]

theorem down_apply (h : FVec Ideal S512x1024 .bf16) (wg wu : FVec Ideal S1024x256 .bf16) (wd : FVec Ideal S256x1024 .bf16) (r : Fin 512) (j : Fin 1024) :
    down h wg wu wd (ix2 r j) = ∑ k : Fin 256, Layer.unit (Layer.dot (fun i => h (ix2 r i)) fun i => wg (ix2 i k)) (Layer.dot (fun i => h (ix2 r i)) fun i => wu (ix2 i k)) * wd (ix2 k j) := by
  pointwise [down]
  simp only [units_apply]

theorem cols_apply (w : Vec Ideal S1024x2816 .bf16) (c : Fin 11) (i : Fin 1024) (k : Fin 256) : cols w c (ix2 i k) = w (ix2 i ⟨c.val * 256 + k.val, by omega⟩) := by
  show w _ = w _
  refine congrArg w (funext fun a => Fin.ext ?_)
  match a with
  | ⟨0, _⟩ => show 0 + 1 * i.val = i.val; omega
  | ⟨1, _⟩ => show c.val * 256 + 1 * k.val = c.val * 256 + k.val; omega

theorem rows_apply (w : Vec Ideal S2816x1024 .bf16) (c : Fin 11) (k : Fin 256) (j : Fin 1024) : rows w c (ix2 k j) = w (ix2 ⟨c.val * 256 + k.val, by omega⟩ j) := by
  show w _ = w _
  refine congrArg w (funext fun a => Fin.ext ?_)
  match a with
  | ⟨0, _⟩ => show c.val * 256 + 1 * k.val = c.val * 256 + k.val; omega
  | ⟨1, _⟩ => show 0 + 1 * j.val = j.val; omega

/-- The terms of the feed-forward row. -/
def term (h : Fin 1024 → EReal) (wg wu : Fin 1024 → Fin 2816 → EReal) (wd : Fin 2816 → Fin 1024 → EReal) (j : Fin 1024) (k : Fin 2816) : EReal :=
  Layer.unit (Layer.dot h fun i => wg i k) (Layer.dot h fun i => wu i k) * wd k j

theorem piece_apply (h : FVec Ideal S512x1024 .bf16) (wg wu : Vec Ideal S1024x2816 .bf16) (wd : Vec Ideal S2816x1024 .bf16) (c : Fin 11) (r : Fin 512) (j : Fin 1024) :
    piece h wg wu wd c (ix2 r j) = Layer.stretch (Layer.pad (term (fun i => h (ix2 r i)) (fun i k => wg (ix2 i k)) (fun i k => wu (ix2 i k)) (fun k j => wd (ix2 k j)) j)) c.val := by
  unfold piece
  rw [down_apply]
  refine Finset.sum_congr rfl fun k _ => ?_
  have hk : c.val * 256 + k.val < 2816 := by omega
  refine Eq.trans ?_ (Layer.pad_lt _ ⟨c.val * 256 + k.val, hk⟩).symm
  simp only [cols_apply, rows_apply]
  rfl

theorem fed_apply (h : FVec Ideal S512x1024 .bf16) (wg wu : Vec Ideal S1024x2816 .bf16) (wd : Vec Ideal S2816x1024 .bf16) (r : Fin 512) (j : Fin 1024) :
    fed h wg wu wd (ix2 r j) = Layer.ffn (fun i => h (ix2 r i)) (fun i k => wg (ix2 i k)) (fun i k => wu (ix2 i k)) (fun k j => wd (ix2 k j)) j := by
  refine Eq.trans ?_ (Layer.sum_stretches (term (fun i => h (ix2 r i)) (fun i k => wg (ix2 i k)) (fun i k => wu (ix2 i k)) (fun k j => wd (ix2 k j)) j)).symm
  unfold fed
  simp only [addf_apply, piece_apply]
  rw [show (broadcast S512x1024 (Scalar.ofBits .f32 0x00000000#32) : FVec Ideal S512x1024 .f32) (ix2 r j) = (0 : EReal) from Ideal.ofBits_zero_f32]
  rfl

theorem block_apply (x0 : Vec Ideal S512x1024 .bf16) (x1 : Vec Ideal S512x1024 .f32) (x2 : Vec Ideal S1024x1024 .bf16) (x3 x4 : Vec Ideal S1x1024 .f32) (x5 x6 : Vec Ideal S1024x2816 .bf16) (x7 : Vec Ideal S2816x1024 .bf16) (x8 x9 : Vec Ideal S1x1024 .f32) (r : Fin 512) (j : Fin 1024) :
    block x0 x1 x2 x3 x4 x5 x6 x7 x8 x9 (ix2 r j)
      = Layer.out (fun i => x0 (ix2 r i)) (fun i => x1 (ix2 r i)) (fun i k => x2 (ix2 i k)) (fun k => x3 (ix2 (0 : Fin 1) k)) (fun k => x4 (ix2 (0 : Fin 1) k))
        (fun i k => x5 (ix2 i k)) (fun i k => x6 (ix2 i k)) (fun k j => x7 (ix2 k j)) (fun k => x8 (ix2 (0 : Fin 1) k)) (fun k => x9 (ix2 (0 : Fin 1) k)) j := by
  have c1 : ∀ (x : Vec Ideal S1x1024 .f32) (k : Fin 1024), (shapeCast S1x1024 x shapeCasts_S1x1024_S1x1024 : FVec Ideal S1x1024 .f32) (ix2 (0 : Fin 1) k) = x (ix2 (0 : Fin 1) k) := fun x k => by
    pointwise
  have hf : ∀ j, first x0 x1 x2 x3 x4 (ix2 r j) = Layer.mid (fun i => x0 (ix2 r i)) (fun i => x1 (ix2 r i)) (fun i k => x2 (ix2 i k)) (fun k => x3 (ix2 (0 : Fin 1) k)) (fun k => x4 (ix2 (0 : Fin 1) k)) j := fun j => by
    unfold first
    rw [normed_apply]
    simp only [mixed_apply, proj_apply, c1]
    rfl
  have ht : ∀ j, (truncf .bf16 (first x0 x1 x2 x3 x4) bitsLt_bf16_f32 : FVec Ideal S512x1024 .bf16) (ix2 r j) = first x0 x1 x2 x3 x4 (ix2 r j) := fun j => rfl
  unfold block
  rw [normed_apply]
  simp only [mixed_apply, fed_apply, c1, ht, hf]
  rfl

end Cert.OutTile

end
-- ==== Proof.OutKer.lean ====
/-
  The output projection's result, over the extended reals, entry by entry.
-/
module

public import proofs.«01_k».proof.Proof.OutBlock
public import Idealize.ShloMosaic.Lib.Claim
public import Idealize.ShloMosaic.Lib.Pipeline.ValueKit.Point

@[expose] public section

noncomputable section

namespace Cert.OutKer

open Idealize.ShloMosaic Idealize.ShloMosaic.TcCoe Idealize.SL.Sem Cert.OutProjIdeal Cert.OutProjIdeal.Gen Cert.OutTile

variable (m : (ℓ : Loc nD τ sig) → Buf (Elt Ideal) ℓ) (c : Dev nD)

theorem index0 (t : Fin cfg0.N) : win0_0.index t = ![t.val, 0] :=
  (by decide +kernel : ∀ t : Fin grid0.N, win0_0.index t = ![t.val, 0]) t

theorem index1 (t : Fin cfg0.N) : win0_1.index t = ![t.val, 0] :=
  (by decide +kernel : ∀ t : Fin grid0.N, win0_1.index t = ![t.val, 0]) t

theorem index2 (t : Fin cfg0.N) : win0_2.index t = ![0, 0] :=
  (by decide +kernel : ∀ t : Fin grid0.N, win0_2.index t = ![0, 0]) t

theorem index3 (t : Fin cfg0.N) : win0_3.index t = ![0, 0] :=
  (by decide +kernel : ∀ t : Fin grid0.N, win0_3.index t = ![0, 0]) t

theorem index4 (t : Fin cfg0.N) : win0_4.index t = ![0, 0] :=
  (by decide +kernel : ∀ t : Fin grid0.N, win0_4.index t = ![0, 0]) t

theorem index5 (t : Fin cfg0.N) : win0_5.index t = ![0, 0] :=
  (by decide +kernel : ∀ t : Fin grid0.N, win0_5.index t = ![0, 0]) t

theorem index6 (t : Fin cfg0.N) : win0_6.index t = ![0, 0] :=
  (by decide +kernel : ∀ t : Fin grid0.N, win0_6.index t = ![0, 0]) t

theorem index7 (t : Fin cfg0.N) : win0_7.index t = ![0, 0] :=
  (by decide +kernel : ∀ t : Fin grid0.N, win0_7.index t = ![0, 0]) t

theorem index8 (t : Fin cfg0.N) : win0_8.index t = ![0, 0] :=
  (by decide +kernel : ∀ t : Fin grid0.N, win0_8.index t = ![0, 0]) t

theorem index9 (t : Fin cfg0.N) : win0_9.index t = ![0, 0] :=
  (by decide +kernel : ∀ t : Fin grid0.N, win0_9.index t = ![0, 0]) t

theorem index10 (t : Fin cfg0.N) : win0_10.index t = ![t.val, 0] :=
  (by decide +kernel : ∀ t : Fin grid0.N, win0_10.index t = ![t.val, 0]) t

theorem row_lt (t : Fin cfg0.N) (r : Fin 512) : t.val * 512 + r.val < 32768 := by
  have := t.isLt
  have e : cfg0.N = 64 := N_0
  omega

/-- The row of the array that row `r` of point `t`'s block is. -/
abbrev rowOf (t : Fin cfg0.N) (r : Fin 512) : Fin 32768 := ⟨t.val * 512 + r.val, row_lt t r⟩

theorem blk0 (t : Fin cfg0.N) (r : Fin 512) (j : Fin 1024) : iblk m c 0 t (ix2 r j) = m ((c : Thread nD τ).loc main_arg0) (ix2 (rowOf t r) j) := by
  blk_ext! [iblk, V, index0 t]

theorem blk1 (t : Fin cfg0.N) (r : Fin 512) (j : Fin 1024) : iblk m c 1 t (ix2 r j) = m ((c : Thread nD τ).loc main_arg1) (ix2 (rowOf t r) j) := by
  blk_ext! [iblk, V, index1 t]

theorem blk2 (t : Fin cfg0.N) (i : Fin 1024) (j : Fin 1024) : iblk m c 2 t (ix2 i j) = m ((c : Thread nD τ).loc main_arg2) (ix2 i j) := by
  blk_ext! [iblk, V, index2 t]

theorem blk5 (t : Fin cfg0.N) (i : Fin 1024) (j : Fin 2816) : iblk m c 5 t (ix2 i j) = m ((c : Thread nD τ).loc main_arg5) (ix2 i j) := by
  blk_ext! [iblk, V, index5 t]

theorem blk6 (t : Fin cfg0.N) (i : Fin 1024) (j : Fin 2816) : iblk m c 6 t (ix2 i j) = m ((c : Thread nD τ).loc main_arg6) (ix2 i j) := by
  blk_ext! [iblk, V, index6 t]

theorem blk7 (t : Fin cfg0.N) (i : Fin 2816) (j : Fin 1024) : iblk m c 7 t (ix2 i j) = m ((c : Thread nD τ).loc main_arg7) (ix2 i j) := by
  blk_ext! [iblk, V, index7 t]

theorem blk3 (t : Fin cfg0.N) (j : Fin 1024) : iblk m c 3 t (ix2 (0 : Fin 1) j) = m ((c : Thread nD τ).loc main_arg3) (ix1 j) := by
  blk_ext! [iblk, V, index3 t]

theorem blk4 (t : Fin cfg0.N) (j : Fin 1024) : iblk m c 4 t (ix2 (0 : Fin 1) j) = m ((c : Thread nD τ).loc main_arg4) (ix1 j) := by
  blk_ext! [iblk, V, index4 t]

theorem blk8 (t : Fin cfg0.N) (j : Fin 1024) : iblk m c 8 t (ix2 (0 : Fin 1) j) = m ((c : Thread nD τ).loc main_arg8) (ix1 j) := by
  blk_ext! [iblk, V, index8 t]

theorem blk9 (t : Fin cfg0.N) (j : Fin 1024) : iblk m c 9 t (ix2 (0 : Fin 1) j) = m ((c : Thread nD τ).loc main_arg9) (ix1 j) := by
  blk_ext! [iblk, V, index9 t]

/-- The result: every row after the projection and the feed-forward part. -/
def result : Buf (Elt Ideal) ((c : Thread nD τ).loc main_v8) := fun i : S32768x1024.Idx =>
  Layer.out (fun k => m ((c : Thread nD τ).loc main_arg0) (ix2 (i 0) k)) (fun k => m ((c : Thread nD τ).loc main_arg1) (ix2 (i 0) k))
    (fun i k => m ((c : Thread nD τ).loc main_arg2) (ix2 i k)) (fun k => m ((c : Thread nD τ).loc main_arg3) (ix1 k)) (fun k => m ((c : Thread nD τ).loc main_arg4) (ix1 k))
    (fun i k => m ((c : Thread nD τ).loc main_arg5) (ix2 i k)) (fun i k => m ((c : Thread nD τ).loc main_arg6) (ix2 i k)) (fun k j => m ((c : Thread nD τ).loc main_arg7) (ix2 k j))
    (fun k => m ((c : Thread nD τ).loc main_arg8) (ix1 k)) (fun k => m ((c : Thread nD τ).loc main_arg9) (ix1 k)) (i 1)

theorem block_read (t : Fin cfg0.N) (r : Fin 512) (j : Fin 1024) :
    block (iblk m c 0 t) (iblk m c 1 t) (iblk m c 2 t) (iblk m c 3 t) (iblk m c 4 t) (iblk m c 5 t) (iblk m c 6 t) (iblk m c 7 t) (iblk m c 8 t) (iblk m c 9 t) (ix2 r j)
      = result m c (ix2 (rowOf t r) j) := by
  refine (block_apply _ _ _ _ _ _ _ _ _ _ r j).trans ?_
  simp only [blk0, blk1, blk2, blk3, blk4, blk5, blk6, blk7, blk8, blk9]
  rfl

theorem arr (G : Buf (Elt Ideal) ((c : Thread nD τ).loc main_v8))
    (h : ∀ (t : Fin cfg0.N) (y : S512x1024.Idx), (dats m 0 c).flushed 10 t y = G (((cfg0.win 10).blk t).view.emb y)) : (dats m 0 c).arrAt 10 cfg0.N = G := by
  refine (dats m 0 c).arrAt_eq_of_covers 10 _ (by decide +kernel) fun t hf y => ?_
  exact h t y

theorem final : (dats m 0 c).arrAt 10 cfg0.N = result m c := by
  refine arr m c _ fun t y => ?_
  rw [Cert.OutProjIdeal.Value.flushed10, out_block]
  refine Eq.trans ?_ ((block_read m c t (y 0) (y 1)).trans ?_)
  · refine congrArg (block _ _ _ _ _ _ _ _ _ _) (funext fun a => Fin.ext ?_)
    match a with
    | ⟨0, _⟩ => rfl
    | ⟨1, _⟩ => rfl
  · have e0 : win0_10.index t (0 : Fin 2) = t.val := congrFun (index10 t) 0
    have e1 : win0_10.index t (1 : Fin 2) = 0 := congrFun (index10 t) 1
    refine congrArg (result m c) (funext fun a => Fin.ext ?_)
    match a with
    | ⟨0, _⟩ => show t.val * 512 + (y 0).val = win0_10.index t (0 : Fin 2) * 512 + 1 * (y 0).val; rw [e0]; omega
    | ⟨1, _⟩ => show (y 1).val = win0_10.index t (1 : Fin 2) * 1024 + 1 * (y 1).val; rw [e1]; omega

end Cert.OutKer

end
-- ==== Proof.OutRef.lean ====
/-
  The reference's output projection, over the extended reals, entry by entry.
-/
module

public import proofs.«01_k».proof.Proof.Layer
public import proofs.«01_k».proof.Proof.Gen.OutProjRefIdeal.Read

@[expose] public section

noncomputable section

namespace Cert.OutRef

open Cert.OutProjRefIdeal Cert.OutProjRefIdeal.Read
open Idealize.ShloMosaic Idealize.ShloMosaic.StableHlo Idealize.ShloMosaic.ValueIdx

variable (x0 : (⟨S32768x1024, .bf16⟩ : BufTy).Contents (Elt Ideal)) (x1 : (⟨S32768x1024, .f32⟩ : BufTy).Contents (Elt Ideal))
  (x2 : (⟨S1024x1024, .f32⟩ : BufTy).Contents (Elt Ideal)) (x3 x4 : (⟨S1024, .f32⟩ : BufTy).Contents (Elt Ideal))
  (x5 x6 : (⟨S1024x2816, .f32⟩ : BufTy).Contents (Elt Ideal)) (x7 : (⟨S2816x1024, .f32⟩ : BufTy).Contents (Elt Ideal))
  (x8 x9 : (⟨S1024, .f32⟩ : BufTy).Contents (Elt Ideal))

theorem one_bits : (FloatOps.ofBits .f32 0x3F800000#32 : Ideal .f32) = (1 : EReal) := by
  show Ideal.ofBits .f32 0x3F800000#32 = _
  simp [Ideal.ofBits, Ideal.ieee]
  rw [← EReal.coe_mul]; norm_num

theorem zero_bits : (FloatOps.ofBits .f32 0x00000000#32 : Ideal .f32) = (0 : EReal) := Ideal.ofBits_zero_f32

/-- An index of a matrix, from its two coordinates. -/
theorem idx2 {n m : ℕ} (j : (⟨2, ![n, m]⟩ : Shape).Idx) (a : Fin n) (b : Fin m) (h0 : (j 0).val = a.val) (h1 : (j 1).val = b.val) : j = ix2 a b := by
  funext u
  apply Fin.ext
  match u with
  | ⟨0, _⟩ => exact h0
  | ⟨1, _⟩ => exact h1

/-- An index of a vector, from its coordinate. -/
theorem idx1 {n : ℕ} (j : (⟨1, ![n]⟩ : Shape).Idx) (a : Fin n) (h0 : (j 0).val = a.val) : j = ix1 a := by
  funext u
  apply Fin.ext
  match u with
  | ⟨0, _⟩ => exact h0

/-- The row before the first normalisation. -/
theorem row4 (r : Fin 32768) (j : Fin 1024) : val_main_v4 (F := Ideal) x0 x1 x2 (ix2 r j)
    = Layer.mix (x1 (ix2 r j)) (Layer.dot (fun k : Fin 1024 => x0 (ix2 r k)) fun k => x2 (ix2 k j)) := by
  rw [val_main_v4_apply, val_main_v1_apply, val_main_v0_apply, val_main_v3_apply, val_main_cst_apply]
  have e : ∀ k, lidx_main_v3 (ix2 r j) k = ix2 r k := fun k => idx2 _ _ _ rfl rfl
  have e' : ∀ k, ridx_main_v3 (ix2 r j) k = ix2 k j := fun k => idx2 _ _ _ rfl rfl
  simp only [e, e', val_main_v2_apply]
  rfl

theorem mean8 (r : Fin 32768) : val_main_v8 (F := Ideal) x0 x1 x2 (ix2 r (0 : Fin 1)) = Layer.mean fun k => val_main_v4 (F := Ideal) x0 x1 x2 (ix2 r k) := by
  rw [val_main_v8_apply, val_main_v6_apply, val_main_v5_apply, val_main_v7_apply, val_main_cst_0_apply, val_main_cst_1_apply, zero_bits, zero_add]
  have e : ∀ k, idx_main_v5 (idx_main_v6 (ix2 r (0 : Fin 1))) k = ix2 r k := fun k => idx2 _ _ _ rfl rfl
  simp only [e]
  rfl

theorem dist10 (r : Fin 32768) (j : Fin 1024) : val_main_v10 (F := Ideal) x0 x1 x2 (ix2 r j)
    = val_main_v4 (F := Ideal) x0 x1 x2 (ix2 r j) - Layer.mean fun k => val_main_v4 (F := Ideal) x0 x1 x2 (ix2 r k) := by
  have e : idx_main_v9 (ix2 r j) = ix2 r (0 : Fin 1) := idx2 _ _ _ rfl rfl
  rw [val_main_v10_apply, val_main_v9_apply, e, mean8]
  rfl

theorem dist17 (r : Fin 32768) (j : Fin 1024) : val_main_v17 (F := Ideal) x0 x1 x2 (ix2 r j)
    = val_main_v4 (F := Ideal) x0 x1 x2 (ix2 r j) - Layer.mean fun k => val_main_v4 (F := Ideal) x0 x1 x2 (ix2 r k) := by
  have e : idx_main_v16 (ix2 r j) = ix2 r (0 : Fin 1) := idx2 _ _ _ rfl rfl
  rw [val_main_v17_apply, val_main_v16_apply, e, mean8]
  rfl

theorem var15 (r : Fin 32768) : val_main_v15 (F := Ideal) x0 x1 x2 (ix2 r (0 : Fin 1)) = Layer.var fun k => val_main_v4 (F := Ideal) x0 x1 x2 (ix2 r k) := by
  have e : ∀ k, idx_main_v12 (idx_main_v13 (ix2 r (0 : Fin 1))) k = ix2 r k := fun k => idx2 _ _ _ rfl rfl
  rw [val_main_v15_apply, val_main_v13_apply, val_main_v12_apply, val_main_v14_apply, val_main_cst_2_apply, val_main_cst_3_apply, zero_bits, zero_add]
  simp only [e, val_main_v11_apply, dist10]
  rfl

theorem norm28 (r : Fin 32768) (j : Fin 1024) : val_main_v28 (F := Ideal) x0 x1 x2 x3 x4 (ix2 r j)
    = Layer.norm (fun k => val_main_v4 (F := Ideal) x0 x1 x2 (ix2 r k)) (fun k => x3 (ix1 k)) (fun k => x4 (ix1 k)) j := by
  have e : idx_main_v21 (ix2 r j) = ix2 r (0 : Fin 1) := idx2 _ _ _ rfl rfl
  have eg : idx_main_v23 (idx_main_v24 (ix2 r j)) = ix1 j := idx1 _ _ rfl
  have eb : idx_main_v26 (idx_main_v27 (ix2 r j)) = ix1 j := idx1 _ _ rfl
  rw [val_main_v28_apply, val_main_v25_apply, val_main_v22_apply, val_main_v21_apply, e, val_main_v20_apply, val_main_v19_apply, var15, val_main_v18_apply, val_main_cst_4_apply, dist17,
    val_main_v24_apply, val_main_v23_apply, eg, val_main_v27_apply, val_main_v26_apply, eb]
  rfl

/-- A hidden unit. -/
theorem unit32 (r : Fin 32768) (k : Fin 2816) : val_main_v32 (F := Ideal) x0 x1 x2 x3 x4 x5 x6 (ix2 r k)
    = Layer.unit (Layer.dot (fun i => val_main_v28 (F := Ideal) x0 x1 x2 x3 x4 (ix2 r i)) fun i => x5 (ix2 i k))
        (Layer.dot (fun i => val_main_v28 (F := Ideal) x0 x1 x2 x3 x4 (ix2 r i)) fun i => x6 (ix2 i k)) := by
  have e1 : ∀ i, lidx_main_v29 (ix2 r k) i = ix2 r i := fun i => idx2 _ _ _ rfl rfl
  have e2 : ∀ i, ridx_main_v29 (ix2 r k) i = ix2 i k := fun i => idx2 _ _ _ rfl rfl
  have e3 : ∀ i, lidx_main_v31 (ix2 r k) i = ix2 r i := fun i => idx2 _ _ _ rfl rfl
  have e4 : ∀ i, ridx_main_v31 (ix2 r k) i = ix2 i k := fun i => idx2 _ _ _ rfl rfl
  rw [val_main_v32_apply, val_main_v30_apply, val_main_call0_v5_apply, val_main_call0_v4_apply, val_main_call0_v3_apply, val_main_call0_v2_apply, val_main_call0_v1_apply,
    val_main_call0_v0_apply, val_main_call0_cst_apply, val_main_call0_cst_0_apply, one_bits, val_main_v29_apply, val_main_v31_apply]
  simp only [e1, e2, e3, e4]
  rfl

/-- The row before the second normalisation. -/
theorem row36 (r : Fin 32768) (j : Fin 1024) : val_main_v36 (F := Ideal) x0 x1 x2 x3 x4 x5 x6 x7 (ix2 r j)
    = Layer.mix (val_main_v28 (F := Ideal) x0 x1 x2 x3 x4 (ix2 r j))
        (Layer.ffn (fun i => val_main_v28 (F := Ideal) x0 x1 x2 x3 x4 (ix2 r i)) (fun i k => x5 (ix2 i k)) (fun i k => x6 (ix2 i k)) (fun k j => x7 (ix2 k j)) j) := by
  have e1 : ∀ k, lidx_main_v33 (ix2 r j) k = ix2 r k := fun i => idx2 _ _ _ rfl rfl
  have e2 : ∀ k, ridx_main_v33 (ix2 r j) k = ix2 k j := fun i => idx2 _ _ _ rfl rfl
  rw [val_main_v36_apply, val_main_v35_apply, val_main_v34_apply, val_main_cst_5_apply, val_main_v33_apply]
  simp only [e1, e2, unit32]
  rfl

theorem mean40 (r : Fin 32768) : val_main_v40 (F := Ideal) x0 x1 x2 x3 x4 x5 x6 x7 (ix2 r (0 : Fin 1)) = Layer.mean fun k => val_main_v36 (F := Ideal) x0 x1 x2 x3 x4 x5 x6 x7 (ix2 r k) := by
  rw [val_main_v40_apply, val_main_v38_apply, val_main_v37_apply, val_main_v39_apply, val_main_cst_6_apply, val_main_cst_7_apply, zero_bits, zero_add]
  have e : ∀ k, idx_main_v37 (idx_main_v38 (ix2 r (0 : Fin 1))) k = ix2 r k := fun k => idx2 _ _ _ rfl rfl
  simp only [e]
  rfl

theorem dist42 (r : Fin 32768) (j : Fin 1024) : val_main_v42 (F := Ideal) x0 x1 x2 x3 x4 x5 x6 x7 (ix2 r j)
    = val_main_v36 (F := Ideal) x0 x1 x2 x3 x4 x5 x6 x7 (ix2 r j) - Layer.mean fun k => val_main_v36 (F := Ideal) x0 x1 x2 x3 x4 x5 x6 x7 (ix2 r k) := by
  have e : idx_main_v41 (ix2 r j) = ix2 r (0 : Fin 1) := idx2 _ _ _ rfl rfl
  rw [val_main_v42_apply, val_main_v41_apply, e, mean40]
  rfl

theorem dist49 (r : Fin 32768) (j : Fin 1024) : val_main_v49 (F := Ideal) x0 x1 x2 x3 x4 x5 x6 x7 (ix2 r j)
    = val_main_v36 (F := Ideal) x0 x1 x2 x3 x4 x5 x6 x7 (ix2 r j) - Layer.mean fun k => val_main_v36 (F := Ideal) x0 x1 x2 x3 x4 x5 x6 x7 (ix2 r k) := by
  have e : idx_main_v48 (ix2 r j) = ix2 r (0 : Fin 1) := idx2 _ _ _ rfl rfl
  rw [val_main_v49_apply, val_main_v48_apply, e, mean40]
  rfl

theorem var47 (r : Fin 32768) : val_main_v47 (F := Ideal) x0 x1 x2 x3 x4 x5 x6 x7 (ix2 r (0 : Fin 1)) = Layer.var fun k => val_main_v36 (F := Ideal) x0 x1 x2 x3 x4 x5 x6 x7 (ix2 r k) := by
  have e : ∀ k, idx_main_v44 (idx_main_v45 (ix2 r (0 : Fin 1))) k = ix2 r k := fun k => idx2 _ _ _ rfl rfl
  rw [val_main_v47_apply, val_main_v45_apply, val_main_v44_apply, val_main_v46_apply, val_main_cst_8_apply, val_main_cst_9_apply, zero_bits, zero_add]
  simp only [e, val_main_v43_apply, dist42]
  rfl

theorem norm60 (r : Fin 32768) (j : Fin 1024) : val_main_v60 (F := Ideal) x0 x1 x2 x3 x4 x5 x6 x7 x8 x9 (ix2 r j)
    = Layer.norm (fun k => val_main_v36 (F := Ideal) x0 x1 x2 x3 x4 x5 x6 x7 (ix2 r k)) (fun k => x8 (ix1 k)) (fun k => x9 (ix1 k)) j := by
  have e : idx_main_v53 (ix2 r j) = ix2 r (0 : Fin 1) := idx2 _ _ _ rfl rfl
  have eg : idx_main_v55 (idx_main_v56 (ix2 r j)) = ix1 j := idx1 _ _ rfl
  have eb : idx_main_v58 (idx_main_v59 (ix2 r j)) = ix1 j := idx1 _ _ rfl
  rw [val_main_v60_apply, val_main_v57_apply, val_main_v54_apply, val_main_v53_apply, e, val_main_v52_apply, val_main_v51_apply, var47, val_main_v50_apply, val_main_cst_10_apply, dist49,
    val_main_v56_apply, val_main_v55_apply, eg, val_main_v59_apply, val_main_v58_apply, eb]
  rfl

/-- The result: every row after the projection and the feed-forward part. -/
theorem result (r : Fin 32768) (j : Fin 1024) : val_main_v60 (F := Ideal) x0 x1 x2 x3 x4 x5 x6 x7 x8 x9 (ix2 r j)
    = Layer.out (fun k => x0 (ix2 r k)) (fun k => x1 (ix2 r k)) (fun i k => x2 (ix2 i k)) (fun k => x3 (ix1 k)) (fun k => x4 (ix1 k))
        (fun i k => x5 (ix2 i k)) (fun i k => x6 (ix2 i k)) (fun k j => x7 (ix2 k j)) (fun k => x8 (ix1 k)) (fun k => x9 (ix1 k)) j := by
  have h : ∀ j, val_main_v28 (F := Ideal) x0 x1 x2 x3 x4 (ix2 r j)
      = Layer.mid (fun k => x0 (ix2 r k)) (fun k => x1 (ix2 r k)) (fun i k => x2 (ix2 i k)) (fun k => x3 (ix1 k)) (fun k => x4 (ix1 k)) j := fun j => by
    rw [norm28]
    simp only [row4]
    rfl
  rw [norm60]
  simp only [row36, h]
  rfl

end Cert.OutRef

end
-- ==== Proof.InKer.lean ====
/-
  The input projection's result, over the extended reals, entry by entry.
-/
module

public import proofs.«01_k».proof.Proof.Layer
public import proofs.«01_k».proof.Proof.Gen.InProjIdeal.Value
public import Idealize.ShloMosaic.Lib.Pointwise
public import Idealize.ShloMosaic.Lib.ValueIdx
public import Idealize.ShloMosaic.Lib.Pipeline.ValueKit
public import Idealize.ShloMosaic.Lib.WholeRead
public import Idealize.ShloMosaic.Lib.Claim
public import Idealize.ShloMosaic.Lib.Pipeline.ValueKit.Point

@[expose] public section

noncomputable section

namespace Cert.InKer

open Idealize.ShloMosaic Idealize.ShloMosaic.TcCoe Idealize.SL.Sem Cert.InProjIdeal Cert.InProjIdeal.Gen

/-- A block of rows times the weights. -/
def tile (x : Vec Ideal S512x1024 .f32) (w : Fin 1024 → Fin 3072 → EReal) (y : S512x3072.Idx) : EReal :=
  Layer.dot (fun k : Fin 1024 => x (ix2 (y 0) k)) fun k => w k (y 1)

theorem pay3_apply (x : Vec Ideal S512x1024 .f32) (v : Vec Ideal S1024x1024 .bf16) (r : Fin 512) (l : Fin 1024) :
    k0_pay3 x v (ix2 r l) = Layer.dot (fun k : Fin 1024 => x (ix2 r k)) fun k => v (ix2 k l) := by
  pointwise [k0_pay3, k0_pay2, Layer.dot]

theorem pay4_eq (x : Vec Ideal S512x1024 .f32) (v : Vec Ideal S1024x1024 .bf16) : k0_pay4 x v = k0_pay3 x v := rfl

theorem pay5_eq (x : Vec Ideal S512x1024 .f32) (v : Vec Ideal S1024x1024 .bf16) : k0_pay5 x v = k0_pay3 x v := rfl

/-- A third of the columns of the product, put where it belongs. -/
theorem third (o : ℕ) (hfit : ∀ a : Fin 2, (![0, o] : Fin 2 → ℕ) a + S512x1024.size a ≤ S512x3072.size a) (ho : o + 1024 ≤ 3072)
    (x : Vec Ideal S512x1024 .f32) (w : Fin 1024 → Fin 3072 → EReal) (v : Vec Ideal S1024x1024 .bf16)
    (hv : ∀ (k l : Fin 1024), v (ix2 k l) = w k ⟨o + l.val, by omega⟩) (y : S512x1024.Idx) :
    k0_pay3 x v y = tile x w ((Rect.unit (s := S512x3072) ![0, o] S512x1024.size hfit).emb y) := by
  have ey : y = ix2 (y 0) (y 1) := by
    funext a
    match a with
    | ⟨0, _⟩ => rfl
    | ⟨1, _⟩ => rfl
  refine (congrArg (k0_pay3 x v) ey).trans ((pay3_apply x v (y 0) (y 1)).trans ?_)
  unfold tile
  refine congrArg₂ Layer.dot (funext fun k => congrArg x ?_) (funext fun k => ?_)
  · funext a
    match a with
    | ⟨0, _⟩ => exact Fin.ext (show (y 0).val = 0 + 1 * (y 0).val by omega)
    | ⟨1, _⟩ => rfl
  · exact (hv k (y 1)).trans (congrArg (w k) (Fin.ext (show o + (y 1).val = o + 1 * (y 1).val by omega)))

theorem rows_read (m : Memref sig .tc .vmem S512x1024 .f32) (hm : m.IsWhole) (x : Vec Ideal S512x1024 .f32) :
    View.readAt (Elt Ideal) m.view (Rect.unit (s := S512x1024) ![0, 0] S512x1024.size inb_S512x1024_S512x1024_0_0).toLoadRect (hm.unread x) = x := by
  funext j
  rw [hm.readAt_unread]
  refine congrArg x (funext fun a => Fin.ext ?_)
  match a with
  | ⟨0, _⟩ => show 0 + 1 * (j 0).val = (j 0).val; omega
  | ⟨1, _⟩ => show 0 + 1 * (j 1).val = (j 1).val; omega

theorem weights_read (m : Memref sig .tc .vmem S1024x3072 .f32) (hm : m.IsWhole) (x : Vec Ideal S1024x3072 .f32) :
    View.readAt (Elt Ideal) m.view (Rect.unit (s := S1024x3072) ![0, 0] S1024x3072.size inb_S1024x3072_S1024x3072_0_0).toLoadRect (hm.unread x) = x := by
  funext j
  rw [hm.readAt_unread]
  refine congrArg x (funext fun a => Fin.ext ?_)
  match a with
  | ⟨0, _⟩ => show 0 + 1 * (j 0).val = (j 0).val; omega
  | ⟨1, _⟩ => show 0 + 1 * (j 1).val = (j 1).val; omega

theorem part_read (o : ℕ) (ho : o + 1024 ≤ 3072) (hfit : ∀ a : Fin 2, (![0, o] : Fin 2 → ℕ) a + S1024x1024.size a ≤ S1024x3072.size a) (m : Memref sig .tc .vmem S1024x3072 .bf16) (hm : m.IsWhole) (x : Vec Ideal S1024x3072 .bf16)
    (k l : Fin 1024) :
    View.readAt (Elt Ideal) m.view (Rect.unit (s := S1024x3072) ![0, o] S1024x1024.size hfit).toLoadRect (hm.unread x) (ix2 k l) = x (ix2 k ⟨o + l.val, by omega⟩) := by
  rw [hm.readAt_unread]
  refine congrArg x (funext fun a => Fin.ext ?_)
  match a with
  | ⟨0, _⟩ => show 0 + 1 * k.val = k.val; omega
  | ⟨1, _⟩ => show o + 1 * l.val = o + l.val; omega

section
variable (c : Dev nD) (i : grid0.Coords) (arg1 : Memref sig .tc .vmem S512x1024 .f32) (harg1 : arg1.IsWhole) (arg2 : Memref sig .tc .vmem S1024x3072 .f32) (harg2 : arg2.IsWhole) (arg3 : Memref sig .tc .vmem S512x3072 .bf16) (harg3 : arg3.IsWhole) (arg4 : Memref sig .tc .vmem S1024x3072 .bf16) (harg4 : arg4.IsWhole)
  (x0 : Vec Ideal S512x1024 .f32) (x1 : Vec Ideal S1024x3072 .f32) (xs : Vec Ideal S1024x3072 .bf16)

/-- A later point: the block times the weights kept in the scratch. -/
theorem out_B (hc0 : ¬cond0_0 i) (y : S512x3072.Idx) :
    out0_B_2 c i arg1 harg1 arg2 harg2 arg3 harg3 arg4 harg4 hc0 x0 x1 xs y = tile x0 (fun k l => xs (ix2 k l)) y := by
  unfold out0_B_2
  rw [View.read_writes_eq_canon _ _ _ (cover0_B_2 c i arg1 harg1 arg2 harg2 arg3 harg3 arg4 harg4 hc0 x0 x1 xs)]
  refine View.canon_apply_of_pieces (Val := Elt Ideal) (tile x0 fun k l => xs (ix2 k l)) _ ?_ y (cover0_B_2 c i arg1 harg1 arg2 harg2 arg3 harg3 arg4 harg4 hc0 x0 x1 xs y)
  unfold kernelRun0_B
  dsimp only
  intro p hp z
  simp only [List.mem_cons, List.mem_nil_iff, or_false] at hp
  rcases hp with rfl | rfl | rfl
  · dsimp only
    rw [pay5_eq]
    exact (congrFun (congrArg (fun q => k0_pay3 q _) (rows_read arg1 harg1 x0)) z).trans (third 2048 _ (by decide) x0 _ _ (part_read 2048 (by decide) _ arg4 harg4 xs) z)
  · dsimp only
    rw [pay4_eq]
    exact (congrFun (congrArg (fun q => k0_pay3 q _) (rows_read arg1 harg1 x0)) z).trans (third 1024 _ (by decide) x0 _ _ (part_read 1024 (by decide) _ arg4 harg4 xs) z)
  · dsimp only
    exact (congrFun (congrArg (fun q => k0_pay3 q _) (rows_read arg1 harg1 x0)) z).trans (third 0 _ (by decide) x0 _ _ (part_read 0 (by decide) _ arg4 harg4 xs) z)

theorem kept (hc0 : cond0_0 i) : View.canon (kernelRun0_A.sl.HS0_1 (F := Ideal) c arg2 harg2 x1) = x1 := by
  unfold kernelRun0_A.sl.HS0_1
  refine (View.canon_cons_unit_lit _ _ _ (by decide)).trans ?_
  rw [weights_read]
  exact funext fun y => by pointwise [k0_pay1]

/-- The first point leaves the weights in the scratch. -/
theorem scratch_A (hc0 : cond0_0 i) : sout0_A_0 c i arg1 harg1 arg2 harg2 arg3 harg3 arg4 harg4 hc0 x0 x1 = x1 := by
  unfold sout0_A_0
  rw [View.read_writes_eq_canon _ _ _ (scover0_A_0 c i arg1 harg1 arg2 harg2 arg3 harg3 arg4 harg4 hc0 x0 x1)]
  exact kept c i arg2 harg2 x1 hc0

/-- A later point leaves the scratch as it was. -/
theorem scratch_B (hc0 : ¬cond0_0 i) : sout0_B_0 c i arg1 harg1 arg2 harg2 arg3 harg3 arg4 harg4 hc0 x0 x1 xs = xs := rfl

theorem part_kept (hc0 : cond0_0 i) (o : ℕ) (ho : o + 1024 ≤ 3072) (hfit : ∀ a : Fin 2, (![0, o] : Fin 2 → ℕ) a + S1024x1024.size a ≤ S1024x3072.size a) (k l : Fin 1024) :
    View.readCov (Val := Elt Ideal) arg4.view (kernelRun0_A.sl.HS0_1 (F := Ideal) c arg2 harg2 x1) (Rect.unit (s := S1024x3072) ![0, o] S1024x1024.size hfit).toLoadRect (ix2 k l)
      = x1 (ix2 k ⟨o + l.val, by omega⟩) := by
  rw [View.readCov_eq_canon', kept c i arg2 harg2 x1 hc0]
  refine congrArg x1 (funext fun a => Fin.ext ?_)
  match a with
  | ⟨0, _⟩ => show 0 + 1 * k.val = k.val; omega
  | ⟨1, _⟩ => show o + 1 * l.val = o + l.val; omega

/-- The first point: the block times the weights it has just put in the scratch. -/
theorem out_A (hc0 : cond0_0 i) (y : S512x3072.Idx) :
    out0_A_2 c i arg1 harg1 arg2 harg2 arg3 harg3 arg4 harg4 hc0 x0 x1 y = tile x0 (fun k l => x1 (ix2 k l)) y := by
  unfold out0_A_2
  rw [View.read_writes_eq_canon _ _ _ (cover0_A_2 c i arg1 harg1 arg2 harg2 arg3 harg3 arg4 harg4 hc0 x0 x1)]
  refine View.canon_apply_of_pieces (Val := Elt Ideal) (tile x0 fun k l => x1 (ix2 k l)) _ ?_ y (cover0_A_2 c i arg1 harg1 arg2 harg2 arg3 harg3 arg4 harg4 hc0 x0 x1 y)
  unfold kernelRun0_A
  dsimp only
  intro p hp z
  simp only [List.mem_cons, List.mem_nil_iff, or_false] at hp
  rcases hp with rfl | rfl | rfl
  · dsimp only
    rw [pay5_eq]
    exact (congrFun (congrArg (fun q => k0_pay3 q _) (rows_read arg1 harg1 x0)) z).trans (third 2048 _ (by decide) x0 _ _ (part_kept c i arg2 harg2 arg4 x1 hc0 2048 (by decide) _) z)
  · dsimp only
    rw [pay4_eq]
    exact (congrFun (congrArg (fun q => k0_pay3 q _) (rows_read arg1 harg1 x0)) z).trans (third 1024 _ (by decide) x0 _ _ (part_kept c i arg2 harg2 arg4 x1 hc0 1024 (by decide) _) z)
  · dsimp only
    exact (congrFun (congrArg (fun q => k0_pay3 q _) (rows_read arg1 harg1 x0)) z).trans (third 0 _ (by decide) x0 _ _ (part_kept c i arg2 harg2 arg4 x1 hc0 0 (by decide) _) z)

end

variable (m : (ℓ : Loc nD τ sig) → Buf (Elt Ideal) ℓ) (c : Dev nD)

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

theorem row_lt (t : Fin cfg0.N) (r : Fin 512) : t.val * 512 + r.val < 32768 := by
  have := t.isLt
  have e : cfg0.N = 64 := N_0
  omega

/-- The row of the array that row `r` of point `t`'s block is. -/
abbrev rowOf (t : Fin cfg0.N) (r : Fin 512) : Fin 32768 := ⟨t.val * 512 + r.val, row_lt t r⟩

theorem blk0 (t : Fin cfg0.N) (r : Fin 512) (k : Fin 1024) : iblk m c 0 t (ix2 r k) = m ((c : Thread nD τ).loc main_arg0) (ix2 (rowOf t r) k) := by
  blk_ext! [iblk, V, index0 t]

theorem blk1 (t : Fin cfg0.N) (k : Fin 1024) (l : Fin 3072) : iblk m c 1 t (ix2 k l) = m ((c : Thread nD τ).loc main_arg1) (ix2 k l) := by
  blk_ext! [iblk, V, index1 t]

/-- The scratch holds the weights after every point. -/
theorem scratch (k : Fin 1024) (l : Fin 3072) : ∀ (n : ℕ) (hn : n < cfg0.N), (outsAt0 m c n hn).2 (ix2 k l) = m ((c : Thread nD τ).loc main_arg1) (ix2 k l)
  | 0, hn => by
    have h := outsAt0_A m c ⟨0, hn⟩ (Nat.zero_mod _)
    refine (congrFun (congrArg Prod.snd h) _).trans ?_
    dsimp only
    rw [scratch_A]
    exact blk1 m c ⟨0, hn⟩ k l
  | n + 1, hn => by
    have e : cfg0.N = 64 := N_0
    have h := outsAt0_B m c ⟨n + 1, hn⟩ (by show ¬(n + 1) % 64 = 0; omega)
    refine (congrFun (congrArg Prod.snd h) _).trans ?_
    dsimp only
    rw [scratch_B]
    exact scratch k l n _

/-- The result: the rows times the weights. -/
def result : Buf (Elt Ideal) ((c : Thread nD τ).loc main_v0) := fun i : S32768x3072.Idx =>
  Layer.dot (fun k : Fin 1024 => m ((c : Thread nD τ).loc main_arg0) (ix2 (i 0) k)) fun k => m ((c : Thread nD τ).loc main_arg1) (ix2 k (i 1))

theorem at_point (t : Fin cfg0.N) (y : S512x3072.Idx) : (outsAt0 m c t.val t.isLt).1 y = result m c (ix2 (rowOf t (y 0)) (y 1)) := by
  by_cases h0 : t.val % 64 = 0
  · refine (congrFun (congrArg Prod.fst (outsAt0_A m c t h0)) y).trans ?_
    dsimp only
    rw [out_A]
    unfold tile
    refine congrArg₂ Layer.dot (funext fun k => ?_) (funext fun k => ?_)
    · exact blk0 m c t (y 0) k
    · exact blk1 m c t k (y 1)
  · refine (congrFun (congrArg Prod.fst (outsAt0_B m c t h0)) y).trans ?_
    dsimp only
    rw [out_B]
    unfold tile
    refine congrArg₂ Layer.dot (funext fun k => ?_) (funext fun k => ?_)
    · exact blk0 m c t (y 0) k
    · exact scratch m c k (y 1) _ _

theorem arr (G : Buf (Elt Ideal) ((c : Thread nD τ).loc main_v0))
    (h : ∀ (t : Fin cfg0.N) (y : S512x3072.Idx), (dats m 0 c).flushed 2 t y = G (((cfg0.win 2).blk t).view.emb y)) : (dats m 0 c).arrAt 2 cfg0.N = G := by
  refine (dats m 0 c).arrAt_eq_of_covers 2 _ (by decide +kernel) fun t hf y => ?_
  exact h t y

theorem final : (dats m 0 c).arrAt 2 cfg0.N = result m c := by
  refine arr m c _ fun t y => ?_
  rw [Cert.InProjIdeal.Value.flushed2]
  refine Eq.trans ?_ ((at_point m c t y).trans ?_)
  · refine congrArg (outsAt0 m c t.val t.isLt).1 (funext fun a => Fin.ext ?_)
    match a with
    | ⟨0, _⟩ => rfl
    | ⟨1, _⟩ => rfl
  · have e0 : win0_2.index t (0 : Fin 2) = t.val := congrFun (index2 t) 0
    have e1 : win0_2.index t (1 : Fin 2) = 0 := congrFun (index2 t) 1
    refine congrArg (result m c) (funext fun a => Fin.ext ?_)
    match a with
    | ⟨0, _⟩ => show t.val * 512 + (y 0).val = win0_2.index t (0 : Fin 2) * 512 + 1 * (y 0).val; rw [e0]; omega
    | ⟨1, _⟩ => show (y 1).val = win0_2.index t (1 : Fin 2) * 3072 + 1 * (y 1).val; rw [e1]; omega

end Cert.InKer

end
-- ==== Proof.InRef.lean ====
/-
  The reference's input projection, over the extended reals, entry by entry.
-/
module

public import proofs.«01_k».proof.Proof.OutRef
public import proofs.«01_k».proof.Proof.Gen.InProjRefIdeal.Read

@[expose] public section

noncomputable section

namespace Cert.InRef

open Cert.InProjRefIdeal Cert.InProjRefIdeal.Read Cert.OutRef
open Idealize.ShloMosaic Idealize.ShloMosaic.StableHlo Idealize.ShloMosaic.ValueIdx

/-- The result: the rows times the weights. -/
theorem result (x0 : (⟨S32768x1024, .f32⟩ : BufTy).Contents (Elt Ideal)) (x1 : (⟨S1024x3072, .f32⟩ : BufTy).Contents (Elt Ideal)) (r : Fin 32768) (l : Fin 3072) :
    val_main_v1 (F := Ideal) x0 x1 (ix2 r l) = Layer.dot (fun k : Fin 1024 => x0 (ix2 r k)) fun k => x1 (ix2 k l) := by
  have e1 : ∀ k, lidx_main_v0 (ix2 r l) k = ix2 r k := fun k => idx2 _ _ _ rfl rfl
  have e2 : ∀ k, ridx_main_v0 (ix2 r l) k = ix2 k l := fun k => idx2 _ _ _ rfl rfl
  rw [val_main_v1_apply, val_main_v0_apply]
  simp only [e1, e2]
  rfl

end Cert.InRef

end
-- ==== Proof.RefOps.lean ====
/-
  The reference's operations over the extended reals: a softplus, a reversed running sum, comparisons of positions.
-/
module

public import proofs.«01_k».proof.Proof.Steps
public import proofs.«01_k».proof.Proof.Gen.ReferenceIdeal.Read

@[expose] public section

noncomputable section

namespace Cert.Ref

open Finset Cert.Rows Cert.Tile Cert.ReferenceIdeal
open Idealize.ShloMosaic Idealize.ShloMosaic.StableHlo Idealize.ShloMosaic.ValueIdx

/-- The spelling of a softplus that the logistic's logarithm has, at a real number. -/
theorem softplus_real (a : ℝ) (z0 z1 z2 z3 : Ideal .f32) (h0 : z0 = 0) (h1 : z1 = 0) (h2 : z2 = 0) :
    Scalar.select (FloatOps.cmpf (F := Ideal) (φ := .f32) CmpFPredicate.une (FloatOps.subf (a : EReal) z0) (FloatOps.subf (a : EReal) z0))
        (FloatOps.addf (F := Ideal) (φ := .f32) (a : EReal) z1)
        (FloatOps.addf (F := Ideal) (φ := .f32) (FloatOps.maximumf (F := Ideal) (φ := .f32) (a : EReal) z2)
          (FloatOps.hostUnary (F := Ideal) (φ := .f32) HostUnaryOp.log1p
            (FloatOps.hostUnary (F := Ideal) (φ := .f32) HostUnaryOp.exp
              (FloatOps.hostNegf (F := Ideal) (φ := .f32) (FloatOps.hostAbsf (F := Ideal) (φ := .f32) (FloatOps.subf (a : EReal) z0))))))
      = ((max a 0 + Real.log (1 + Real.exp (-|a|)) : ℝ) : EReal) := by
  subst h0 h1 h2
  have hp : 0 < 1 + Real.exp (-|a|) := by have := Real.exp_pos (-|a|); linarith
  have hs : FloatOps.subf (F := Ideal) (φ := .f32) (a : EReal) (0 : EReal) = (a : EReal) := by
    show (a : EReal) - ((0 : ℝ) : EReal) = _
    rw [← EReal.coe_sub, sub_zero]
  have hc : FloatOps.cmpf (F := Ideal) (φ := .f32) CmpFPredicate.une (a : EReal) (a : EReal) = 0#1 := by
    show BitVec.ofBool (decide ((a : EReal) ≠ (a : EReal))) = 0#1
    rw [decide_eq_false (not_not.mpr rfl)]
    rfl
  rw [hs, hc]
  show max (a : EReal) ((0 : ℝ) : EReal) + Ideal.log (1 + Ideal.exp (-(max (a : EReal) (-(a : EReal))))) = _
  rw [← EReal.coe_neg, ← coe_max, ← coe_max, ← abs_eq_max_neg, ← EReal.coe_neg, Ideal.exp_coe, ← EReal.coe_one, ← EReal.coe_add, Ideal.log_coe, if_neg (not_le.mpr hp), ← EReal.coe_add]

theorem select_dec {α : Type} (p : Prop) [Decidable p] (a b : α) : Scalar.select (BitVec.ofBool (decide p)) a b = if p then a else b := by
  by_cases h : p <;> simp [h, Scalar.select]

/-- Division by eight. -/
theorem div_eight (a : ℝ) : FloatOps.hostDivf (F := Ideal) (φ := .f32) (a : EReal) (FloatOps.ofBits .f32 0x41000000#32) = ((a * (1 / 8) : ℝ) : EReal) := by
  have e : (FloatOps.ofBits .f32 0x41000000#32 : Ideal .f32) = ((8 : ℝ) : EReal) := by
    show Ideal.ofBits .f32 0x41000000#32 = _
    simp [Ideal.ofBits, Ideal.ieee]
    rw [← EReal.coe_mul]; norm_num
  rw [e]
  show Ideal.div (a : EReal) ((8 : ℝ) : EReal) = _
  rw [Ideal.div_coe (by norm_num : (8 : ℝ) ≠ 0), ← EReal.coe_mul]

theorem zero_bits : (FloatOps.ofBits .f32 0x00000000#32 : Ideal .f32) = ((0 : ℝ) : EReal) := Ideal.ofBits_zero_f32

theorem bot_bits : (FloatOps.ofBits .f32 0xFF800000#32 : Ideal .f32) = (⊥ : EReal) := by
  show Ideal.ofBits .f32 0xFF800000#32 = _
  simp [Ideal.ofBits, Ideal.ieee]

theorem foldl_sum {n : ℕ} (g : Fin n → EReal) (v : EReal) : (List.finRange n).foldl (fun r k => r + g k) v = v + ∑ k, g k := by
  rw [← List.sum_ofFn, List.ofFn_eq_map]
  generalize List.finRange n = l
  induction l generalizing v with
  | nil => simp
  | cons a l ih => rw [List.foldl_cons, ih, List.map_cons, List.sum_cons, add_assoc]

/-- The window of the running sum: the whole last axis. -/
abbrev Win : Shape := ⟨4, ![1, 1, 1, 2048]⟩

theorem win_numel : Win.numel = 2048 := by decide

theorem win_val (n : Fin Win.numel) (a : Fin 4) : (Win.rowMajor.symm n a).val = if a = 3 then n.val else 0 := by
  have h := congrArg Fin.val (Win.rowMajor.apply_symm_apply n)
  rw [Shape.rowMajor_val_four] at h
  have h0 : (Win.rowMajor.symm n 0).val < 1 := (Win.rowMajor.symm n 0).isLt
  have h1 : (Win.rowMajor.symm n 1).val < 1 := (Win.rowMajor.symm n 1).isLt
  have h2 : (Win.rowMajor.symm n 2).val < 1 := (Win.rowMajor.symm n 2).isLt
  have e0 : (Win.rowMajor.symm n 0).val = 0 := by omega
  have e1 : (Win.rowMajor.symm n 1).val = 0 := by omega
  have e2 : (Win.rowMajor.symm n 2).val = 0 := by omega
  rw [e0, e1, e2] at h
  fin_cases a
  · simpa using e0
  · simpa using e1
  · simpa using e2
  · simpa using h

/-- A reversed running sum along the last axis: the element and all behind it. -/
theorem cumsum_last (y : FVec Ideal S16x8x2048x2048 .f32) (init : FVec Ideal S_ .f32)
    (h : S16x8x2048x2048.ReduceWindows ![1, 1, 1, 2048] ![1, 1, 1, 1] ![0, 0, 0, 0] ![0, 0, 0, 2047] S16x8x2048x2048) (hu : 0 < S_.numel)
    (hi : init (Shape.Idx.first hu) = 0) (i : S16x8x2048x2048.Idx) (f : ℕ → ℝ)
    (hf : ∀ j : S16x8x2048x2048.Idx, (j 0).val = (i 0).val → (j 1).val = (i 1).val → (j 2).val = (i 2).val → y j = ((f (j 3).val : ℝ) : EReal)) :
    Host.reduceWindowAdd ![1, 1, 1, 2048] ![1, 1, 1, 1] ![0, 0, 0, 0] ![0, 0, 0, 2047] y init h hu i
      = ((∑ j ∈ Ico (i 3).val 2048, f j : ℝ) : EReal) := by
  have hi3 : (i 3).val < 2048 := (i 3).isLt
  unfold Host.reduceWindowAdd
  rw [Ideal.hostReduceWindowAdd_def, hi]
  unfold Ideal.hostReduceWindowAdd Host.reduceWindow
  refine (foldl_sum (n := Win.numel) _ _).trans ?_
  rw [zero_add]
  refine (Finset.sum_congr (g := fun n : Fin Win.numel => (((if (i 3).val + n.val < 2048 then f ((i 3).val + n.val) else 0 : ℝ)) : EReal)) rfl fun n _ => ?_).trans ?_
  · dsimp only
    have w := win_val n
    split
    · next hin =>
      have h3 := (hin 3).2
      rw [w 3] at h3
      rw [if_pos (by simpa using h3)]
      refine (hf _ ?_ ?_ ?_).trans ?_
      · show (i 0).val * 1 + (Win.rowMajor.symm n 0).val - 0 = _; rw [w 0]; simp
      · show (i 1).val * 1 + (Win.rowMajor.symm n 1).val - 0 = _; rw [w 1]; simp
      · show (i 2).val * 1 + (Win.rowMajor.symm n 2).val - 0 = _; rw [w 2]; simp
      · refine congrArg (fun t => ((f t : ℝ) : EReal)) ?_
        show (i 3).val * 1 + (Win.rowMajor.symm n 3).val - 0 = _; rw [w 3]; simp
    · next hin =>
      rw [if_neg fun hlt => hin fun a => ?_]
      · simp
      · refine ⟨by fin_cases a <;> simp, ?_⟩
        rw [w a]
        have ha : (i a).val < S16x8x2048x2048.size a := (i a).isLt
        fin_cases a
        · simpa using ha
        · simpa using ha
        · simpa using ha
        · simpa using hlt
  rw [← coe_sum]
  refine congrArg _ ?_
  rw [Fin.sum_univ_eq_sum_range (fun n => if (i 3).val + n < 2048 then f ((i 3).val + n) else 0) Win.numel, win_numel, Finset.sum_Ico_eq_sum_range,
    ← Finset.sum_filter]
  refine Finset.sum_congr (Finset.ext fun n => ?_) fun _ _ => rfl
  simp only [Finset.mem_filter, Finset.mem_range]
  omega

theorem slt_pos {a b : ℕ} (ha : a < 2048) (hb : b < 2048) :
    IntOp.cmpi CmpIPredicate.slt (BitVec.ofNat 32 a) (BitVec.ofNat 32 b) = BitVec.ofBool (decide (a < b)) := by
  show BitVec.ofBool (BitVec.slt _ _) = _
  rw [BitVec.slt_eq_decide]
  congr 1
  rw [decide_eq_decide, BitVec.toInt_eq_toNat_of_lt (by rw [BitVec.toNat_ofNat]; omega), BitVec.toInt_eq_toNat_of_lt (by rw [BitVec.toNat_ofNat]; omega),
    BitVec.toNat_ofNat, BitVec.toNat_ofNat]
  omega

theorem sle_pos {a b : ℕ} (ha : a < 2048) (hb : b < 2048) :
    IntOp.cmpi CmpIPredicate.sle (BitVec.ofNat 32 a) (BitVec.ofNat 32 b) = BitVec.ofBool (decide (a ≤ b)) := by
  show BitVec.ofBool (BitVec.sle _ _) = _
  rw [BitVec.sle_eq_decide]
  congr 1
  rw [decide_eq_decide, BitVec.toInt_eq_toNat_of_lt (by rw [BitVec.toNat_ofNat]; omega), BitVec.toInt_eq_toNat_of_lt (by rw [BitVec.toNat_ofNat]; omega),
    BitVec.toNat_ofNat, BitVec.toNat_ofNat]
  omega

theorem sub_pos_int {a b : ℕ} (ha : a < 2048) (hb : b < 2048) :
    (IntOp.subi (BitVec.ofNat 32 a) (BitVec.ofNat 32 b)).toInt = (a : ℤ) - b := by
  show (BitVec.ofNat 32 a - BitVec.ofNat 32 b).toInt = _
  rw [BitVec.toInt_sub, BitVec.toInt_eq_toNat_of_lt (by rw [BitVec.toNat_ofNat]; omega), BitVec.toInt_eq_toNat_of_lt (by rw [BitVec.toNat_ofNat]; omega),
    BitVec.toNat_ofNat, BitVec.toNat_ofNat]
  have e : a % 2 ^ 32 = a := by omega
  have e' : b % 2 ^ 32 = b := by omega
  rw [e, e', Int.bmod_def]
  omega

end Cert.Ref
-- ==== Proof.Ref.lean ====
/-
  The reference, read at an index: its two halves are the mathematics of `Spec`.
-/
module

public import proofs.«01_k».proof.Proof.RefOps

@[expose] public section

noncomputable section

namespace Cert.Ref

open Finset Cert.Rows Cert.Spec Cert.ReferenceIdeal Cert.ReferenceIdeal.Gen Cert.ReferenceIdeal.Read
open Idealize.ShloMosaic Idealize.ShloMosaic.StableHlo Idealize.ShloMosaic.ValueIdx

theorem cong3 (x : ℕ → ℕ → ℕ → ℝ) {a b c a' b' c' : ℕ} (h0 : a = a') (h1 : b = b') (h2 : c = c') :
    ((x a b c : ℝ) : EReal) = ((x a' b' c' : ℝ) : EReal) := by subst h0 h1 h2; rfl

section
variable {x0 : (⟨S16x2048x3072, .bf16⟩ : BufTy).Contents (Elt Ideal)} {x : ℕ → ℕ → ℕ → ℝ}
  (hx : ∀ i : S16x2048x3072.Idx, x0 i = ((x (i 0).val (i 1).val (i 2).val : ℝ) : EReal))
include hx

theorem q_sb (i : S16x2048x8x64.Idx) :
    val_main_v2 (F := Ideal) x0 i = ((x (i 0).val (i 1).val ((i 2).val * 64 + (i 3).val) : ℝ) : EReal) := by
  have h0 : (i 0).val < 16 := (i 0).isLt
  have h1 : (i 1).val < 2048 := (i 1).isLt
  have h2 : (i 2).val < 8 := (i 2).isLt
  have h3 : (i 3).val < 64 := (i 3).isLt
  rw [val_main_v2_apply, val_main_v1_apply, val_main_v0_apply]
  refine (hx _).trans (cong3 x ?_ ?_ ?_)
  · show ((((i 0).val * 2048 + (i 1).val) * 8 + (i 2).val) * 64 + (i 3).val) / 1048576 = _; omega
  · show ((((i 0).val * 2048 + (i 1).val) * 8 + (i 2).val) * 64 + (i 3).val) / 512 % 2048 = _; omega
  · show ((((i 0).val * 2048 + (i 1).val) * 8 + (i 2).val) * 64 + (i 3).val) % 512 = _; omega

theorem k_sb (i : S16x2048x8x64.Idx) :
    val_main_v4 (F := Ideal) x0 i = ((x (i 0).val (i 1).val (512 + ((i 2).val * 64 + (i 3).val)) : ℝ) : EReal) := by
  have h0 : (i 0).val < 16 := (i 0).isLt
  have h1 : (i 1).val < 2048 := (i 1).isLt
  have h2 : (i 2).val < 8 := (i 2).isLt
  have h3 : (i 3).val < 64 := (i 3).isLt
  rw [val_main_v4_apply, val_main_v3_apply, val_main_v0_apply]
  refine (hx _).trans (cong3 x ?_ ?_ ?_)
  · show ((((i 0).val * 2048 + (i 1).val) * 8 + (i 2).val) * 64 + (i 3).val) / 1048576 = _; omega
  · show ((((i 0).val * 2048 + (i 1).val) * 8 + (i 2).val) * 64 + (i 3).val) / 512 % 2048 = _; omega
  · show 512 + ((((i 0).val * 2048 + (i 1).val) * 8 + (i 2).val) * 64 + (i 3).val) % 512 = _; omega

theorem v_sb (i : S16x2048x8x64.Idx) :
    val_main_v6 (F := Ideal) x0 i = ((x (i 0).val (i 1).val (1024 + ((i 2).val * 64 + (i 3).val)) : ℝ) : EReal) := by
  have h0 : (i 0).val < 16 := (i 0).isLt
  have h1 : (i 1).val < 2048 := (i 1).isLt
  have h2 : (i 2).val < 8 := (i 2).isLt
  have h3 : (i 3).val < 64 := (i 3).isLt
  rw [val_main_v6_apply, val_main_v5_apply, val_main_v0_apply]
  refine (hx _).trans (cong3 x ?_ ?_ ?_)
  · show ((((i 0).val * 2048 + (i 1).val) * 8 + (i 2).val) * 64 + (i 3).val) / 1048576 = _; omega
  · show ((((i 0).val * 2048 + (i 1).val) * 8 + (i 2).val) * 64 + (i 3).val) / 512 % 2048 = _; omega
  · show 1024 + ((((i 0).val * 2048 + (i 1).val) * 8 + (i 2).val) * 64 + (i 3).val) % 512 = _; omega

theorem logit (i : S16x8x2048x2048.Idx) :
    val_main_v17 (F := Ideal) x0 i = ((zsb (x (i 0).val) (i 1).val (i 2).val (i 3).val : ℝ) : EReal) := by
  rw [val_main_v17_apply, val_main_v15_apply, val_main_v16_apply]
  have e : ∑ k : Fin 64, (val_main_v2 (F := Ideal) x0) (lidx_main_v15 i k) * (val_main_v4 (F := Ideal) x0) (ridx_main_v15 i k)
      = ((∑ d : Fin 64, x (i 0).val (i 2).val ((i 1).val * 64 + d.val) * x (i 0).val (i 3).val (512 + ((i 1).val * 64 + d.val)) : ℝ) : EReal) := by
    refine sum_of_coe _ fun d => ?_
    rw [q_sb hx, k_sb hx, ← EReal.coe_mul]
  rw [e]
  exact div_eight _

theorem lsig_neg (i : S16x8x2048x2048.Idx) :
    val_main_v24 (F := Ideal) x0 i = ((lsig (-(zsb (x (i 0).val) (i 1).val (i 2).val (i 3).val)) : ℝ) : EReal) := by
  simp only [val_main_v24_apply, val_main_call0_v1_apply, val_main_call0_call0_v0_apply, val_main_call0_call0_v1_apply, val_main_call0_call0_v2_apply,
    val_main_call0_call0_v3_apply, val_main_call0_call0_v4_apply, val_main_call0_call0_v5_apply, val_main_call0_call0_v6_apply,
    val_main_call0_call0_v7_apply, val_main_call0_call0_v8_apply, val_main_call0_call0_v9_apply, val_main_call0_call0_v10_apply,
    val_main_call0_call0_v11_apply, val_main_call0_v0_apply, val_main_v23_apply, logit hx]
  have e : ∀ a : ℝ, FloatOps.hostNegf (F := Ideal) (φ := .f32) (FloatOps.hostNegf (F := Ideal) (φ := .f32) (a : EReal)) = (((-(-a)) : ℝ) : EReal) := fun a => by
    rw [EReal.coe_neg, EReal.coe_neg]; rfl
  rw [e]
  refine (congrArg (FloatOps.hostNegf (F := Ideal) (φ := .f32)) (softplus_real _ _ _ _ 0 zero_bits zero_bits zero_bits)).trans ?_
  rw [← lsig_softplus, EReal.coe_neg]
  rfl

theorem lsig_pos (i : S16x8x2048x2048.Idx) :
    val_main_v28 (F := Ideal) x0 i = ((lsig (zsb (x (i 0).val) (i 1).val (i 2).val (i 3).val) : ℝ) : EReal) := by
  simp only [val_main_v28_apply, val_main_call3_v1_apply, val_main_call3_call0_v0_apply, val_main_call3_call0_v1_apply, val_main_call3_call0_v2_apply,
    val_main_call3_call0_v3_apply, val_main_call3_call0_v4_apply, val_main_call3_call0_v5_apply, val_main_call3_call0_v6_apply,
    val_main_call3_call0_v7_apply, val_main_call3_call0_v8_apply, val_main_call3_call0_v9_apply, val_main_call3_call0_v10_apply,
    val_main_call3_call0_v11_apply, val_main_call3_v0_apply, logit hx]
  have e : ∀ a : ℝ, FloatOps.hostNegf (F := Ideal) (φ := .f32) (a : EReal) = (((-a) : ℝ) : EReal) := fun a => by
    rw [EReal.coe_neg]; rfl
  rw [e]
  refine (congrArg (FloatOps.hostNegf (F := Ideal) (φ := .f32)) (softplus_real _ _ _ _ 0 zero_bits zero_bits zero_bits)).trans ?_
  rw [e, lsig_softplus]
end

/-- The strict mask: keys before the query. -/
theorem strict_at (i : S2048x2048.Idx) : val_main_v22 (F := Ideal) i = BitVec.ofBool (decide ((i 1).val < (i 0).val)) := by
  simp only [val_main_v22_apply, val_main_v20_apply, val_main_v21_apply, val_main_v18_apply, val_main_v19_apply, val_main_v13_apply, val_main_v14_apply]
  exact slt_pos (i 1).isLt (i 0).isLt

theorem causal_at (i : S2048x2048.Idx) : val_main_v72 (F := Ideal) i = BitVec.ofBool (decide ((i 1).val ≤ (i 0).val)) := by
  simp only [val_main_v72_apply, val_main_v70_apply, val_main_v71_apply, val_main_v68_apply, val_main_v69_apply, val_main_v13_apply, val_main_v14_apply]
  exact sle_pos (i 1).isLt (i 0).isLt

section
variable {x0 : (⟨S16x2048x3072, .bf16⟩ : BufTy).Contents (Elt Ideal)} {x : ℕ → ℕ → ℕ → ℝ}
  (hx : ∀ i : S16x2048x3072.Idx, x0 i = ((x (i 0).val (i 1).val (i 2).val : ℝ) : EReal))
include hx

theorem rest_at (i : S16x8x2048x2048.Idx) :
    val_main_v25 (F := Ideal) x0 i = ((rest (zsb (x (i 0).val) (i 1).val (i 2).val) (i 2).val (i 3).val : ℝ) : EReal) := by
  rw [val_main_v25_apply, val_main_call1_v1_apply, strict_at, lsig_neg hx, select_dec]
  unfold rest
  show (if (i 3).val < (i 2).val then _ else _) = _
  split
  · rfl
  · exact zero_bits

theorem cum_at (i : S16x8x2048x2048.Idx) :
    val_main_v26 (F := Ideal) x0 i = ((∑ j ∈ Ico (i 3).val 2048, rest (zsb (x (i 0).val) (i 1).val (i 2).val) (i 2).val j : ℝ) : EReal) := by
  unfold val_main_v26
  refine cumsum_last _ _ _ _ zero_bits i _ fun j h0 h1 h2 => ?_
  rw [rest_at hx, h0, h1, h2]

theorem weight_at (i : S16x8x2048x2048.Idx) :
    val_main_v31 (F := Ideal) x0 i = ((weight (zsb (x (i 0).val) (i 1).val (i 2).val) (i 2).val (i 3).val : ℝ) : EReal) := by
  have h3 : (i 3).val < 2048 := (i 3).isLt
  rw [val_main_v31_apply, val_main_call4_v1_apply, strict_at, val_main_v30_apply, val_main_v29_apply, val_main_v27_apply, lsig_pos hx, cum_at hx, rest_at hx, select_dec]
  unfold weight
  show (if (i 3).val < (i 2).val then Ideal.exp (((_ : ℝ) : EReal) + (((_ : ℝ) : EReal) - ((_ : ℝ) : EReal))) else _) = _
  split
  · rw [← EReal.coe_sub, ← EReal.coe_add, Ideal.exp_coe, Finset.sum_eq_sum_Ico_succ_bot h3, add_sub_cancel_left]
  · exact zero_bits

theorem stick_at (i : S16x2048x512.Idx) :
    val_main_v34 (F := Ideal) x0 i = ((sbOut (x (i 0).val) ((i 2).val / 64) ((i 2).val % 64) (i 1).val : ℝ) : EReal) := by
  have h0 : (i 0).val < 16 := (i 0).isLt
  have h1 : (i 1).val < 2048 := (i 1).isLt
  have h2 : (i 2).val < 512 := (i 2).isLt
  rw [val_main_v34_apply, val_main_v33_apply, val_main_v32_apply]
  have e0 : (idx_main_v33 (idx_main_v34 i) 0).val = (i 0).val := by
    show (((i 0).val * 2048 + (i 1).val) * 512 + (i 2).val) / 1048576 = _; omega
  have e1 : (idx_main_v33 (idx_main_v34 i) 1).val = (i 2).val / 64 := by
    show (((i 0).val * 2048 + (i 1).val) * 512 + (i 2).val) / 64 % 8 = _; omega
  have e2 : (idx_main_v33 (idx_main_v34 i) 2).val = (i 2).val % 64 := by
    show (((i 0).val * 2048 + (i 1).val) * 512 + (i 2).val) % 64 = _; omega
  have e3 : (idx_main_v33 (idx_main_v34 i) 3).val = (i 1).val := by
    show (((i 0).val * 2048 + (i 1).val) * 512 + (i 2).val) / 512 % 2048 = _; omega
  refine (sum_of_coe (fun k : Fin 2048 => x (i 0).val k.val (1024 + ((i 2).val / 64 * 64 + (i 2).val % 64)) * weight (zsb (x (i 0).val) ((i 2).val / 64) (i 1).val) (i 1).val k.val) fun k => ?_).trans ?_
  · rw [v_sb hx, weight_at hx, ← EReal.coe_mul]
    show ((x (idx_main_v33 (idx_main_v34 i) 0).val k.val (1024 + ((idx_main_v33 (idx_main_v34 i) 1).val * 64 + (idx_main_v33 (idx_main_v34 i) 2).val))
      * weight (zsb (x (idx_main_v33 (idx_main_v34 i) 0).val) (idx_main_v33 (idx_main_v34 i) 1).val (idx_main_v33 (idx_main_v34 i) 3).val) (idx_main_v33 (idx_main_v34 i) 3).val k.val : ℝ) : EReal) = _
    rw [e0, e1, e2, e3]
  · unfold sbOut stick
    rw [Fin.sum_univ_eq_sum_range (fun k => x (i 0).val k (1024 + ((i 2).val / 64 * 64 + (i 2).val % 64)) * weight (zsb (x (i 0).val) ((i 2).val / 64) (i 1).val) (i 1).val k) 2048,
      Finset.range_eq_Ico]
end

end Cert.Ref
-- ==== Proof.RefMaps.lean ====
/-
  The reference's differential half, read at an index.
-/
module

public import proofs.«01_k».proof.Proof.Ref
public import proofs.«01_k».proof.Proof.Out

@[expose] public section

noncomputable section

namespace Cert.Ref

open Finset Cert.Rows Cert.Spec Cert.ReferenceIdeal Cert.ReferenceIdeal.Gen Cert.ReferenceIdeal.Read
open Idealize.ShloMosaic Idealize.ShloMosaic.StableHlo

theorem one_bits : (FloatOps.ofBits .f32 0x3F800000#32 : Ideal .f32) = ((1 : ℝ) : EReal) := by
  show Ideal.ofBits .f32 0x3F800000#32 = _
  simp [Ideal.ofBits, Ideal.ieee]
  rw [← EReal.coe_one, ← EReal.coe_mul]; norm_num

/-- The power of two under a slope, as an integer word. -/
theorem shift_int (h : ℕ) (hh : h < 4) :
    (IntOp.shli .host (1#32) (IntOp.muli (2#32) (IntOp.addi (1#32) (BitVec.ofNat 32 h)))).toInt = (2 ^ (2 * (1 + h)) : ℤ) := by
  interval_cases h <;> decide

theorem slope_at (i : S4.Idx) : val_main_v44 (F := Ideal) i = ((Spec.slope (i 0).val : ℝ) : EReal) := by
  have h0 : (i 0).val < 4 := (i 0).isLt
  simp only [val_main_v44_apply, val_main_v43_apply, val_main_v42_apply, val_main_v41_apply, val_main_v40_apply, val_main_v39_apply, val_main_v38_apply,
    val_main_v37_apply, val_main_v36_apply, val_main_v35_apply, val_main_cst_4_apply, val_main_c_apply, val_main_c_2_apply, val_main_c_3_apply]
  rw [one_bits]
  show Ideal.div ((1 : ℝ) : EReal) (((IntOp.shli .host (1#32) (IntOp.muli (2#32) (IntOp.addi (1#32) (BitVec.ofNat 32 (i 0).val)))).toInt : ℝ) : EReal) = _
  rw [shift_int _ h0]
  rw [Ideal.div_coe (by positivity), ← EReal.coe_mul]
  unfold Spec.slope
  push_cast
  rw [one_mul]

theorem penalty_at (i : S4x2048x2048.Idx) :
    val_main_v67 (F := Ideal) i = ((-(Spec.slope (i 0).val) * (((i 1).val : ℝ) - ((i 2).val : ℝ)) : ℝ) : EReal) := by
  simp only [val_main_v67_apply, val_main_v66_apply, val_main_v65_apply, val_main_v64_apply, val_main_v63_apply, val_main_v62_apply, val_main_v61_apply,
    val_main_v60_apply, val_main_v59_apply, val_main_v58_apply, val_main_v57_apply, val_main_v56_apply, val_main_v13_apply, val_main_v14_apply, slope_at]
  show -(((Spec.slope (i 0).val : ℝ) : EReal)) * (((IntOp.subi (BitVec.ofNat 32 (i 1).val) (BitVec.ofNat 32 (i 2).val)).toInt : ℝ) : EReal) = _
  rw [sub_pos_int (i 1).isLt (i 2).isLt, ← EReal.coe_neg, ← EReal.coe_mul]
  push_cast
  rfl

theorem red_last : S16x2x4x2048x2048.Reduces [4] S16x2x4x2048 := by decide

section
variable {x0 : (⟨S16x2048x3072, .bf16⟩ : BufTy).Contents (Elt Ideal)} {x : ℕ → ℕ → ℕ → ℝ}
  (hx : ∀ i : S16x2048x3072.Idx, x0 i = ((x (i 0).val (i 1).val (i 2).val : ℝ) : EReal))
include hx

theorem q_df (i : S16x2048x4x2x64.Idx) :
    val_main_v8 (F := Ideal) x0 i = ((x (i 0).val (i 1).val (1536 + ((i 2).val * 128 + (i 3).val * 64 + (i 4).val)) : ℝ) : EReal) := by
  have h0 : (i 0).val < 16 := (i 0).isLt
  have h1 : (i 1).val < 2048 := (i 1).isLt
  have h2 : (i 2).val < 4 := (i 2).isLt
  have h3 : (i 3).val < 2 := (i 3).isLt
  have h4 : (i 4).val < 64 := (i 4).isLt
  rw [val_main_v8_apply, val_main_v7_apply, val_main_v0_apply]
  refine (hx _).trans (cong3 x ?_ ?_ ?_)
  · show (((((i 0).val * 2048 + (i 1).val) * 4 + (i 2).val) * 2 + (i 3).val) * 64 + (i 4).val) / 1048576 = _; omega
  · show (((((i 0).val * 2048 + (i 1).val) * 4 + (i 2).val) * 2 + (i 3).val) * 64 + (i 4).val) / 512 % 2048 = _; omega
  · show 1536 + (((((i 0).val * 2048 + (i 1).val) * 4 + (i 2).val) * 2 + (i 3).val) * 64 + (i 4).val) % 512 = _; omega

theorem k_df (i : S16x2048x4x2x64.Idx) :
    val_main_v10 (F := Ideal) x0 i = ((x (i 0).val (i 1).val (2048 + ((i 2).val * 128 + (i 3).val * 64 + (i 4).val)) : ℝ) : EReal) := by
  have h0 : (i 0).val < 16 := (i 0).isLt
  have h1 : (i 1).val < 2048 := (i 1).isLt
  have h2 : (i 2).val < 4 := (i 2).isLt
  have h3 : (i 3).val < 2 := (i 3).isLt
  have h4 : (i 4).val < 64 := (i 4).isLt
  rw [val_main_v10_apply, val_main_v9_apply, val_main_v0_apply]
  refine (hx _).trans (cong3 x ?_ ?_ ?_)
  · show (((((i 0).val * 2048 + (i 1).val) * 4 + (i 2).val) * 2 + (i 3).val) * 64 + (i 4).val) / 1048576 = _; omega
  · show (((((i 0).val * 2048 + (i 1).val) * 4 + (i 2).val) * 2 + (i 3).val) * 64 + (i 4).val) / 512 % 2048 = _; omega
  · show 2048 + (((((i 0).val * 2048 + (i 1).val) * 4 + (i 2).val) * 2 + (i 3).val) * 64 + (i 4).val) % 512 = _; omega

theorem v_df (i : S16x2048x4x128.Idx) :
    val_main_v12 (F := Ideal) x0 i = ((x (i 0).val (i 1).val (2560 + ((i 2).val * 128 + (i 3).val)) : ℝ) : EReal) := by
  have h0 : (i 0).val < 16 := (i 0).isLt
  have h1 : (i 1).val < 2048 := (i 1).isLt
  have h2 : (i 2).val < 4 := (i 2).isLt
  have h3 : (i 3).val < 128 := (i 3).isLt
  rw [val_main_v12_apply, val_main_v11_apply, val_main_v0_apply]
  refine (hx _).trans (cong3 x ?_ ?_ ?_)
  · show ((((i 0).val * 2048 + (i 1).val) * 4 + (i 2).val) * 128 + (i 3).val) / 1048576 = _; omega
  · show ((((i 0).val * 2048 + (i 1).val) * 4 + (i 2).val) * 128 + (i 3).val) / 512 % 2048 = _; omega
  · show 2560 + ((((i 0).val * 2048 + (i 1).val) * 4 + (i 2).val) * 128 + (i 3).val) % 512 = _; omega

theorem score_at (i : S16x2x4x2048x2048.Idx) :
    val_main_v75 (F := Ideal) x0 i = ((ydf (x (i 0).val) (i 2).val (i 1).val (i 3).val (i 4).val : ℝ) : EReal) := by
  rw [val_main_v75_apply, val_main_v55_apply, val_main_v53_apply, val_main_v54_apply, val_main_v74_apply, val_main_v73_apply, penalty_at]
  have e : ∑ k : Fin 64, (val_main_v8 (F := Ideal) x0) (lidx_main_v53 i k) * (val_main_v10 (F := Ideal) x0) (ridx_main_v53 i k)
      = ((∑ d : Fin 64, x (i 0).val (i 3).val (1536 + ((i 2).val * 128 + (i 1).val * 64 + d.val))
          * x (i 0).val (i 4).val (2048 + ((i 2).val * 128 + (i 1).val * 64 + d.val)) : ℝ) : EReal) := by
    refine sum_of_coe _ fun d => ?_
    rw [q_df hx, k_df hx, ← EReal.coe_mul]
  rw [e]
  refine (congrArg (fun t : Ideal .f32 => FloatOps.addf t _) (div_eight _)).trans ?_
  exact (EReal.coe_add _ _).symm

theorem masked_at (i : S16x2x4x2048x2048.Idx) :
    val_main_v76 (F := Ideal) x0 i
      = if (i 4).val ≤ (i 3).val then ((ydf (x (i 0).val) (i 2).val (i 1).val (i 3).val (i 4).val : ℝ) : EReal) else ⊥ := by
  rw [val_main_v76_apply, val_main_call5_v1_apply, causal_at, score_at hx, select_dec]
  show (if (i 4).val ≤ (i 3).val then _ else _) = _
  split
  · rfl
  · exact bot_bits

/-- A row's maximum is a real number. -/
theorem max_at (i : S16x2x4x2048.Idx) : ∃ μ : ℝ, val_main_v79 (F := Ideal) x0 i = (μ : EReal) := by
  rw [val_main_v79_apply, val_main_v78_apply]
  unfold val_main_v77
  rw [Host.reduce_eq_fold_single FloatOps.maximumf _ _ reducesTo_S16x2x4x2048x2048_S16x2x4x2048_d4 red_last h_S_]
  rw [show val_main_cst_11 (F := Ideal) (idx_main_v78 i) = ⊥ from bot_bits, show val_main_cst_10 (F := Ideal) (Shape.Idx.first h_S_) = ⊥ from bot_bits]
  refine Cert.Tile.fold_real (n := 2048) _ ⊥ bot_ne_top (fun c => ?_) ⟨0, by norm_num⟩ ?_
  · show val_main_v76 (F := Ideal) x0 (red_last.lift i c) ≠ ⊤
    rw [masked_at hx]
    split
    exacts [EReal.coe_ne_top _, bot_ne_top]
  · show val_main_v76 (F := Ideal) x0 (red_last.lift i (⟨0, by norm_num⟩ : Fin 2048)) ≠ ⊥
    rw [masked_at hx]
    split
    · exact EReal.coe_ne_bot _
    · next hn => exact absurd (Nat.zero_le _) hn

/-- The row of a score. -/
abbrev rowOf (i : S16x2x4x2048x2048.Idx) : S16x2x4x2048.Idx := idx_main_v80 (idx_main_v81 i)

theorem expo_at (i : S16x2x4x2048x2048.Idx) {μ : ℝ} (h : val_main_v79 (F := Ideal) x0 (rowOf i) = (μ : EReal)) :
    val_main_v83 (F := Ideal) x0 i = ((expo (ydf (x (i 0).val) (i 2).val (i 1).val (i 3).val) (-μ) (i 3).val (i 4).val : ℝ) : EReal) := by
  rw [val_main_v83_apply, val_main_v82_apply, val_main_v81_apply, val_main_v80_apply, h, masked_at hx]
  unfold expo
  split
  · show Ideal.exp (((_ : ℝ) : EReal) - ((_ : ℝ) : EReal)) = _
    rw [← EReal.coe_sub, Ideal.exp_coe, sub_eq_add_neg]
  · show Ideal.exp (⊥ - ((μ : ℝ) : EReal)) = _
    rw [EReal.bot_sub, Ideal.exp_bot]
    rfl

theorem prob_at (i : S16x2x4x2048x2048.Idx) :
    val_main_v87 (F := Ideal) x0 i = ((prob (ydf (x (i 0).val) (i 2).val (i 1).val (i 3).val) (i 3).val (i 4).val : ℝ) : EReal) := by
  obtain ⟨μ, hμ⟩ := max_at hx (rowOf i)
  rw [val_main_v87_apply, val_main_v86_apply, val_main_v85_apply, val_main_v84_apply, expo_at hx i hμ]
  have e : ∀ k : Fin 2048, val_main_v83 (F := Ideal) x0 (idx_main_v84 (idx_main_v85 (idx_main_v86 i)) k)
      = ((expo (ydf (x (i 0).val) (i 2).val (i 1).val (i 3).val) (-μ) (i 3).val k.val : ℝ) : EReal) := fun k => expo_at hx _ hμ
  rw [sum_of_coe _ e, show val_main_cst_12 (F := Ideal) (Shape.Idx.first h_S_) = (0 : EReal) from zero_bits, zero_add]
  rw [Fin.sum_univ_eq_sum_range (fun k => expo (ydf (x (i 0).val) (i 2).val (i 1).val (i 3).val) (-μ) (i 3).val k) 2048, Finset.range_eq_Ico]
  have hp := expo_sum_pos (ydf (x (i 0).val) (i 2).val (i 1).val (i 3).val) (-μ) (q := (i 3).val) (n := 2048) (by norm_num)
  show Ideal.div ((_ : ℝ) : EReal) ((_ : ℝ) : EReal) = _
  rw [Ideal.div_coe hp.ne', ← EReal.coe_mul]
  refine congrArg _ ?_
  unfold prob
  rw [Finset.sum_congr rfl fun k _ => expo_shift _ (-μ) _ k, ← Finset.mul_sum, expo_shift, mul_one_div, mul_div_mul_left _ _ (Real.exp_pos _).ne']
end

section
variable {x0 : (⟨S16x2048x3072, .bf16⟩ : BufTy).Contents (Elt Ideal)} {x : ℕ → ℕ → ℕ → ℝ}
  (hx : ∀ i : S16x2048x3072.Idx, x0 i = ((x (i 0).val (i 1).val (i 2).val : ℝ) : EReal))
  {x1 x2 x3 x4 : (⟨S64, .f32⟩ : BufTy).Contents (Elt Ideal)} {x5 : (⟨S128, .f32⟩ : BufTy).Contents (Elt Ideal)} {w : ℝ} {gn : ℕ → EReal}

theorem sum_vec (f : S64.Idx → EReal) : ∑ j, f j = ∑ d : Fin 64, f (ix1 d) :=
  Fintype.sum_equiv ⟨fun j => j 0, fun d => ix1 d, fun j => (by funext a; fin_cases a; rfl), fun d => rfl⟩ _ _ fun j =>
    congrArg f (by funext a; fin_cases a; rfl)

theorem lam_at (i : S_.Idx) : val_main_v52 (F := Ideal) x1 x2 x3 x4 i
    = lam (fun d => x1 (ix1 d)) (fun d => x2 (ix1 d)) (fun d => x3 (ix1 d)) (fun d => x4 (ix1 d)) := by
  simp only [val_main_v52_apply, val_main_v51_apply, val_main_v50_apply, val_main_v49_apply, val_main_v47_apply, val_main_v46_apply, val_main_v48_apply, val_main_v45_apply]
  rw [sum_vec, sum_vec, show val_main_cst_5 (F := Ideal) (Shape.Idx.first h_S_) = (0 : EReal) from zero_bits,
    show val_main_cst_6 (F := Ideal) (Shape.Idx.first h_S_) = (0 : EReal) from zero_bits, zero_add, zero_add]
  rfl

include hx in
theorem diff_at (hw : lam (fun d => x1 (ix1 d)) (fun d => x2 (ix1 d)) (fun d => x3 (ix1 d)) (fun d => x4 (ix1 d)) = (w : EReal)) (i : S16x2048x4x128.Idx) :
    val_main_v96 (F := Ideal) x0 x1 x2 x3 x4 i = ((diff (x (i 0).val) w (i 2).val (i 3).val (i 1).val : ℝ) : EReal) := by
  have h0 : (i 0).val < 16 := (i 0).isLt
  have h1 : (i 1).val < 2048 := (i 1).isLt
  have h2 : (i 2).val < 4 := (i 2).isLt
  have h3 : (i 3).val < 128 := (i 3).isLt
  rw [val_main_v96_apply, val_main_v95_apply]
  have mix : ∀ j : S16x4x2048x2048.Idx, val_main_v94 (F := Ideal) x0 x1 x2 x3 x4 j
      = ((prob (ydf (x (j 0).val) (j 1).val 0 (j 2).val) (j 2).val (j 3).val - w * prob (ydf (x (j 0).val) (j 1).val 1 (j 2).val) (j 2).val (j 3).val : ℝ) : EReal) := fun j => by
    have j0 : (j 0).val < 16 := (j 0).isLt
    have j1 : (j 1).val < 4 := (j 1).isLt
    have j2 : (j 2).val < 2048 := (j 2).isLt
    have j3 : (j 3).val < 2048 := (j 3).isLt
    rw [val_main_v94_apply, val_main_v93_apply, val_main_v92_apply, lam_at, hw, val_main_v89_apply, val_main_v88_apply, val_main_v91_apply, val_main_v90_apply,
      prob_at hx, prob_at hx]
    have a0 : ((((j 0).val * 4 + (j 1).val) * 2048 + (j 2).val) * 2048 + (j 3).val) / 16777216 = (j 0).val := by omega
    have a1 : ((((j 0).val * 4 + (j 1).val) * 2048 + (j 2).val) * 2048 + (j 3).val) / 4194304 % 4 = (j 1).val := by omega
    have a2 : ((((j 0).val * 4 + (j 1).val) * 2048 + (j 2).val) * 2048 + (j 3).val) / 2048 % 2048 = (j 2).val := by omega
    have a3 : ((((j 0).val * 4 + (j 1).val) * 2048 + (j 2).val) * 2048 + (j 3).val) % 2048 = (j 3).val := by omega
    rw [EReal.coe_sub, EReal.coe_mul]
    show ((prob (ydf (x (((((j 0).val * 4 + (j 1).val) * 2048 + (j 2).val) * 2048 + (j 3).val) / 16777216))
          (((((j 0).val * 4 + (j 1).val) * 2048 + (j 2).val) * 2048 + (j 3).val) / 4194304 % 4) 0
          (((((j 0).val * 4 + (j 1).val) * 2048 + (j 2).val) * 2048 + (j 3).val) / 2048 % 2048))
          (((((j 0).val * 4 + (j 1).val) * 2048 + (j 2).val) * 2048 + (j 3).val) / 2048 % 2048)
          (((((j 0).val * 4 + (j 1).val) * 2048 + (j 2).val) * 2048 + (j 3).val) % 2048) : ℝ) : EReal)
      - (w : EReal) * ((prob (ydf (x (((((j 0).val * 4 + (j 1).val) * 2048 + (j 2).val) * 2048 + (j 3).val) / 16777216))
          (((((j 0).val * 4 + (j 1).val) * 2048 + (j 2).val) * 2048 + (j 3).val) / 4194304 % 4) 1
          (((((j 0).val * 4 + (j 1).val) * 2048 + (j 2).val) * 2048 + (j 3).val) / 2048 % 2048))
          (((((j 0).val * 4 + (j 1).val) * 2048 + (j 2).val) * 2048 + (j 3).val) / 2048 % 2048)
          (((((j 0).val * 4 + (j 1).val) * 2048 + (j 2).val) * 2048 + (j 3).val) % 2048) : ℝ) : EReal) = _
    rw [a0, a1, a2, a3]
  refine (sum_of_coe (fun k : Fin 2048 => x (i 0).val k.val (2560 + ((i 2).val * 128 + (i 3).val))
    * (prob (ydf (x (i 0).val) (i 2).val 0 (i 1).val) (i 1).val k.val - w * prob (ydf (x (i 0).val) (i 2).val 1 (i 1).val) (i 1).val k.val)) fun k => ?_).trans ?_
  · rw [v_df hx, mix, ← EReal.coe_mul]
  · unfold diff attn
    rw [Fin.sum_univ_eq_sum_range (fun k => x (i 0).val k (2560 + ((i 2).val * 128 + (i 3).val))
      * (prob (ydf (x (i 0).val) (i 2).val 0 (i 1).val) (i 1).val k - w * prob (ydf (x (i 0).val) (i 2).val 1 (i 1).val) (i 1).val k)) 2048,
      Finset.range_eq_Ico, Finset.mul_sum, ← Finset.sum_sub_distrib]
    exact congrArg _ (Finset.sum_congr rfl fun k _ => by ring)

include hx in
theorem normed_at (hw : lam (fun d => x1 (ix1 d)) (fun d => x2 (ix1 d)) (fun d => x3 (ix1 d)) (fun d => x4 (ix1 d)) = (w : EReal))
    (hgn : ∀ e : Fin 128, x5 (ix1 e) = gn e.val) (i : S16x2048x4x128.Idx) :
    val_main_v111 (F := Ideal) x0 x1 x2 x3 x4 x5 i = rms (fun e => diff (x (i 0).val) w (i 2).val e (i 1).val) (gn (i 3).val) (i 3).val := by
  simp only [val_main_v111_apply, val_main_v110_apply, val_main_v109_apply, val_main_v108_apply, val_main_v107_apply, val_main_v106_apply, val_main_v105_apply,
    val_main_v104_apply, val_main_v103_apply, val_main_v102_apply, val_main_v101_apply, val_main_v100_apply, val_main_v99_apply, val_main_v98_apply,
    val_main_v97_apply, diff_at hx hw]
  rw [show val_main_cst_13 (F := Ideal) (Shape.Idx.first h_S_) = (0 : EReal) from zero_bits, zero_add]
  have hg : x5 (idx_main_v107 (idx_main_v108 i)) = gn (i 3).val := by
    refine (congrArg x5 ?_).trans (hgn (i 3))
    funext a; fin_cases a; rfl
  rw [hg]
  rfl

/-- An index of one half of the result. -/
abbrev at3 (a b c : ℕ) (ha : a < 16) (hb : b < 2048) (hc : c < 512) : S16x2048x512.Idx := fun k => match k with
  | ⟨0, _⟩ => ⟨a, ha⟩
  | ⟨1, _⟩ => ⟨b, hb⟩
  | ⟨2, _⟩ => ⟨c, hc⟩

include hx in
/-- What the reference computes: every entry of its result. -/
theorem result (hw : lam (fun d => x1 (ix1 d)) (fun d => x2 (ix1 d)) (fun d => x3 (ix1 d)) (fun d => x4 (ix1 d)) = (w : EReal))
    (hgn : ∀ e : Fin 128, x5 (ix1 e) = gn e.val) :
    val_main_v114 (F := Ideal) x0 x1 x2 x3 x4 x5 = fun i : S16x2048x1024.Idx => row (x (i 0).val) w gn (i 1).val (i 2).val := by
  funext i
  have h0 : (i 0).val < 16 := (i 0).isLt
  have h1 : (i 1).val < 2048 := (i 1).isLt
  have h2 : (i 2).val < 1024 := (i 2).isLt
  rw [val_main_v114_apply]
  show val_main_v113 (F := Ideal) x0 x1 x2 x3 x4 x5 i = _
  unfold val_main_v113 row
  split
  · next h =>
    refine (concatenate_pair_apply_left (t := S16x2048x1024) (s₁ := S16x2048x512) (s₂ := S16x2048x512) 2 _ _ _ i rfl (at3 (i 0).val (i 1).val (i 2).val h0 h1 h) (fun b => by fin_cases b <;> rfl)).trans ?_
    exact stick_at hx _
  · next h =>
    refine (concatenate_pair_apply_right (t := S16x2048x1024) (s₁ := S16x2048x512) (s₂ := S16x2048x512) 2 _ _ _ i rfl rfl (at3 (i 0).val (i 1).val ((i 2).val - 512) h0 h1 (by omega))
      (fun b hb => by fin_cases b <;> first | rfl | exact absurd rfl hb) (by show (i 2).val - 512 + 512 = (i 2).val; omega)).trans ?_
    rw [val_main_v112_apply, normed_at hx hw hgn]
    show rms (fun e => diff (x ((((i 0).val * 2048 + (i 1).val) * 512 + ((i 2).val - 512)) / 1048576)) w
      ((((i 0).val * 2048 + (i 1).val) * 512 + ((i 2).val - 512)) / 128 % 4) e ((((i 0).val * 2048 + (i 1).val) * 512 + ((i 2).val - 512)) / 512 % 2048))
      (gn ((((i 0).val * 2048 + (i 1).val) * 512 + ((i 2).val - 512)) % 128)) ((((i 0).val * 2048 + (i 1).val) * 512 + ((i 2).val - 512)) % 128) = _
    rw [show (((i 0).val * 2048 + (i 1).val) * 512 + ((i 2).val - 512)) / 1048576 = (i 0).val by omega,
      show (((i 0).val * 2048 + (i 1).val) * 512 + ((i 2).val - 512)) / 128 % 4 = ((i 2).val - 512) / 128 by omega,
      show (((i 0).val * 2048 + (i 1).val) * 512 + ((i 2).val - 512)) / 512 % 2048 = (i 1).val by omega,
      show (((i 0).val * 2048 + (i 1).val) * 512 + ((i 2).val - 512)) % 128 = ((i 2).val - 512) % 128 by omega]
end

end Cert.Ref
-- ==== Proof.Pre.lean ====
/-
  What the precondition gives: every argument the weights and the attention read is a real number.
-/
module

public import proofs.«01_k».proof.Pre_finite
public import proofs.«01_k».proof.Proof.Done
public import Idealize.ShloMosaic.Lib.ReduceAll

@[expose] public section

noncomputable section

namespace Cert.Pre_finite

open Idealize.ShloMosaic Cert.Spec

instance facts : Facts where
  bitsLt_bf16_f32 := by decide
  bcast_S_S16x2048x3072 := by decide
  reducesTo_S16x2048x3072_S_d0_1_2 := by decide
  h_S_ := by decide
  bcast_S_S64 := by decide
  reducesTo_S64_S_d0 := by decide

theorem and_bits {a b : BitVec 1} (h : a &&& b = 1#1) : a = 1#1 ∧ b = 1#1 := by
  revert a b; decide

theorem real_of_lt {a : EReal} (h : FloatOps.cmpf (F := Ideal) (φ := .f32) CmpFPredicate.olt (FloatOps.hostAbsf (F := Ideal) (φ := .f32) a) (FloatOps.ofBits .f32 0x7F800000#32) = 1#1) :
    ∃ r : ℝ, a = (r : EReal) := by
  have e : (FloatOps.ofBits .f32 0x7F800000#32 : Ideal .f32) = (⊤ : EReal) := by
    show Ideal.ofBits .f32 0x7F800000#32 = _
    simp [Ideal.ofBits, Ideal.ieee]
  rw [e] at h
  replace h : BitVec.ofBool (decide (max a (-a) < (⊤ : EReal))) = 1#1 := h
  have hl : max a (-a) < (⊤ : EReal) := by
    by_contra hn
    rw [decide_eq_false hn] at h
    exact absurd h (by decide)
  have h1 : a ≠ ⊤ := ((le_max_left _ _).trans_lt hl).ne
  have h2 : a ≠ ⊥ := fun hb => by
    subst hb
    exact ((le_max_right _ _).trans_lt hl).ne EReal.neg_bot
  exact ⟨_, (EReal.coe_toReal h1 h2).symm⟩

theorem real_args {x0 : FVec Ideal S16x2048x3072 .bf16} {x1 x2 x3 x4 : FVec Ideal S64 .f32} {x5 : FVec Ideal S128 .f32}
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h (fun a => a.elim0)
  dsimp only [fn] at e
  obtain ⟨e, e4⟩ := and_bits e
  obtain ⟨e, e3⟩ := and_bits e
  obtain ⟨e, e2⟩ := and_bits e
  obtain ⟨e0, e1⟩ := and_bits e
  haveI : Subsingleton S_.Idx := ⟨fun a b => funext fun k => k.elim0⟩
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i),
    fun i => real_of_lt (Host.reduce_andi_all _ _ _ _ _ e4 i)⟩

/-- The mixing weight of real vectors is a real number. -/
theorem lam_real {a b c d : Fin 64 → EReal} (ha : ∀ i, ∃ r : ℝ, a i = (r : EReal)) (hb : ∀ i, ∃ r : ℝ, b i = (r : EReal))
    (hc : ∀ i, ∃ r : ℝ, c i = (r : EReal)) (hd : ∀ i, ∃ r : ℝ, d i = (r : EReal)) : ∃ w : ℝ, lam a b c d = (w : EReal) := by
  choose a' ha' using ha
  choose b' hb' using hb
  choose c' hc' using hc
  choose d' hd' using hd
  have e : ∃ r : ℝ, Ideal.ofBits .f32 0x3E4CCCCD#32 = (r : EReal) := by
    simp only [Ideal.ofBits, Ideal.ieee]
    norm_num
    exact ⟨_, (EReal.coe_mul _ _).symm⟩
  obtain ⟨r, hr⟩ := e
  unfold lam
  rw [Cert.Rows.sum_of_coe (fun i => a' i * b' i) (fun i => by rw [ha', hb', EReal.coe_mul]),
    Cert.Rows.sum_of_coe (fun i => c' i * d' i) (fun i => by rw [hc', hd', EReal.coe_mul]), hr, Ideal.exp_coe, Ideal.exp_coe, ← EReal.coe_sub, ← EReal.coe_add]
  exact ⟨_, rfl⟩

end Cert.Pre_finite
-- ==== Proof.lean ====
/- The two programs take six arrays: the projected rows, the four vectors that give the differential heads their
   weight, and the scale of the group norm. `Ker` reads the kernel's result array as a table of numbers, `RefMaps` the
   reference's as the same table; here the two are joined. `OutKer` and `OutRef` do the same for the output projection
   with the first feed-forward part, `InKer` and `InRef` for the input projection. With the frames and the named
   constants they are the whole of the certificate's claim. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Ker
public import proofs.«01_k».proof.Proof.OutKer
public import proofs.«01_k».proof.Proof.OutRef
public import proofs.«01_k».proof.Proof.InKer
public import proofs.«01_k».proof.Proof.InRef
public import proofs.«01_k».proof.Proof.RefMaps
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The two programs' results, entry by entry the same numbers. -/
theorem same (m : (ℓ : Loc Cert.KernelIdeal.nD Cert.KernelIdeal.τ Cert.KernelIdeal.sig) → Buf (Elt Ideal) ℓ) (hpre : Cert.Pre_KernelIdeal_finite m)
    (c : Dev Cert.KernelIdeal.nD) :
    (Cert.KernelIdeal.Gen.dats m 0 c).arrAt 11 Cert.KernelIdeal.cfg0.N
      = Cert.ReferenceIdeal.Read.val_main_v114 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  obtain ⟨h0, h1, h2, h3, h4⟩ := Cert.Pre_finite.real_args (hpre c)
  choose y hy using h0
  let x : ℕ → ℕ → ℕ → ℝ := fun a b d => if h : a < 16 ∧ b < 2048 ∧ d < 3072 then y (ix3 ⟨a, h.1⟩ ⟨b, h.2.1⟩ ⟨d, h.2.2⟩) else 0
  have hx : ∀ i : Cert.KernelIdeal.S16x2048x3072.Idx, (m ((c.tc : Thread Cert.KernelIdeal.nD Cert.KernelIdeal.τ).loc Cert.KernelIdeal.main_arg0)) i
      = ((x (i 0).val (i 1).val (i 2).val : ℝ) : EReal) := fun i => by
    refine (hy i).trans (congrArg _ ?_)
    have hi : (i 0).val < 16 ∧ (i 1).val < 2048 ∧ (i 2).val < 3072 := ⟨(i 0).isLt, (i 1).isLt, (i 2).isLt⟩
    refine Eq.trans ?_ (dif_pos hi).symm
    refine congrArg y (funext fun a => ?_)
    match a with
    | ⟨0, _⟩ => rfl
    | ⟨1, _⟩ => rfl
    | ⟨2, _⟩ => rfl
  obtain ⟨w, hw⟩ := Cert.Pre_finite.lam_real (a := fun d => m ((c.tc : Thread Cert.KernelIdeal.nD Cert.KernelIdeal.τ).loc Cert.KernelIdeal.main_arg1) (ix1 d))
    (b := fun d => m ((c.tc : Thread Cert.KernelIdeal.nD Cert.KernelIdeal.τ).loc Cert.KernelIdeal.main_arg2) (ix1 d))
    (c := fun d => m ((c.tc : Thread Cert.KernelIdeal.nD Cert.KernelIdeal.τ).loc Cert.KernelIdeal.main_arg3) (ix1 d))
    (d := fun d => m ((c.tc : Thread Cert.KernelIdeal.nD Cert.KernelIdeal.τ).loc Cert.KernelIdeal.main_arg4) (ix1 d))
    (fun d => h1 _) (fun d => h2 _) (fun d => h3 _) (fun d => h4 _)
  let gn : ℕ → EReal := fun e => if h : e < 128 then m ((c.tc : Thread Cert.KernelIdeal.nD Cert.KernelIdeal.τ).loc Cert.KernelIdeal.main_arg5) (ix1 ⟨e, h⟩) else 0
  have hgn : ∀ e : Fin 128, m ((c.tc : Thread Cert.KernelIdeal.nD Cert.KernelIdeal.τ).loc Cert.KernelIdeal.main_arg5) (ix1 e) = gn e.val := fun e => by
    have h : gn e.val = m ((c.tc : Thread Cert.KernelIdeal.nD Cert.KernelIdeal.τ).loc Cert.KernelIdeal.main_arg5) (ix1 ⟨e.val, e.isLt⟩) :=
      dif_pos e.isLt
    exact h.symm
  exact (Cert.Ker.result m c hx hw hgn).trans (Cert.Ref.result (x := x) (w := w) (gn := gn) hx hw hgn).symm

/-- Each constant of the kernel that was given a name stands for its exact value, and prints at the bits it had. -/
theorem names : Cert.preserves_Kernel_KernelIdeal :=
  ⟨IdealRules.named_const.statement Cert.KernelIdeal.κ "mask" .f32 0xF149F2CA#32 ⊥ rfl,
    IdealRules.named_const.statement Cert.KernelIdeal.κ "neg_log2e" .f32 0xBFB8AA3B#32 _ rfl,
    IdealRules.named_const.statement Cert.KernelIdeal.κ "bias0" .f32 0x3EB8AA3B#32 _ rfl,
    IdealRules.named_const.statement Cert.KernelIdeal.κ "log2e" .f32 0x3FB8AA3B#32 _ rfl,
    IdealRules.named_const.statement Cert.KernelIdeal.κ "bias1" .f32 0x3DB8AA3B#32 _ rfl,
    IdealRules.named_const.statement Cert.KernelIdeal.κ "bias2" .f32 0x3CB8AA3B#32 _ rfl,
    IdealRules.named_const.statement Cert.KernelIdeal.κ "bias3" .f32 0x3BB8AA3B#32 _ rfl⟩

/-- The reference leaves its arguments alone, and has no counter to leave standing. -/
theorem ref_frame : Cert.quiescent_ReferenceIdeal := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run m g)

/-- Run on the same arguments, all real, the kernel and the reference end with one array. -/
theorem equal : Cert.algebraic_KernelIdeal_ReferenceIdeal_pre_finite := fun m g m' g' hpre hagree =>
  ⟨fun c => (Cert.KernelIdeal.Gen.dats m 0 c).arrAt 11 Cert.KernelIdeal.cfg0.N, Cert.KernelIdeal.Value.run_blocks m g,
    (θ_run (Cert.ReferenceIdeal.defs (F := Ideal)) _ _).mono (fun r h c => by
      obtain ⟨a0, a1, a2, a3, a4, a5⟩ := hagree c
      refine ⟨(h c).1.trans ?_, (h c).2⟩
      rw [Cert.ReferenceIdeal.Read.val_main_v114_eq, a0, a1, a2, a3, a4, a5]
      exact (same m hpre c).symm) (Cert.ReferenceIdeal.Value.run (F := Ideal) m' g')⟩

/-- The reference of the output projection and feed-forward part leaves its arguments alone. -/
theorem out_ref_frame : Cert.quiescent_OutProjRefIdeal := fun m g _ =>
  (θ_run (Cert.OutProjRefIdeal.defs (F := Ideal)) _ _).mono
    (fun r h => ⟨fun c => (h c).2, Idealize.ShloMosaic.sem_eq_zero_of_no_sems (by decide) r.2⟩)
    (Cert.OutProjRefIdeal.Value.run m g)

/-- The output projection and feed-forward part: the two programs' results, entry by entry. -/
theorem out_same (m : (ℓ : Loc Cert.OutProjIdeal.nD Cert.OutProjIdeal.τ Cert.OutProjIdeal.sig) → Buf (Elt Ideal) ℓ) (c : Dev Cert.OutProjIdeal.nD) :
    (Cert.OutProjIdeal.Gen.dats m 0 c).arrAt 10 Cert.OutProjIdeal.cfg0.N
      = Cert.OutProjRefIdeal.Read.val_main_v60 (F := Ideal)
          (m ((c.tc : Thread Cert.OutProjIdeal.nD Cert.OutProjIdeal.τ).loc Cert.OutProjIdeal.main_arg0))
          (m ((c.tc : Thread Cert.OutProjIdeal.nD Cert.OutProjIdeal.τ).loc Cert.OutProjIdeal.main_arg1))
          (m ((c.tc : Thread Cert.OutProjIdeal.nD Cert.OutProjIdeal.τ).loc Cert.OutProjIdeal.main_arg2))
          (m ((c.tc : Thread Cert.OutProjIdeal.nD Cert.OutProjIdeal.τ).loc Cert.OutProjIdeal.main_arg3))
          (m ((c.tc : Thread Cert.OutProjIdeal.nD Cert.OutProjIdeal.τ).loc Cert.OutProjIdeal.main_arg4))
          (m ((c.tc : Thread Cert.OutProjIdeal.nD Cert.OutProjIdeal.τ).loc Cert.OutProjIdeal.main_arg5))
          (m ((c.tc : Thread Cert.OutProjIdeal.nD Cert.OutProjIdeal.τ).loc Cert.OutProjIdeal.main_arg6))
          (m ((c.tc : Thread Cert.OutProjIdeal.nD Cert.OutProjIdeal.τ).loc Cert.OutProjIdeal.main_arg7))
          (m ((c.tc : Thread Cert.OutProjIdeal.nD Cert.OutProjIdeal.τ).loc Cert.OutProjIdeal.main_arg8))
          (m ((c.tc : Thread Cert.OutProjIdeal.nD Cert.OutProjIdeal.τ).loc Cert.OutProjIdeal.main_arg9)) := by
  rw [Cert.OutKer.final]
  funext i
  have hi : i = ix2 (i 0) (i 1) := funext fun a => by
    match a with
    | ⟨0, _⟩ => rfl
    | ⟨1, _⟩ => rfl
  rw [hi]
  exact (Cert.OutRef.result _ _ _ _ _ _ _ _ _ _ (i 0) (i 1)).symm

/-- Run on the same arguments the two programs of the output projection and feed-forward part end with one array. -/
theorem out_equal : Cert.algebraic_OutProjIdeal_OutProjRefIdeal := fun m g m' g' _ hagree =>
  ⟨fun c => (Cert.OutProjIdeal.Gen.dats m 0 c).arrAt 10 Cert.OutProjIdeal.cfg0.N, Cert.OutProjIdeal.Value.run_blocks m g,
    (θ_run (Cert.OutProjRefIdeal.defs (F := Ideal)) _ _).mono (fun r h c => by
      obtain ⟨a0, a1, a2, a3, a4, a5, a6, a7, a8, a9⟩ := hagree c
      refine ⟨(h c).1.trans ?_, (h c).2⟩
      rw [Cert.OutProjRefIdeal.Read.val_main_v60_eq, a0, a1, a2, a3, a4, a5, a6, a7, a8, a9]
      exact (out_same m c).symm) (Cert.OutProjRefIdeal.Value.run (F := Ideal) m' g')⟩

/-- The reference of the input projection leaves its arguments alone. -/
theorem in_ref_frame : Cert.quiescent_InProjRefIdeal := fun m g _ =>
  (θ_run (Cert.InProjRefIdeal.defs (F := Ideal)) _ _).mono
    (fun r h => ⟨fun c => (h c).2, Idealize.ShloMosaic.sem_eq_zero_of_no_sems (by decide) r.2⟩)
    (Cert.InProjRefIdeal.Value.run m g)

/-- The input projection: the two programs' results, entry by entry. -/
theorem in_same (m : (ℓ : Loc Cert.InProjIdeal.nD Cert.InProjIdeal.τ Cert.InProjIdeal.sig) → Buf (Elt Ideal) ℓ) (c : Dev Cert.InProjIdeal.nD) :
    (Cert.InProjIdeal.Gen.dats m 0 c).arrAt 2 Cert.InProjIdeal.cfg0.N
      = Cert.InProjRefIdeal.Read.val_main_v1 (F := Ideal)
          (m ((c.tc : Thread Cert.InProjIdeal.nD Cert.InProjIdeal.τ).loc Cert.InProjIdeal.main_arg0))
          (m ((c.tc : Thread Cert.InProjIdeal.nD Cert.InProjIdeal.τ).loc Cert.InProjIdeal.main_arg1)) := by
  rw [Cert.InKer.final]
  funext i
  have hi : i = ix2 (i 0) (i 1) := funext fun a => by
    match a with
    | ⟨0, _⟩ => rfl
    | ⟨1, _⟩ => rfl
  rw [hi]
  exact (Cert.InRef.result _ _ (i 0) (i 1)).symm

/-- Run on the same arguments the two programs of the input projection end with one array. -/
theorem in_equal : Cert.algebraic_InProjIdeal_InProjRefIdeal := fun m g m' g' _ hagree =>
  ⟨fun c => (Cert.InProjIdeal.Gen.dats m 0 c).arrAt 2 Cert.InProjIdeal.cfg0.N, Cert.InProjIdeal.Value.run_blocks m g,
    (θ_run (Cert.InProjRefIdeal.defs (F := Ideal)) _ _).mono (fun r h c => by
      obtain ⟨a0, a1⟩ := hagree c
      refine ⟨(h c).1.trans ?_, (h c).2⟩
      rw [Cert.InProjRefIdeal.Read.val_main_v1_eq, a0, a1]
      exact (in_same m c).symm) (Cert.InProjRefIdeal.Value.run (F := Ideal) m' g')⟩

/-- The whole certificate: frames, names and the equalities of results. -/
theorem claim : Cert.Claim := ⟨Cert.Kernel.Gen.facts, Cert.KernelIdeal.Gen.facts, Cert.ReferenceIdeal.Gen.facts,
  Cert.OutProj.Gen.facts, Cert.OutProjIdeal.Gen.facts, Cert.OutProjRefIdeal.Gen.facts,
  Cert.InProj.Gen.facts, Cert.InProjIdeal.Gen.facts, Cert.InProjRefIdeal.Gen.facts, Cert.Pre_finite.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial,
  fun m ρ _ => Cert.OutProj.Gen.frame m ρ, fun m ρ _ => Cert.OutProjIdeal.Gen.frame m ρ, out_ref_frame,
  fun m ρ _ => Cert.InProj.Gen.frame m ρ, fun m ρ _ => Cert.InProjIdeal.Gen.frame m ρ, in_ref_frame,
  names, equal, trivial, out_equal, trivial, in_equal⟩

end Cert.Proof

end
